-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v107) = v0 c
          ∧ r.2.mem ((c.tc : Thread Cert.Reference4Ideal.nD Cert.Reference4Ideal.τ).loc Cert.Reference4Ideal.main_v108) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v35_0)) (v1 : (c : Dev Cert.Kernel6Ideal.nD) → Buf (Elt Ideal) ((c.tc : Thread Cert.Kernel6Ideal.nD Cert.Kernel6Ideal.τ).loc Cert.Kernel6Ideal.main_v35_1)) (v2 : (c : Dev Cert.Kernel6Ideal.nD) → Buf (Elt Ideal) ((c.tc : Thread Cert.Kernel6Ideal.nD Cert.Kernel6Ideal.τ).loc Cert.Kernel6Ideal.main_v35_2)) (v3 : (c : Dev Cert.Kernel6Ideal.nD) → Buf (Elt Ideal) ((c.tc : Thread Cert.Kernel6Ideal.nD Cert.Kernel6Ideal.τ).loc Cert.Kernel6Ideal.main_v35_3)) (v4 : (c : Dev Cert.Kernel6Ideal.nD) → Buf (Elt Ideal) ((c.tc : Thread Cert.Kernel6Ideal.nD Cert.Kernel6Ideal.τ).loc Cert.Kernel6Ideal.main_v35_4)) (v5 : (c : Dev Cert.Kernel6Ideal.nD) → Buf (Elt Ideal) ((c.tc : Thread Cert.Kernel6Ideal.nD Cert.Kernel6Ideal.τ).loc Cert.Kernel6Ideal.main_v35_5)) (v6 : (c : Dev Cert.Kernel6Ideal.nD) → Buf (Elt Ideal) ((c.tc : Thread Cert.Kernel6Ideal.nD Cert.Kernel6Ideal.τ).loc Cert.Kernel6Ideal.main_v35_6)) (v7 : (c : Dev Cert.Kernel6Ideal.nD) → Buf (Elt Ideal) ((c.tc : Thread Cert.Kernel6Ideal.nD Cert.Kernel6Ideal.τ).loc Cert.Kernel6Ideal.main_v35_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v35_0) = v0 c
          ∧ r.2.mem ((c.tc : Thread Cert.Kernel6Ideal.nD Cert.Kernel6Ideal.τ).loc Cert.Kernel6Ideal.main_v35_1) = v1 c
          ∧ r.2.mem ((c.tc : Thread Cert.Kernel6Ideal.nD Cert.Kernel6Ideal.τ).loc Cert.Kernel6Ideal.main_v35_2) = v2 c
          ∧ r.2.mem ((c.tc : Thread Cert.Kernel6Ideal.nD Cert.Kernel6Ideal.τ).loc Cert.Kernel6Ideal.main_v35_3) = v3 c
          ∧ r.2.mem ((c.tc : Thread Cert.Kernel6Ideal.nD Cert.Kernel6Ideal.τ).loc Cert.Kernel6Ideal.main_v35_4) = v4 c
          ∧ r.2.mem ((c.tc : Thread Cert.Kernel6Ideal.nD Cert.Kernel6Ideal.τ).loc Cert.Kernel6Ideal.main_v35_5) = v5 c
          ∧ r.2.mem ((c.tc : Thread Cert.Kernel6Ideal.nD Cert.Kernel6Ideal.τ).loc Cert.Kernel6Ideal.main_v35_6) = v6 c
          ∧ r.2.mem ((c.tc : Thread Cert.Kernel6Ideal.nD Cert.Kernel6Ideal.τ).loc Cert.Kernel6Ideal.main_v35_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v124) = v0 c
          ∧ r.2.mem ((c.tc : Thread Cert.Reference6Ideal.nD Cert.Reference6Ideal.τ).loc Cert.Reference6Ideal.main_v125) = v1 c
          ∧ r.2.mem ((c.tc : Thread Cert.Reference6Ideal.nD Cert.Reference6Ideal.τ).loc Cert.Reference6Ideal.main_v126) = v2 c
          ∧ r.2.mem ((c.tc : Thread Cert.Reference6Ideal.nD Cert.Reference6Ideal.τ).loc Cert.Reference6Ideal.main_v127) = v3 c
          ∧ r.2.mem ((c.tc : Thread Cert.Reference6Ideal.nD Cert.Reference6Ideal.τ).loc Cert.Reference6Ideal.main_v128) = v4 c
          ∧ r.2.mem ((c.tc : Thread Cert.Reference6Ideal.nD Cert.Reference6Ideal.τ).loc Cert.Reference6Ideal.main_v129) = v5 c
          ∧ r.2.mem ((c.tc : Thread Cert.Reference6Ideal.nD Cert.Reference6Ideal.τ).loc Cert.Reference6Ideal.main_v130) = v6 c
          ∧ r.2.mem ((c.tc : Thread Cert.Reference6Ideal.nD Cert.Reference6Ideal.τ).loc Cert.Reference6Ideal.main_v131) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v35_0)) (v1 : (c : Dev Cert.Kernel7Ideal.nD) → Buf (Elt Ideal) ((c.tc : Thread Cert.Kernel7Ideal.nD Cert.Kernel7Ideal.τ).loc Cert.Kernel7Ideal.main_v35_1)) (v2 : (c : Dev Cert.Kernel7Ideal.nD) → Buf (Elt Ideal) ((c.tc : Thread Cert.Kernel7Ideal.nD Cert.Kernel7Ideal.τ).loc Cert.Kernel7Ideal.main_v35_2)) (v3 : (c : Dev Cert.Kernel7Ideal.nD) → Buf (Elt Ideal) ((c.tc : Thread Cert.Kernel7Ideal.nD Cert.Kernel7Ideal.τ).loc Cert.Kernel7Ideal.main_v35_3)) (v4 : (c : Dev Cert.Kernel7Ideal.nD) → Buf (Elt Ideal) ((c.tc : Thread Cert.Kernel7Ideal.nD Cert.Kernel7Ideal.τ).loc Cert.Kernel7Ideal.main_v35_4)) (v5 : (c : Dev Cert.Kernel7Ideal.nD) → Buf (Elt Ideal) ((c.tc : Thread Cert.Kernel7Ideal.nD Cert.Kernel7Ideal.τ).loc Cert.Kernel7Ideal.main_v35_5)) (v6 : (c : Dev Cert.Kernel7Ideal.nD) → Buf (Elt Ideal) ((c.tc : Thread Cert.Kernel7Ideal.nD Cert.Kernel7Ideal.τ).loc Cert.Kernel7Ideal.main_v35_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v35_0) = v0 c
          ∧ r.2.mem ((c.tc : Thread Cert.Kernel7Ideal.nD Cert.Kernel7Ideal.τ).loc Cert.Kernel7Ideal.main_v35_1) = v1 c
          ∧ r.2.mem ((c.tc : Thread Cert.Kernel7Ideal.nD Cert.Kernel7Ideal.τ).loc Cert.Kernel7Ideal.main_v35_2) = v2 c
          ∧ r.2.mem ((c.tc : Thread Cert.Kernel7Ideal.nD Cert.Kernel7Ideal.τ).loc Cert.Kernel7Ideal.main_v35_3) = v3 c
          ∧ r.2.mem ((c.tc : Thread Cert.Kernel7Ideal.nD Cert.Kernel7Ideal.τ).loc Cert.Kernel7Ideal.main_v35_4) = v4 c
          ∧ r.2.mem ((c.tc : Thread Cert.Kernel7Ideal.nD Cert.Kernel7Ideal.τ).loc Cert.Kernel7Ideal.main_v35_5) = v5 c
          ∧ r.2.mem ((c.tc : Thread Cert.Kernel7Ideal.nD Cert.Kernel7Ideal.τ).loc Cert.Kernel7Ideal.main_v35_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v123) = v0 c
          ∧ r.2.mem ((c.tc : Thread Cert.Reference7Ideal.nD Cert.Reference7Ideal.τ).loc Cert.Reference7Ideal.main_v124) = v1 c
          ∧ r.2.mem ((c.tc : Thread Cert.Reference7Ideal.nD Cert.Reference7Ideal.τ).loc Cert.Reference7Ideal.main_v125) = v2 c
          ∧ r.2.mem ((c.tc : Thread Cert.Reference7Ideal.nD Cert.Reference7Ideal.τ).loc Cert.Reference7Ideal.main_v126) = v3 c
          ∧ r.2.mem ((c.tc : Thread Cert.Reference7Ideal.nD Cert.Reference7Ideal.τ).loc Cert.Reference7Ideal.main_v127) = v4 c
          ∧ r.2.mem ((c.tc : Thread Cert.Reference7Ideal.nD Cert.Reference7Ideal.τ).loc Cert.Reference7Ideal.main_v128) = v5 c
          ∧ r.2.mem ((c.tc : Thread Cert.Reference7Ideal.nD Cert.Reference7Ideal.τ).loc Cert.Reference7Ideal.main_v129) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16384x1024 : Shape := ⟨2, ![16384, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S1x1024 : Shape := ⟨2, ![1, 1024]⟩
abbrev S1x1280 : Shape := ⟨2, ![1, 1280]⟩
abbrev S8x1x1280 : Shape := ⟨3, ![8, 1, 1280]⟩
abbrev S8x3x1280 : Shape := ⟨3, ![8, 3, 1280]⟩
abbrev S512x1024 : Shape := ⟨2, ![512, 1024]⟩
abbrev S1x1x1280 : Shape := ⟨3, ![1, 1, 1280]⟩
abbrev S1x3x1280 : Shape := ⟨3, ![1, 3, 1280]⟩
abbrev S8x1280 : Shape := ⟨2, ![8, 1280]⟩
abbrev S512x1280 : Shape := ⟨2, ![512, 1280]⟩
abbrev S520x1280 : Shape := ⟨2, ![520, 1280]⟩
abbrev S512 : Shape := ⟨1, ![512]⟩
abbrev S512x1 : Shape := ⟨2, ![512, 1]⟩
abbrev S512x2560 : Shape := ⟨2, ![512, 2560]⟩
abbrev S3x1280 : Shape := ⟨2, ![3, 1280]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 23
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S1280x1024, .f32⟩
  | .hbm, ⟨11, _⟩ => ⟨S1x1024, .f32⟩
  | .hbm, ⟨12, _⟩ => ⟨S1024x2560, .bf16⟩
  | .hbm, ⟨13, _⟩ => ⟨S1x1280, .f32⟩
  | .hbm, ⟨14, _⟩ => ⟨S10x128x128, .bf16⟩
  | .hbm, ⟨15, _⟩ => ⟨S1x1280, .f32⟩
  | .hbm, ⟨16, _⟩ => ⟨S10x128x128, .bf16⟩
  | .hbm, ⟨17, _⟩ => ⟨S1x1280, .f32⟩
  | .hbm, ⟨18, _⟩ => ⟨S1x1280, .f32⟩
  | .hbm, ⟨19, _⟩ => ⟨S1280x1024, .bf16⟩
  | .hbm, ⟨20, _⟩ => ⟨S16384x1024, .f32⟩
  | .hbm, ⟨21, _⟩ => ⟨S8x1x1280, .f32⟩
  | .hbm, ⟨22, _⟩ => ⟨S8x3x1280, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S4x1280, .f32⟩
  | .local _ .vmem, ⟨5, _⟩ => ⟨S1x1280, .f32⟩
  | .local _ .vmem, ⟨6, _⟩ => ⟨S10x128x128, .bf16⟩
  | .local _ .vmem, ⟨7, _⟩ => ⟨S1x1280, .f32⟩
  | .local _ .vmem, ⟨8, _⟩ => ⟨S10x128x128, .bf16⟩
  | .local _ .vmem, ⟨9, _⟩ => ⟨S1x1280, .f32⟩
  | .local _ .vmem, ⟨10, _⟩ => ⟨S1x1280, .f32⟩
  | .local _ .vmem, ⟨11, _⟩ => ⟨S1280x1024, .bf16⟩
  | .local _ .vmem, ⟨12, _⟩ => ⟨S512x1024, .f32⟩
  | .local _ .vmem, ⟨13, _⟩ => ⟨S512x1024, .f32⟩
  | .local _ .vmem, ⟨14, _⟩ => ⟨S1x1x1280, .f32⟩
  | .local _ .vmem, ⟨15, _⟩ => ⟨S1x1x1280, .f32⟩
  | .local _ .vmem, ⟨16, _⟩ => ⟨S1x3x1280, .f32⟩
  | .local _ .vmem, ⟨17, _⟩ => ⟨S1x3x1280, .f32⟩
  | .local _ .vmem, ⟨18, _⟩ => ⟨S8x1280, .f32⟩
  | .local _ .vmem, ⟨19, _⟩ => ⟨S8x1280, .f32⟩
  | .local _ .vmem, ⟨20, _⟩ => ⟨S512x1280, .f32⟩
  | .local _ .vmem, ⟨21, _⟩ => ⟨S512x1280, .f32⟩
  | .local _ .vmem, ⟨22, _⟩ => ⟨S512x1280, .f32⟩
  | .local _ .vmem, ⟨23, _⟩ => ⟨S520x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S10x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16384x1024 : Shape := ⟨2, ![16384, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2560 : Shape := ⟨3, ![8, 2048, 2560]⟩
abbrev S8x2048x1280 : Shape := ⟨3, ![8, 2048, 1280]⟩
abbrev S8x1280 : Shape := ⟨2, ![8, 1280]⟩
abbrev S8x3x1280 : Shape := ⟨3, ![8, 3, 1280]⟩
abbrev S8x2051x1280 : Shape := ⟨3, ![8, 2051, 1280]⟩
abbrev S1x1280 : Shape := ⟨2, ![1, 1280]⟩
abbrev S1x1x1280 : Shape := ⟨3, ![1, 1, 1280]⟩
abbrev S8x2048x10x128 : Shape := ⟨4, ![8, 2048, 10, 128]⟩
abbrev S10x128x8x2048 : Shape := ⟨4, ![10, 128, 8, 2048]⟩
abbrev S2048x8x1280 : Shape := ⟨3, ![2048, 8, 1280]⟩
abbrev S1x8x1280 : Shape := ⟨3, ![1, 8, 1280]⟩
abbrev S8x1x1280 : Shape := ⟨3, ![8, 1, 1280]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S1024, .f32⟩
  | 2 => ⟨S1024x2560, .f32⟩
  | 3 => ⟨S4x1280, .f32⟩
  | 4 => ⟨S1280, .f32⟩
  | 5 => ⟨S10x128x128, .f32⟩
  | 6 => ⟨S1280, .f32⟩
  | 7 => ⟨S10x128x128, .f32⟩
  | 8 => ⟨S1280, .f32⟩
  | 9 => ⟨S1280, .f32⟩
  | 10 => ⟨S1280x1024, .f32⟩
  | 11 => ⟨S8x2048x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S8x2048x2560, .f32⟩
  | 29 => ⟨S8x2048x1280, .f32⟩
  | 30 => ⟨S8x2048x1280, .f32⟩
  | 31 => ⟨S_, .f32⟩
  | 32 => ⟨S8x1280, .f32⟩
  | 33 => ⟨S_, .f32⟩
  | 34 => ⟨S8x3x1280, .f32⟩
  | 35 => ⟨S8x2051x1280, .f32⟩
  | 36 => ⟨S8x3x1280, .f32⟩
  | 37 => ⟨S8x2048x1280, .f32⟩
  | 38 => ⟨S1x1280, .f32⟩
  | 39 => ⟨S1280, .f32⟩
  | 40 => ⟨S1x1x1280, .f32⟩
  | 41 => ⟨S8x2048x1280, .f32⟩
  | 42 => ⟨S8x2048x1280, .f32⟩
  | 43 => ⟨S8x2048x1280, .f32⟩
  | 44 => ⟨S1x1280, .f32⟩
  | 45 => ⟨S1280, .f32⟩
  | 46 => ⟨S1x1x1280, .f32⟩
  | 47 => ⟨S8x2048x1280, .f32⟩
  | 48 => ⟨S8x2048x1280, .f32⟩
  | 49 => ⟨S8x2048x1280, .f32⟩
  | 50 => ⟨S8x2048x1280, .f32⟩
  | 51 => ⟨S1x1280, .f32⟩
  | 52 => ⟨S1280, .f32⟩
  | 53 => ⟨S1x1x1280, .f32⟩
  | 54 => ⟨S8x2048x1280, .f32⟩
  | 55 => ⟨S8x2048x1280, .f32⟩
  | 56 => ⟨S8x2048x1280, .f32⟩
  | 57 => ⟨S8x2048x1280, .f32⟩
  | 58 => ⟨S1x1280, .f32⟩
  | 59 => ⟨S1280, .f32⟩
  | 60 => ⟨S1x1x1280, .f32⟩
  | 61 => ⟨S8x2048x1280, .f32⟩
  | 62 => ⟨S8x2048x1280, .f32⟩
  | 63 => ⟨S8x2048x1280, .f32⟩
  | 64 => ⟨S1x1x1280, .f32⟩
  | 65 => ⟨S8x2048x1280, .f32⟩
  | 66 => ⟨S8x2048x1280, .f32⟩
  | 67 => ⟨S8x2048x10x128, .f32⟩
  | 68 => ⟨S10x128x8x2048, .f32⟩
  | 69 => ⟨S8x2048x10x128, .f32⟩
  | 70 => ⟨S8x2048x1280, .f32⟩
  | 71 => ⟨S1x1x1280, .f32⟩
  | 72 => ⟨S8x2048x1280, .f32⟩
  | 73 => ⟨S8x2048x1280, .f32⟩
  | 74 => ⟨S8x2048x1280, .f32⟩
  | 75 => ⟨S8x2048x1280, .f32⟩
  | 76 => ⟨S_, .f32⟩
  | 77 => ⟨S8x2048x1280, .f32⟩
  | 78 => ⟨S8x2048x1280, .f32⟩
  | 79 => ⟨S_, .f32⟩
  | 80 => ⟨S8x2048x1280, .f32⟩
  | 81 => ⟨S8x2048x1280, .f32⟩
  | 82 => ⟨S10x128x8x2048, .f32⟩
  | 83 => ⟨S8x2048x10x128, .f32⟩
  | 84 => ⟨S8x2048x1280, .f32⟩
  | 85 => ⟨S1x1x1280, .f32⟩
  | 86 => ⟨S8x2048x1280, .f32⟩
  | 87 => ⟨S8x2048x1280, .f32⟩
  | 88 => ⟨S8x2048x1280, .f32⟩
  | 89 => ⟨S8x2048x1280, .f32⟩
  | 90 => ⟨S_, .f32⟩
  | 91 => ⟨S8x2048x1280, .f32⟩
  | 92 => ⟨S8x2048x1280, .f32⟩
  | 93 => ⟨S_, .f32⟩
  | 94 => ⟨S8x2048x1280, .f32⟩
  | 95 => ⟨S8x2048x1280, .f32⟩
  | 96 => ⟨S_, .f32⟩
  | 97 => ⟨S8x2048x1280, .f32⟩
  | 98 => ⟨S8x2048x1280, .f32⟩
  | 99 => ⟨S1280, .f32⟩
  | 100 => ⟨S_, .f32⟩
  | 101 => ⟨S1280, .f32⟩
  | 102 => ⟨S1280, .f32⟩
  | 103 => ⟨S1280, .f32⟩
  | 104 => ⟨S1280, .f32⟩
  | 105 => ⟨S1280, .i1⟩
  | 106 => ⟨S1280, .f32⟩
  | 107 => ⟨S1280, .f32⟩
  | 108 => ⟨S1280, .f32⟩
  | 109 => ⟨S1280, .f32⟩
  | 110 => ⟨S1280, .f32⟩
  | 111 => ⟨S1280, .f32⟩
  | 112 => ⟨S1280, .f32⟩
  | 113 => ⟨S1280, .f32⟩
  | 114 => ⟨S1x1x1280, .f32⟩
  | 115 => ⟨S8x2048x1280, .f32⟩
  | 116 => ⟨S8x2048x1280, .f32⟩
  | 117 => ⟨S8x2048x1280, .f32⟩
  | 118 => ⟨S_, .f32⟩
  | 119 => ⟨S8x2048x1280, .f32⟩
  | 120 => ⟨S8x2048x1280, .f32⟩
  | 121 => ⟨S8x2048x1280, .f32⟩
  | 122 => ⟨S8x2048x1280, .f32⟩
  | 123 => ⟨S8x2048x1280, .f32⟩
  | 124 => ⟨S8x2048x1280, .f32⟩
  | 125 => ⟨S8x2048x1280, .f32⟩
  | 126 => ⟨S2048x8x1280, .f32⟩
  | 127 => ⟨S2048x8x1280, .f32⟩
  | _ => ⟨S16384x1024, .f32⟩

abbrev hbmTy0_1 (i : Nat) : BufTy := match i % 128 with
  | 0 => ⟨S_, .f32⟩
  | 1 => ⟨S2048x8x1280, .f32⟩
  | 2 => ⟨S_, .i32⟩
  | 3 => ⟨S2048x8x1280, .f32⟩
  | 4 => ⟨S2048x8x1280, .f32⟩
  | 5 => ⟨S_, .i32⟩
  | 6 => ⟨S8x1280, .f32⟩
  | 7 => ⟨S2048x8x1280, .f32⟩
  | 8 => ⟨S_, .i32⟩
  | 9 => ⟨S_, .i1⟩
  | 10 => ⟨S_, .i32⟩
  | 11 => ⟨S_, .i32⟩
  | 12 => ⟨S1x8x1280, .f32⟩
  | 13 => ⟨S8x1280, .f32⟩
  | 14 => ⟨S_, .i32⟩
  | 15 => ⟨S_, .i32⟩
  | 16 => ⟨S1x8x1280, .f32⟩
  | 17 => ⟨S8x1280, .f32⟩
  | 18 => ⟨S8x1280, .f32⟩
  | 19 => ⟨S8x1280, .f32⟩
  | 20 => ⟨S1x8x1280, .f32⟩
  | 21 => ⟨S_, .i32⟩
  | 22 => ⟨S_, .i32⟩
  | 23 => ⟨S2048x8x1280, .f32⟩
  | 24 => ⟨S_, .i32⟩
  | 25 => ⟨S_, .i32⟩
  | 26 => ⟨S8x2048x1280, .f32⟩
  | 27 => ⟨S8x2048x1280, .f32⟩
  | 28 => ⟨S8x2048x1280, .f32⟩
  | 29 => ⟨S_, .f32⟩
  | 30 => ⟨S8x2048x1280, .f32⟩
  | 31 => ⟨S8x2048x1280, .f32⟩
  | 32 => ⟨S8x2048x1280, .f32⟩
  | 33 => ⟨S_, .f32⟩
  | 34 => ⟨S8x2048x1280, .f32⟩
  | 35 => ⟨S8x2048x1280, .f32⟩
  | 36 => ⟨S8x2048x1280, .f32⟩
  | 37 => ⟨S_, .f32⟩
  | 38 => ⟨S8x2048x1280, .f32⟩
  | 39 => ⟨S8x2048x1280, .f32⟩
  | 40 => ⟨S_, .f32⟩
  | 41 => ⟨S8x2048x1280, .f32⟩
  | 42 => ⟨S8x2048x1280, .f32⟩
  | 43 => ⟨S8x2048x1280, .f32⟩
  | 44 => ⟨S8x2048x1280, .f32⟩
  | 45 => ⟨S8x2048x1024, .f32⟩
  | 46 => ⟨S8x2048x1024, .f32⟩
  | 47 => ⟨S16384x1024, .f32⟩
  | 48 => ⟨S8x1x1280, .f32⟩
  | 49 => ⟨S8x1280, .f32⟩
  | 50 => ⟨S8x1x1280, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_call0_cst : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_v5 : Ref sig .tc := ⟨.hbm, 106, rfl⟩
abbrev main_call0_v6 : Ref sig .tc := ⟨.hbm, 107, rfl⟩
abbrev main_call0_v7 : Ref sig .tc := ⟨.hbm, 108, rfl⟩
abbrev main_call0_v8 : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_9 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_10 : Ref sig .tc := ⟨.hbm, 128, rfl⟩
abbrev main_v93 : Ref sig .tc := ⟨.hbm, 129, rfl⟩
abbrev main_c : Ref sig .tc := ⟨.hbm, 130, rfl⟩
abbrev main_v94_0 : Ref sig .tc := ⟨.hbm, 131, rfl⟩
abbrev main_v94_1 : Ref sig .tc := ⟨.hbm, 132, rfl⟩
abbrev main_v94_2 : Ref sig .tc := ⟨.hbm, 133, rfl⟩
abbrev main_v94_3 : Ref sig .tc := ⟨.hbm, 134, rfl⟩
abbrev main_v94_4 : Ref sig .tc := ⟨.hbm, 135, rfl⟩
abbrev main_while0c_c_19 : Ref sig .tc := ⟨.hbm, 136, rfl⟩
abbrev main_while0c_v116 : Ref sig .tc := ⟨.hbm, 137, rfl⟩
abbrev main_while0b_call1_c : Ref sig .tc := ⟨.hbm, 138, rfl⟩
abbrev main_while0b_call1_c_0 : Ref sig .tc := ⟨.hbm, 139, rfl⟩
abbrev main_while0b_call1_v0 : Ref sig .tc := ⟨.hbm, 140, rfl⟩
abbrev main_while0b_v116 : Ref sig .tc := ⟨.hbm, 141, rfl⟩
abbrev main_while0b_call2_c : Ref sig .tc := ⟨.hbm, 142, rfl⟩
abbrev main_while0b_call2_c_0 : Ref sig .tc := ⟨.hbm, 143, rfl⟩
abbrev main_while0b_call2_v0 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_call3_v0 : Ref sig .tc := ⟨.hbm, 148, rfl⟩
abbrev main_while0b_call3_c : Ref sig .tc := ⟨.hbm, 149, rfl⟩
abbrev main_while0b_call3_c_0 : Ref sig .tc := ⟨.hbm, 150, rfl⟩
abbrev main_while0b_v120 : Ref sig .tc := ⟨.hbm, 151, rfl⟩
abbrev main_while0b_c_19 : Ref sig .tc := ⟨.hbm, 152, rfl⟩
abbrev main_while0b_v121 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_11 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_12 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_13 : Ref sig .tc := ⟨.hbm, 165, rfl⟩
abbrev main_v104 : Ref sig .tc := ⟨.hbm, 166, rfl⟩
abbrev main_v105 : Ref sig .tc := ⟨.hbm, 167, rfl⟩
abbrev main_cst_14 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S8x512x2048 : Shape := ⟨3, ![8, 512, 2048]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S8x512x2048, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S8x512x2048 : Shape := ⟨3, ![8, 512, 2048]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x512 : Shape := ⟨3, ![8, 2048, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x512x2048, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8x2048x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Kernel4.lean ====
abbrev S32x1024 : Shape := ⟨2, ![32, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S32x3x1280 : Shape := ⟨3, ![32, 3, 1280]⟩
abbrev S32x1280 : Shape := ⟨2, ![32, 1280]⟩
abbrev S1x1024 : Shape := ⟨2, ![1, 1024]⟩
abbrev S1x1280 : Shape := ⟨2, ![1, 1280]⟩
abbrev S32x1x1280 : Shape := ⟨3, ![32, 1, 1280]⟩
abbrev S32 : Shape := ⟨1, ![32]⟩
abbrev S32x1 : Shape := ⟨2, ![32, 1]⟩
abbrev S32x2560 : Shape := ⟨2, ![32, 2560]⟩
abbrev S32x128 : Shape := ⟨2, ![32, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 31
  | .vmem => 18
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2560, .f32⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S1280x1024, .f32⟩
  | .hbm, ⟨11, _⟩ => ⟨S32x3x1280, .f32⟩
  | .hbm, ⟨12, _⟩ => ⟨S32x1280, .f32⟩
  | .hbm, ⟨13, _⟩ => ⟨S1x1024, .f32⟩
  | .hbm, ⟨14, _⟩ => ⟨S1024x2560, .bf16⟩
  | .hbm, ⟨15, _⟩ => ⟨S1x1280, .f32⟩
  | .hbm, ⟨16, _⟩ => ⟨S10x128x128, .bf16⟩
  | .hbm, ⟨17, _⟩ => ⟨S1x1280, .f32⟩
  | .hbm, ⟨18, _⟩ => ⟨S10x128x128, .bf16⟩
  | .hbm, ⟨19, _⟩ => ⟨S1x1280, .f32⟩
  | .hbm, ⟨20, _⟩ => ⟨S1x1280, .f32⟩
  | .hbm, ⟨21, _⟩ => ⟨S1280x1024, .bf16⟩
  | .hbm, ⟨22, _⟩ => ⟨S32x1x1280, .f32⟩
  | .hbm, ⟨23, _⟩ => ⟨S32x1280, .f32⟩
  | .hbm, ⟨24, _⟩ => ⟨S32x1x1280, .f32⟩
  | .hbm, ⟨25, _⟩ => ⟨S32x1280, .f32⟩
  | .hbm, ⟨26, _⟩ => ⟨S32x1x1280, .f32⟩
  | .hbm, ⟨27, _⟩ => ⟨S32x1280, .f32⟩
  | .hbm, ⟨28, _⟩ => ⟨S32x1024, .f32⟩
  | .hbm, ⟨29, _⟩ => ⟨S32x1280, .f32⟩
  | .hbm, ⟨30, _⟩ => ⟨S32x1280, .f32⟩
  | .local _ .vmem, ⟨0, _⟩ => ⟨S32x1024, .f32⟩
  | .local _ .vmem, ⟨1, _⟩ => ⟨S1x1024, .f32⟩
  | .local _ .vmem, ⟨2, _⟩ => ⟨S1024x2560, .bf16⟩
  | .local _ .vmem, ⟨3, _⟩ => ⟨S4x1280, .f32⟩
  | .local _ .vmem, ⟨4, _⟩ => ⟨S1x1280, .f32⟩
  | .local _ .vmem, ⟨5, _⟩ => ⟨S10x128x128, .bf16⟩
  | .local _ .vmem, ⟨6, _⟩ => ⟨S1x1280, .f32⟩
  | .local _ .vmem, ⟨7, _⟩ => ⟨S10x128x128, .bf16⟩
  | .local _ .vmem, ⟨8, _⟩ => ⟨S1x1280, .f32⟩
  | .local _ .vmem, ⟨9, _⟩ => ⟨S1x1280, .f32⟩
  | .local _ .vmem, ⟨10, _⟩ => ⟨S1280x1024, .bf16⟩
  | .local _ .vmem, ⟨11, _⟩ => ⟨S32x1280, .f32⟩
  | .local _ .vmem, ⟨12, _⟩ => ⟨S32x1280, .f32⟩
  | .local _ .vmem, ⟨13, _⟩ => ⟨S32x1280, .f32⟩
  | .local _ .vmem, ⟨14, _⟩ => ⟨S32x1280, .f32⟩
  | .local _ .vmem, ⟨15, _⟩ => ⟨S32x1024, .f32⟩
  | .local _ .vmem, ⟨16, _⟩ => ⟨S32x1280, .f32⟩
  | .local _ .vmem, ⟨17, _⟩ => ⟨S32x1280, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1280 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S32x1024 : Shape := ⟨2, ![32, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S32x3x1280 : Shape := ⟨3, ![32, 3, 1280]⟩
abbrev S32x1280 : Shape := ⟨2, ![32, 1280]⟩
abbrev S32x1x1024 : Shape := ⟨3, ![32, 1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2560 : Shape := ⟨3, ![32, 1, 2560]⟩
abbrev S32x1x1280 : Shape := ⟨3, ![32, 1, 1280]⟩
abbrev S32x4x1280 : Shape := ⟨3, ![32, 4, 1280]⟩
abbrev S1x1280 : Shape := ⟨2, ![1, 1280]⟩
abbrev S1x1x1280 : Shape := ⟨3, ![1, 1, 1280]⟩
abbrev S32x1x10x128 : Shape := ⟨4, ![32, 1, 10, 128]⟩
abbrev S10x128x32x1 : Shape := ⟨4, ![10, 128, 32, 1]⟩

abbrev nBuf : Space → Nat
  | .hbm => 149
  | .vmem => 0
  | .smem => 0
  | _ => 0

abbrev hbmTy0_0 (i : Nat) : BufTy := match i % 128 with
  | 0 => ⟨S32x1024, .f32⟩
  | 1 => ⟨S1024, .f32⟩
  | 2 => ⟨S1024x2560, .f32⟩
  | 3 => ⟨S4x1280, .f32⟩
  | 4 => ⟨S1280, .f32⟩
  | 5 => ⟨S10x128x128, .f32⟩
  | 6 => ⟨S1280, .f32⟩
  | 7 => ⟨S10x128x128, .f32⟩
  | 8 => ⟨S1280, .f32⟩
  | 9 => ⟨S1280, .f32⟩
  | 10 => ⟨S1280x1024, .f32⟩
  | 11 => ⟨S32x3x1280, .f32⟩
  | 12 => ⟨S32x1280, .f32⟩
  | 13 => ⟨S32x1x1024, .f32⟩
  | 14 => ⟨S32x1x1024, .f32⟩
  | 15 => ⟨S_, .f32⟩
  | 16 => ⟨S32x1, .f32⟩
  | 17 => ⟨S32x1x1, .f32⟩
  | 18 => ⟨S_, .f32⟩
  | 19 => ⟨S32x1x1, .f32⟩
  | 20 => ⟨S32x1x1, .f32⟩
  | 21 => ⟨S_, .f32⟩
  | 22 => ⟨S32x1x1, .f32⟩
  | 23 => ⟨S32x1x1, .f32⟩
  | 24 => ⟨S32x1x1, .f32⟩
  | 25 => ⟨S32x1x1024, .f32⟩
  | 26 => ⟨S32x1x1024, .f32⟩
  | 27 => ⟨S1x1x1024, .f32⟩
  | 28 => ⟨S32x1x1024, .f32⟩
  | 29 => ⟨S32x1x1024, .f32⟩
  | 30 => ⟨S32x1x2560, .f32⟩
  | 31 => ⟨S32x1x1280, .f32⟩
  | 32 => ⟨S32x1x1280, .f32⟩
  | 33 => ⟨S32x4x1280, .f32⟩
  | 34 => ⟨S32x1x1280, .f32⟩
  | 35 => ⟨S1x1280, .f32⟩
  | 36 => ⟨S1280, .f32⟩
  | 37 => ⟨S1x1x1280, .f32⟩
  | 38 => ⟨S32x1x1280, .f32⟩
  | 39 => ⟨S32x1x1280, .f32⟩
  | 40 => ⟨S32x1x1280, .f32⟩
  | 41 => ⟨S1x1280, .f32⟩
  | 42 => ⟨S1280, .f32⟩
  | 43 => ⟨S1x1x1280, .f32⟩
  | 44 => ⟨S32x1x1280, .f32⟩
  | 45 => ⟨S32x1x1280, .f32⟩
  | 46 => ⟨S32x1x1280, .f32⟩
  | 47 => ⟨S32x1x1280, .f32⟩
  | 48 => ⟨S1x1280, .f32⟩
  | 49 => ⟨S1280, .f32⟩
  | 50 => ⟨S1x1x1280, .f32⟩
  | 51 => ⟨S32x1x1280, .f32⟩
  | 52 => ⟨S32x1x1280, .f32⟩
  | 53 => ⟨S32x1x1280, .f32⟩
  | 54 => ⟨S32x1x1280, .f32⟩
  | 55 => ⟨S1x1280, .f32⟩
  | 56 => ⟨S1280, .f32⟩
  | 57 => ⟨S1x1x1280, .f32⟩
  | 58 => ⟨S32x1x1280, .f32⟩
  | 59 => ⟨S32x1x1280, .f32⟩
  | 60 => ⟨S32x1x1280, .f32⟩
  | 61 => ⟨S1x1x1280, .f32⟩
  | 62 => ⟨S32x1x1280, .f32⟩
  | 63 => ⟨S32x1x1280, .f32⟩
  | 64 => ⟨S32x1x10x128, .f32⟩
  | 65 => ⟨S10x128x32x1, .f32⟩
  | 66 => ⟨S32x1x10x128, .f32⟩
  | 67 => ⟨S32x1x1280, .f32⟩
  | 68 => ⟨S1x1x1280, .f32⟩
  | 69 => ⟨S32x1x1280, .f32⟩
  | 70 => ⟨S32x1x1280, .f32⟩
  | 71 => ⟨S32x1x1280, .f32⟩
  | 72 => ⟨S32x1x1280, .f32⟩
  | 73 => ⟨S_, .f32⟩
  | 74 => ⟨S32x1x1280, .f32⟩
  | 75 => ⟨S32x1x1280, .f32⟩
  | 76 => ⟨S_, .f32⟩
  | 77 => ⟨S32x1x1280, .f32⟩
  | 78 => ⟨S32x1x1280, .f32⟩
  | 79 => ⟨S10x128x32x1, .f32⟩
  | 80 => ⟨S32x1x10x128, .f32⟩
  | 81 => ⟨S32x1x1280, .f32⟩
  | 82 => ⟨S1x1x1280, .f32⟩
  | 83 => ⟨S32x1x1280, .f32⟩
  | 84 => ⟨S32x1x1280, .f32⟩
  | 85 => ⟨S32x1x1280, .f32⟩
  | 86 => ⟨S32x1x1280, .f32⟩
  | 87 => ⟨S_, .f32⟩
  | 88 => ⟨S32x1x1280, .f32⟩
  | 89 => ⟨S32x1x1280, .f32⟩
  | 90 => ⟨S_, .f32⟩
  | 91 => ⟨S32x1x1280, .f32⟩
  | 92 => ⟨S32x1x1280, .f32⟩
  | 93 => ⟨S_, .f32⟩
  | 94 => ⟨S32x1x1280, .f32⟩
  | 95 => ⟨S32x1x1280, .f32⟩
  | 96 => ⟨S1280, .f32⟩
  | 97 => ⟨S_, .f32⟩
  | 98 => ⟨S1280, .f32⟩
  | 99 => ⟨S1280, .f32⟩
  | 100 => ⟨S1280, .f32⟩
  | 101 => ⟨S1280, .f32⟩
  | 102 => ⟨S1280, .i1⟩
  | 103 => ⟨S1280, .f32⟩
  | 104 => ⟨S1280, .f32⟩
  | 105 => ⟨S1280, .f32⟩
  | 106 => ⟨S1280, .f32⟩
  | 107 => ⟨S1280, .f32⟩
  | 108 => ⟨S1280, .f32⟩
  | 109 => ⟨S1280, .f32⟩
  | 110 => ⟨S1280, .f32⟩
  | 111 => ⟨S1x1x1280, .f32⟩
  | 112 => ⟨S32x1x1280, .f32⟩
  | 113 => ⟨S32x1x1280, .f32⟩
  | 114 => ⟨S32x1x1280, .f32⟩
  | 115 => ⟨S32x1x1280, .f32⟩
  | 116 => ⟨S32x1x1280, .f32⟩
  | 117 => ⟨S_, .f32⟩
  | 118 => ⟨S32x1x1280, .f32⟩
  | 119 => ⟨S32x1x1280, .f32⟩
  | 120 => ⟨S32x1x1280, .f32⟩
  | 121 => ⟨S32x1x1280, .f32⟩
  | 122 => ⟨S32x1x1280, .f32⟩
  | 123 => ⟨S32x1x1280, .f32⟩
  | 124 => ⟨S32x1x1280, .f32⟩
  | 125 => ⟨S32x1x1280, .f32⟩
  | 126 => ⟨S32x1x1280, .f32⟩
  | 127 => ⟨S32x1x1280, .f32⟩
  | _ => ⟨S32x1024, .f32⟩

abbrev hbmTy0_1 (i : Nat) : BufTy := match i % 128 with
  | 0 => ⟨S_, .f32⟩
  | 1 => ⟨S32x1x1280, .f32⟩
  | 2 => ⟨S32x1x1280, .f32⟩
  | 3 => ⟨S32x1x1280, .f32⟩
  | 4 => ⟨S_, .f32⟩
  | 5 => ⟨S32x1x1280, .f32⟩
  | 6 => ⟨S32x1x1280, .f32⟩
  | 7 => ⟨S32x1x1280, .f32⟩
  | 8 => ⟨S_, .f32⟩
  | 9 => ⟨S32x1x1280, .f32⟩
  | 10 => ⟨S32x1x1280, .f32⟩
  | 11 => ⟨S_, .f32⟩
  | 12 => ⟨S32x1x1280, .f32⟩
  | 13 => ⟨S32x1x1280, .f32⟩
  | 14 => ⟨S32x1x1280, .f32⟩
  | 15 => ⟨S32x1x1280, .f32⟩
  | 16 => ⟨S32x1x1024, .f32⟩
  | 17 => ⟨S32x1x1024, .f32⟩
  | 18 => ⟨S32x1024, .f32⟩
  | 19 => ⟨S32x1280, .f32⟩
  | 20 => ⟨S32x1280, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_2 : Ref sig .tc := ⟨.hbm, 73, rfl⟩
abbrev main_v57 : Ref sig .tc := ⟨.hbm, 74, rfl⟩
abbrev main_v58 : Ref sig .tc := ⟨.hbm, 75, rfl⟩
abbrev main_cst_3 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_4 : Ref sig .tc := ⟨.hbm, 87, rfl⟩
abbrev main_v69 : Ref sig .tc := ⟨.hbm, 88, rfl⟩
abbrev main_v70 : Ref sig .tc := ⟨.hbm, 89, rfl⟩
abbrev main_cst_5 : Ref sig .tc := ⟨.hbm, 90, rfl⟩
abbrev main_v71 : Ref sig .tc := ⟨.hbm, 91, rfl⟩
abbrev main_v72 : Ref sig .tc := ⟨.hbm, 92, rfl⟩
abbrev main_cst_6 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_7 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_8 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_9 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_10 : Ref sig .tc := ⟨.hbm, 136, rfl⟩
abbrev main_v99 : Ref sig .tc := ⟨.hbm, 137, rfl⟩
abbrev main_v100 : Ref sig .tc := ⟨.hbm, 138, rfl⟩
abbrev main_cst_11 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S32 : Shape := ⟨1, ![32]⟩
abbrev S32x1 : Shape := ⟨2, ![32, 1]⟩
abbrev S32x2816 : Shape := ⟨2, ![32, 2816]⟩

abbrev nBuf : Space → Nat
  | .hbm => 12
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S32x1024 : Shape := ⟨2, ![32, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2816 : Shape := ⟨2, ![32, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S32x2816, .f32⟩
  | .hbm, ⟨23, _⟩ => ⟨S32x2816, .f32⟩
  | .hbm, ⟨24, _⟩ => ⟨S32x2816, .f32⟩
  | .hbm, ⟨25, _⟩ => ⟨S_, .f32⟩
  | .hbm, ⟨26, _⟩ => ⟨S32x2816, .f32⟩
  | .hbm, ⟨27, _⟩ => ⟨S32x2816, .f32⟩
  | .hbm, ⟨28, _⟩ => ⟨S_, .f32⟩
  | .hbm, ⟨29, _⟩ => ⟨S32x2816, .f32⟩
  | .hbm, ⟨30, _⟩ => ⟨S32x2816, .f32⟩
  | .hbm, ⟨31, _⟩ => ⟨S32x2816, .f32⟩
  | .hbm, ⟨32, _⟩ => ⟨S32x2816, .f32⟩
  | .hbm, ⟨33, _⟩ => ⟨S32x2816, .f32⟩
  | .hbm, ⟨34, _⟩ => ⟨S32x1024, .f32⟩
  | .hbm, ⟨35, _⟩ => ⟨S32x1024, .f32⟩
  | .hbm, ⟨36, _⟩ => ⟨S32x1024, .f32⟩
  | .hbm, ⟨37, _⟩ => ⟨S_, .f32⟩
  | .hbm, ⟨38, _⟩ => ⟨S32, .f32⟩
  | .hbm, ⟨39, _⟩ => ⟨S32x1, .f32⟩
  | .hbm, ⟨40, _⟩ => ⟨S_, .f32⟩
  | .hbm, ⟨41, _⟩ => ⟨S32x1, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S32x1, .f32⟩
  | .hbm, ⟨47, _⟩ => ⟨S32x1024, .f32⟩
  | .hbm, ⟨48, _⟩ => ⟨S32x1024, .f32⟩
  | .hbm, ⟨49, _⟩ => ⟨S1x1024, .f32⟩
  | .hbm, ⟨50, _⟩ => ⟨S32x1024, .f32⟩
  | .hbm, ⟨51, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x2848 : Shape := ⟨2, ![1024, 2848]⟩
abbrev S1024x24 : Shape := ⟨2, ![1024, 24]⟩
abbrev S1024x1544 : Shape := ⟨2, ![1024, 1544]⟩
abbrev S1024x1536 : Shape := ⟨2, ![1024, 1536]⟩
abbrev S1024x8 : Shape := ⟨2, ![1024, 8]⟩
abbrev S1024x1280 : Shape := ⟨2, ![1024, 1280]⟩
abbrev S1024x2816 : Shape := ⟨2, ![1024, 2816]⟩
abbrev S1024x32 : Shape := ⟨2, ![1024, 32]⟩
abbrev S_ : Shape := ⟨0, ![]⟩
abbrev S1024x128 : Shape := ⟨2, ![1024, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S8x512x2048 : Shape := ⟨3, ![8, 512, 2048]⟩
abbrev S16384x256 : Shape := ⟨2, ![16384, 256]⟩
abbrev S8x256x2048 : Shape := ⟨3, ![8, 256, 2048]⟩
abbrev S16384x1536 : Shape := ⟨2, ![16384, 1536]⟩
abbrev S16384x128 : Shape := ⟨2, ![16384, 128]⟩
abbrev S512x1024 : Shape := ⟨2, ![512, 1024]⟩
abbrev S512x128 : Shape := ⟨2, ![512, 128]⟩
abbrev S1x512x512 : Shape := ⟨3, ![1, 512, 512]⟩
abbrev S512x256 : Shape := ⟨2, ![512, 256]⟩
abbrev S1x256x512 : Shape := ⟨3, ![1, 256, 512]⟩
abbrev S512x1536 : Shape := ⟨2, ![512, 1536]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S128x512 : Shape := ⟨2, ![128, 512]⟩
abbrev S1x128x512 : Shape := ⟨3, ![1, 128, 512]⟩
abbrev S1024x256 : Shape := ⟨2, ![1024, 256]⟩

abbrev nBuf : Space → Nat
  | .hbm => 50
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2848, .f32⟩
  | .hbm, ⟨3, _⟩ => ⟨S1024x24, .f32⟩
  | .hbm, ⟨4, _⟩ => ⟨S1024x1544, .f32⟩
  | .hbm, ⟨5, _⟩ => ⟨S1024x1536, .f32⟩
  | .hbm, ⟨6, _⟩ => ⟨S1024x8, .f32⟩
  | .hbm, ⟨7, _⟩ => ⟨S1024x1280, .f32⟩
  | .hbm, ⟨8, _⟩ => ⟨S1024x2816, .f32⟩
  | .hbm, ⟨9, _⟩ => ⟨S1024x2816, .bf16⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S2048, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S2048x32, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S1x1024, .f32⟩
  | .hbm, ⟨42, _⟩ => ⟨S8x512x2048, .f32⟩
  | .hbm, ⟨43, _⟩ => ⟨S8x512x2048, .f32⟩
  | .hbm, ⟨44, _⟩ => ⟨S16384x256, .f32⟩
  | .hbm, ⟨45, _⟩ => ⟨S8x256x2048, .f32⟩
  | .hbm, ⟨46, _⟩ => ⟨S8x256x2048, .f32⟩
  | .hbm, ⟨47, _⟩ => ⟨S16384x1536, .f32⟩
  | .hbm, ⟨48, _⟩ => ⟨S16384x128, .f32⟩
  | .hbm, ⟨49, _⟩ => ⟨S8x256x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S512x256, .f32⟩
  | .local _ .vmem, ⟨14, _⟩ => ⟨S512x256, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S512x1536, .f32⟩
  | .local _ .vmem, ⟨20, _⟩ => ⟨S512x1536, .f32⟩
  | .local _ .vmem, ⟨21, _⟩ => ⟨S512x128, .f32⟩
  | .local _ .vmem, ⟨22, _⟩ => ⟨S512x128, .f32⟩
  | .local _ .vmem, ⟨23, _⟩ => ⟨S1x256x512, .f32⟩
  | .local _ .vmem, ⟨24, _⟩ => ⟨S1x256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev main_v35_6 : Ref sig .tc := ⟨.hbm, 48, rfl⟩
abbrev main_v35_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S16384x1024 : Shape := ⟨2, ![16384, 1024]⟩
abbrev S1024 : Shape := ⟨1, ![1024]⟩
abbrev S1024x2848 : Shape := ⟨2, ![1024, 2848]⟩
abbrev S2048 : Shape := ⟨1, ![2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2848 : Shape := ⟨3, ![8, 2048, 2848]⟩
abbrev S8x2048x512 : Shape := ⟨3, ![8, 2048, 512]⟩
abbrev S8x2048x256 : Shape := ⟨3, ![8, 2048, 256]⟩
abbrev S8x2048x24 : Shape := ⟨3, ![8, 2048, 24]⟩
abbrev S8x2048x1536 : Shape := ⟨3, ![8, 2048, 1536]⟩
abbrev S8x2048x8 : Shape := ⟨3, ![8, 2048, 8]⟩
abbrev S8x2048x96 : Shape := ⟨3, ![8, 2048, 96]⟩
abbrev S8x2048x128 : Shape := ⟨3, ![8, 2048, 128]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x2x64 : Shape := ⟨4, ![8, 2048, 2, 64]⟩
abbrev S8x2048x2x32 : Shape := ⟨4, ![8, 2048, 2, 32]⟩
abbrev S8x512x2048 : Shape := ⟨3, ![8, 512, 2048]⟩
abbrev S16384x256 : Shape := ⟨2, ![16384, 256]⟩
abbrev S8x256x2048 : Shape := ⟨3, ![8, 256, 2048]⟩
abbrev S16384x1536 : Shape := ⟨2, ![16384, 1536]⟩
abbrev S16384x128 : Shape := ⟨2, ![16384, 128]⟩

abbrev nBuf : Space → Nat
  | .hbm => 145
  | .vmem => 0
  | .smem => 0
  | _ => 0

abbrev hbmTy0_0 (i : Nat) : BufTy := match i % 128 with
  | 0 => ⟨S16384x1024, .f32⟩
  | 1 => ⟨S1024, .f32⟩
  | 2 => ⟨S1024x2848, .f32⟩
  | 3 => ⟨S2048, .i32⟩
  | 4 => ⟨S8x2048x1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S8x2048x2848, .f32⟩
  | 22 => ⟨S8x2048x512, .f32⟩
  | 23 => ⟨S8x2048x256, .f32⟩
  | 24 => ⟨S8x2048x256, .f32⟩
  | 25 => ⟨S8x2048x256, .f32⟩
  | 26 => ⟨S8x2048x24, .f32⟩
  | 27 => ⟨S8x2048x1536, .f32⟩
  | 28 => ⟨S8x2048x8, .f32⟩
  | 29 => ⟨S_, .f32⟩
  | 30 => ⟨S8x2048x96, .f32⟩
  | 31 => ⟨S8x2048x128, .f32⟩
  | 32 => ⟨S8x2048x8x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S2048, .f32⟩
  | 42 => ⟨S2048x1, .f32⟩
  | 43 => ⟨S1x32, .f32⟩
  | 44 => ⟨S2048x32, .f32⟩
  | 45 => ⟨S2048x32, .f32⟩
  | 46 => ⟨S2048x32, .f32⟩
  | 47 => ⟨S2048x32, .f32⟩
  | 48 => ⟨S1x2048x1x32, .f32⟩
  | 49 => ⟨S2048x32, .f32⟩
  | 50 => ⟨S1x2048x1x32, .f32⟩
  | 51 => ⟨S8x2048x8x32, .f32⟩
  | 52 => ⟨S8x2048x8x32, .f32⟩
  | 53 => ⟨S8x2048x8x32, .f32⟩
  | 54 => ⟨S8x2048x8x32, .f32⟩
  | 55 => ⟨S8x2048x8x32, .f32⟩
  | 56 => ⟨S8x2048x8x32, .f32⟩
  | 57 => ⟨S8x2048x8x32, .f32⟩
  | 58 => ⟨S8x2048x8x32, .f32⟩
  | 59 => ⟨S8x2048x8x32, .f32⟩
  | 60 => ⟨S8x2048x8x32, .f32⟩
  | 61 => ⟨S8x2048x8x32, .f32⟩
  | 62 => ⟨S8x2048x8x32, .f32⟩
  | 63 => ⟨S8x2048x8x64, .f32⟩
  | 64 => ⟨S8x2048x512, .f32⟩
  | 65 => ⟨S8x2048x128, .f32⟩
  | 66 => ⟨S8x2048x2x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S2048, .f32⟩
  | 76 => ⟨S2048x1, .f32⟩
  | 77 => ⟨S1x32, .f32⟩
  | 78 => ⟨S2048x32, .f32⟩
  | 79 => ⟨S2048x32, .f32⟩
  | 80 => ⟨S2048x32, .f32⟩
  | 81 => ⟨S2048x32, .f32⟩
  | 82 => ⟨S1x2048x1x32, .f32⟩
  | 83 => ⟨S2048x32, .f32⟩
  | 84 => ⟨S1x2048x1x32, .f32⟩
  | 85 => ⟨S8x2048x2x32, .f32⟩
  | 86 => ⟨S8x2048x2x32, .f32⟩
  | 87 => ⟨S8x2048x2x32, .f32⟩
  | 88 => ⟨S8x2048x2x32, .f32⟩
  | 89 => ⟨S8x2048x2x32, .f32⟩
  | 90 => ⟨S8x2048x2x32, .f32⟩
  | 91 => ⟨S8x2048x2x32, .f32⟩
  | 92 => ⟨S8x2048x2x32, .f32⟩
  | 93 => ⟨S8x2048x2x32, .f32⟩
  | 94 => ⟨S8x2048x2x32, .f32⟩
  | 95 => ⟨S8x2048x2x32, .f32⟩
  | 96 => ⟨S8x2048x2x32, .f32⟩
  | 97 => ⟨S8x2048x2x64, .f32⟩
  | 98 => ⟨S8x2048x128, .f32⟩
  | 99 => ⟨S8x2048x128, .f32⟩
  | 100 => ⟨S8x2048x256, .f32⟩
  | 101 => ⟨S8x2048x128, .f32⟩
  | 102 => ⟨S8x2048x2x64, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S2048, .f32⟩
  | 112 => ⟨S2048x1, .f32⟩
  | 113 => ⟨S1x32, .f32⟩
  | 114 => ⟨S2048x32, .f32⟩
  | 115 => ⟨S2048x32, .f32⟩
  | 116 => ⟨S2048x32, .f32⟩
  | 117 => ⟨S2048x32, .f32⟩
  | 118 => ⟨S1x2048x1x32, .f32⟩
  | 119 => ⟨S2048x32, .f32⟩
  | 120 => ⟨S1x2048x1x32, .f32⟩
  | 121 => ⟨S8x2048x2x32, .f32⟩
  | 122 => ⟨S8x2048x2x32, .f32⟩
  | 123 => ⟨S8x2048x2x32, .f32⟩
  | 124 => ⟨S8x2048x2x32, .f32⟩
  | 125 => ⟨S8x2048x2x32, .f32⟩
  | 126 => ⟨S8x2048x2x32, .f32⟩
  | 127 => ⟨S8x2048x2x32, .f32⟩
  | _ => ⟨S16384x1024, .f32⟩

abbrev hbmTy0_1 (i : Nat) : BufTy := match i % 128 with
  | 0 => ⟨S8x2048x2x32, .f32⟩
  | 1 => ⟨S8x2048x2x32, .f32⟩
  | 2 => ⟨S8x2048x2x32, .f32⟩
  | 3 => ⟨S8x2048x2x32, .f32⟩
  | 4 => ⟨S8x2048x2x32, .f32⟩
  | 5 => ⟨S8x2048x2x64, .f32⟩
  | 6 => ⟨S8x2048x128, .f32⟩
  | 7 => ⟨S8x2048x128, .f32⟩
  | 8 => ⟨S8x2048x256, .f32⟩
  | 9 => ⟨S8x512x2048, .f32⟩
  | 10 => ⟨S8x512x2048, .f32⟩
  | 11 => ⟨S16384x256, .f32⟩
  | 12 => ⟨S8x256x2048, .f32⟩
  | 13 => ⟨S8x256x2048, .f32⟩
  | 14 => ⟨S16384x1536, .f32⟩
  | 15 => ⟨S16384x128, .f32⟩
  | 16 => ⟨S8x256x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩

abbrev nD : Nat := 1
abbrev τ : Topo := Topo.v7x

variable {F : FTy → Type} [FloatOps F]
-- ==== Kernel7.lean ====
abbrev S32x1024 : Shape := ⟨2, ![32, 1024]⟩
abbrev S1024 : Shape := ⟨1, ![1024]⟩
abbrev S1024x2848 : Shape := ⟨2, ![1024, 2848]⟩
abbrev S1024x24 : Shape := ⟨2, ![1024, 24]⟩
abbrev S1024x1544 : Shape := ⟨2, ![1024, 1544]⟩
abbrev S1024x1536 : Shape := ⟨2, ![1024, 1536]⟩
abbrev S1024x8 : Shape := ⟨2, ![1024, 8]⟩
abbrev S1024x1280 : Shape := ⟨2, ![1024, 1280]⟩
abbrev S1024x2816 : Shape := ⟨2, ![1024, 2816]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x1024 : Shape := ⟨2, ![1, 1024]⟩
abbrev S32x512 : Shape := ⟨2, ![32, 512]⟩
abbrev S32x256 : Shape := ⟨2, ![32, 256]⟩
abbrev S32x1536 : Shape := ⟨2, ![32, 1536]⟩
abbrev S1024x512 : Shape := ⟨2, ![1024, 512]⟩
abbrev S1024x256 : Shape := ⟨2, ![1024, 256]⟩

abbrev nBuf : Space → Nat
  | .hbm => 50
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2848, .f32⟩
  | .hbm, ⟨3, _⟩ => ⟨S1024x24, .f32⟩
  | .hbm, ⟨4, _⟩ => ⟨S1024x1544, .f32⟩
  | .hbm, ⟨5, _⟩ => ⟨S1024x1536, .f32⟩
  | .hbm, ⟨6, _⟩ => ⟨S1024x8, .f32⟩
  | .hbm, ⟨7, _⟩ => ⟨S1024x1280, .f32⟩
  | .hbm, ⟨8, _⟩ => ⟨S1024x2816, .f32⟩
  | .hbm, ⟨9, _⟩ => ⟨S1024x2816, .bf16⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S_, .i32⟩
  | .hbm, ⟨16, _⟩ => ⟨S32, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32x1, .f32⟩
  | .hbm, ⟨27, _⟩ => ⟨S1x32, .f32⟩
  | .hbm, ⟨28, _⟩ => ⟨S32x32, .f32⟩
  | .hbm, ⟨29, _⟩ => ⟨S32x32, .f32⟩
  | .hbm, ⟨30, _⟩ => ⟨S32x32, .f32⟩
  | .hbm, ⟨31, _⟩ => ⟨S32x32, .f32⟩
  | .hbm, ⟨32, _⟩ => ⟨S32x32, .f32⟩
  | .hbm, ⟨33, _⟩ => ⟨S32x64, .f32⟩
  | .hbm, ⟨34, _⟩ => ⟨S1x32x1x64, .f32⟩
  | .hbm, ⟨35, _⟩ => ⟨S1x32x2x64, .f32⟩
  | .hbm, ⟨36, _⟩ => ⟨S32x128, .f32⟩
  | .hbm, ⟨37, _⟩ => ⟨S32x32, .f32⟩
  | .hbm, ⟨38, _⟩ => ⟨S32x64, .f32⟩
  | .hbm, ⟨39, _⟩ => ⟨S1x32x1x64, .f32⟩
  | .hbm, ⟨40, _⟩ => ⟨S1x32x2x64, .f32⟩
  | .hbm, ⟨41, _⟩ => ⟨S32x128, .f32⟩
  | .hbm, ⟨42, _⟩ => ⟨S1x1024, .f32⟩
  | .hbm, ⟨43, _⟩ => ⟨S32x512, .f32⟩
  | .hbm, ⟨44, _⟩ => ⟨S32x512, .f32⟩
  | .hbm, ⟨45, _⟩ => ⟨S32x256, .f32⟩
  | .hbm, ⟨46, _⟩ => ⟨S32x256, .f32⟩
  | .hbm, ⟨47, _⟩ => ⟨S32x256, .f32⟩
  | .hbm, ⟨48, _⟩ => ⟨S32x1536, .f32⟩
  | .hbm, ⟨49, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x2816, .bf16⟩
  | .local _ .vmem, ⟨3, _⟩ => ⟨S1024x128, .bf16⟩
  | .local _ .vmem, ⟨4, _⟩ => ⟨S32x128, .f32⟩
  | .local _ .vmem, ⟨5, _⟩ => ⟨S32x128, .f32⟩
  | .local _ .vmem, ⟨6, _⟩ => ⟨S32x512, .f32⟩
  | .local _ .vmem, ⟨7, _⟩ => ⟨S32x512, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x1536, .f32⟩
  | .local _ .vmem, ⟨12, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev main_v35_4 : Ref sig .tc := ⟨.hbm, 47, rfl⟩
abbrev main_v35_5 : Ref sig .tc := ⟨.hbm, 48, rfl⟩
abbrev main_v35_6 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S32x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== Reference7Ideal.lean ====
abbrev S32x1024 : Shape := ⟨2, ![32, 1024]⟩
abbrev S1024 : Shape := ⟨1, ![1024]⟩
abbrev S1024x2848 : Shape := ⟨2, ![1024, 2848]⟩
abbrev S1 : Shape := ⟨1, ![1]⟩
abbrev S_ : Shape := ⟨0, ![]⟩
abbrev S32x1x1024 : Shape := ⟨3, ![32, 1, 1024]⟩
abbrev S32x1 : Shape := ⟨2, ![32, 1]⟩
abbrev S32x1x1 : Shape := ⟨3, ![32, 1, 1]⟩
abbrev S1x1x1024 : Shape := ⟨3, ![1, 1, 1024]⟩
abbrev S32x1x2848 : Shape := ⟨3, ![32, 1, 2848]⟩
abbrev S32x1x512 : Shape := ⟨3, ![32, 1, 512]⟩
abbrev S32x1x256 : Shape := ⟨3, ![32, 1, 256]⟩
abbrev S32x1x24 : Shape := ⟨3, ![32, 1, 24]⟩
abbrev S32x1x1536 : Shape := ⟨3, ![32, 1, 1536]⟩
abbrev S32x1x8 : Shape := ⟨3, ![32, 1, 8]⟩
abbrev S32x1x96 : Shape := ⟨3, ![32, 1, 96]⟩
abbrev S32x1x128 : Shape := ⟨3, ![32, 1, 128]⟩
abbrev S32x1x8x64 : Shape := ⟨4, ![32, 1, 8, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S32x1x8x32 : Shape := ⟨4, ![32, 1, 8, 32]⟩
abbrev S32x1x2x64 : Shape := ⟨4, ![32, 1, 2, 64]⟩
abbrev S32x1x2x32 : Shape := ⟨4, ![32, 1, 2, 32]⟩
abbrev S32x512 : Shape := ⟨2, ![32, 512]⟩
abbrev S32x256 : Shape := ⟨2, ![32, 256]⟩
abbrev S32x1536 : Shape := ⟨2, ![32, 1536]⟩
abbrev S32x128 : Shape := ⟨2, ![32, 128]⟩

abbrev nBuf : Space → Nat
  | .hbm => 144
  | .vmem => 0
  | .smem => 0
  | _ => 0

abbrev hbmTy0_0 (i : Nat) : BufTy := match i % 128 with
  | 0 => ⟨S32x1024, .f32⟩
  | 1 => ⟨S1024, .f32⟩
  | 2 => ⟨S1024x2848, .f32⟩
  | 3 => ⟨S1, .i32⟩
  | 4 => ⟨S_, .i32⟩
  | 5 => ⟨S1, .i32⟩
  | 6 => ⟨S1, .i32⟩
  | 7 => ⟨S32x1x1024, .f32⟩
  | 8 => ⟨S32x1x1024, .f32⟩
  | 9 => ⟨S_, .f32⟩
  | 10 => ⟨S32x1, .f32⟩
  | 11 => ⟨S32x1x1, .f32⟩
  | 12 => ⟨S_, .f32⟩
  | 13 => ⟨S32x1x1, .f32⟩
  | 14 => ⟨S32x1x1, .f32⟩
  | 15 => ⟨S_, .f32⟩
  | 16 => ⟨S32x1x1, .f32⟩
  | 17 => ⟨S32x1x1, .f32⟩
  | 18 => ⟨S32x1x1, .f32⟩
  | 19 => ⟨S32x1x1024, .f32⟩
  | 20 => ⟨S32x1x1024, .f32⟩
  | 21 => ⟨S1x1x1024, .f32⟩
  | 22 => ⟨S32x1x1024, .f32⟩
  | 23 => ⟨S32x1x1024, .f32⟩
  | 24 => ⟨S32x1x2848, .f32⟩
  | 25 => ⟨S32x1x512, .f32⟩
  | 26 => ⟨S32x1x256, .f32⟩
  | 27 => ⟨S32x1x256, .f32⟩
  | 28 => ⟨S32x1x256, .f32⟩
  | 29 => ⟨S32x1x24, .f32⟩
  | 30 => ⟨S32x1x1536, .f32⟩
  | 31 => ⟨S32x1x8, .f32⟩
  | 32 => ⟨S_, .f32⟩
  | 33 => ⟨S32x1x96, .f32⟩
  | 34 => ⟨S32x1x128, .f32⟩
  | 35 => ⟨S32x1x8x64, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S1, .f32⟩
  | 45 => ⟨S1x1, .f32⟩
  | 46 => ⟨S1x32, .f32⟩
  | 47 => ⟨S1x32, .f32⟩
  | 48 => ⟨S1x32, .f32⟩
  | 49 => ⟨S1x32, .f32⟩
  | 50 => ⟨S1x1x1x32, .f32⟩
  | 51 => ⟨S1x32, .f32⟩
  | 52 => ⟨S1x1x1x32, .f32⟩
  | 53 => ⟨S32x1x8x32, .f32⟩
  | 54 => ⟨S32x1x8x32, .f32⟩
  | 55 => ⟨S32x1x8x32, .f32⟩
  | 56 => ⟨S32x1x8x32, .f32⟩
  | 57 => ⟨S32x1x8x32, .f32⟩
  | 58 => ⟨S32x1x8x32, .f32⟩
  | 59 => ⟨S32x1x8x32, .f32⟩
  | 60 => ⟨S32x1x8x32, .f32⟩
  | 61 => ⟨S32x1x8x32, .f32⟩
  | 62 => ⟨S32x1x8x32, .f32⟩
  | 63 => ⟨S32x1x8x32, .f32⟩
  | 64 => ⟨S32x1x8x32, .f32⟩
  | 65 => ⟨S32x1x8x64, .f32⟩
  | 66 => ⟨S32x1x512, .f32⟩
  | 67 => ⟨S32x1x128, .f32⟩
  | 68 => ⟨S32x1x2x64, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S1, .f32⟩
  | 78 => ⟨S1x1, .f32⟩
  | 79 => ⟨S1x32, .f32⟩
  | 80 => ⟨S1x32, .f32⟩
  | 81 => ⟨S1x32, .f32⟩
  | 82 => ⟨S1x32, .f32⟩
  | 83 => ⟨S1x1x1x32, .f32⟩
  | 84 => ⟨S1x32, .f32⟩
  | 85 => ⟨S1x1x1x32, .f32⟩
  | 86 => ⟨S32x1x2x32, .f32⟩
  | 87 => ⟨S32x1x2x32, .f32⟩
  | 88 => ⟨S32x1x2x32, .f32⟩
  | 89 => ⟨S32x1x2x32, .f32⟩
  | 90 => ⟨S32x1x2x32, .f32⟩
  | 91 => ⟨S32x1x2x32, .f32⟩
  | 92 => ⟨S32x1x2x32, .f32⟩
  | 93 => ⟨S32x1x2x32, .f32⟩
  | 94 => ⟨S32x1x2x32, .f32⟩
  | 95 => ⟨S32x1x2x32, .f32⟩
  | 96 => ⟨S32x1x2x32, .f32⟩
  | 97 => ⟨S32x1x2x32, .f32⟩
  | 98 => ⟨S32x1x2x64, .f32⟩
  | 99 => ⟨S32x1x128, .f32⟩
  | 100 => ⟨S32x1x128, .f32⟩
  | 101 => ⟨S32x1x256, .f32⟩
  | 102 => ⟨S32x1x128, .f32⟩
  | 103 => ⟨S32x1x2x64, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S1, .f32⟩
  | 113 => ⟨S1x1, .f32⟩
  | 114 => ⟨S1x32, .f32⟩
  | 115 => ⟨S1x32, .f32⟩
  | 116 => ⟨S1x32, .f32⟩
  | 117 => ⟨S1x32, .f32⟩
  | 118 => ⟨S1x1x1x32, .f32⟩
  | 119 => ⟨S1x32, .f32⟩
  | 120 => ⟨S1x1x1x32, .f32⟩
  | 121 => ⟨S32x1x2x32, .f32⟩
  | 122 => ⟨S32x1x2x32, .f32⟩
  | 123 => ⟨S32x1x2x32, .f32⟩
  | 124 => ⟨S32x1x2x32, .f32⟩
  | 125 => ⟨S32x1x2x32, .f32⟩
  | 126 => ⟨S32x1x2x32, .f32⟩
  | 127 => ⟨S32x1x2x32, .f32⟩
  | _ => ⟨S32x1024, .f32⟩

abbrev hbmTy0_1 (i : Nat) : BufTy := match i % 128 with
  | 0 => ⟨S32x1x2x32, .f32⟩
  | 1 => ⟨S32x1x2x32, .f32⟩
  | 2 => ⟨S32x1x2x32, .f32⟩
  | 3 => ⟨S32x1x2x32, .f32⟩
  | 4 => ⟨S32x1x2x32, .f32⟩
  | 5 => ⟨S32x1x2x64, .f32⟩
  | 6 => ⟨S32x1x128, .f32⟩
  | 7 => ⟨S32x1x128, .f32⟩
  | 8 => ⟨S32x1x256, .f32⟩
  | 9 => ⟨S32x512, .f32⟩
  | 10 => ⟨S32x512, .f32⟩
  | 11 => ⟨S32x256, .f32⟩
  | 12 => ⟨S32x256, .f32⟩
  | 13 => ⟨S32x256, .f32⟩
  | 14 => ⟨S32x1536, .f32⟩
  | 15 => ⟨S32x128, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_7 : Ref sig .tc := ⟨.hbm, 106, rfl⟩
abbrev main_v94 : Ref sig .tc := ⟨.hbm, 107, rfl⟩
abbrev main_v95 : Ref sig .tc := ⟨.hbm, 108, rfl⟩
abbrev main_cst_8 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩

abbrev nD : Nat := 1
abbrev τ : Topo := Topo.v7x

variable {F : FTy → Type} [FloatOps F]
-- ==== Proof.LruRefRun.lean ====
/-
  The run of the recurrent layer's reference: what every buffer holds at the end, which buffers it leaves alone, and
  that it leaves every argument alone.
-/
module

public import proofs.«01_k».proof.Defs
public import proofs.«01_k».proof.Proof.Gen.ReferenceIdeal
public import proofs.«01_k».proof.Proof.Gen.ReferenceIdeal.Run

@[expose] public section

set_option maxRecDepth 16384

noncomputable section

namespace Cert.LruRefRun

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- What the operations after the loop write. -/
abbrev afterLoop : List (Ref sig .tc) :=
  [main_v95, main_v96, main_v97, main_cst_11, main_v98, main_v99, main_v100, main_cst_12, main_v101, main_v102,
    main_v103, main_cst_13, main_v104, main_v105, main_cst_14, main_v106, main_v107, main_v108, main_v109, main_v110,
    main_v111, main_v112, main_v113, main_v114, main_v115]

theorem afterLoop_writes : (hostOps0_3 : List (HloOp τ sig (Elt F))).Forall fun op =>
    op.writes ⊆ (afterLoop.map (Proc.devRef (τ := τ) .tc)).toFinset :=
  StableHlo.forall_writes_sub_of_map rfl

/-- What the loop writes. -/
abbrev inLoop : List (Ref sig .tc) :=
  condOps_W ++ while0Ops0_W ++ while0Ops0_1_W ++ while0Ops0_2_W ++ while0Ops0_3_W ++ while0Ops0_4_W

/-- What the operations before the loop write. -/
abbrev beforeLoop : List (Ref sig .tc) := hostOps0_W ++ hostOps0_1_W ++ hostOps0_2_W

/-- The loop leaves alone what its operations do not write. -/
theorem loop_keeps (c : Dev nD) (r : Ref sig .tc) (h : r ∉ inLoop) :
    ∀ k, atK m k c (Proc.devRef .tc r) = entryContents preI m c (Proc.devRef .tc r)
  | 0 => rfl
  | k + 1 => by
    simp only [inLoop, List.mem_append, not_or] at h
    obtain ⟨⟨⟨⟨⟨h0, h1⟩, h2⟩, h3⟩, h4⟩, h5⟩ := h
    rw [show atK m (k + 1) c = afterL bodyI (after condOps (atK m k c)) from rfl]
    simp only [bodyI, afterL_cons, afterL_nil]
    rw [after_of_writes_sub _ _ while0Ops0_4_writes h5, after_of_writes_sub _ _ while0Ops0_3_writes h4,
      after_of_writes_sub _ _ while0Ops0_2_writes h3, after_of_writes_sub _ _ while0Ops0_1_writes h2,
      after_of_writes_sub _ _ while0Ops0_writes h1, after_of_writes_sub _ _ condOps_writes h0]
    exact loop_keeps c r (by simp only [inLoop, List.mem_append, not_or]; exact ⟨⟨⟨⟨⟨h0, h1⟩, h2⟩, h3⟩, h4⟩, h5⟩) k

/-- The loop's last exit test leaves alone what the loop's carried contents name. -/
theorem final_of (c : Dev nD) (r : Ref sig .tc) (h : r ∉ afterLoop) (h' : r ∉ condOps_W) :
    finalContents condOps preI bodyI postI 2048 m c (Proc.devRef .tc r) = atK m 2048 c (Proc.devRef .tc r) := by
  simp only [finalContents, postI, afterL_cons, afterL_nil]
  rw [after_of_writes_sub _ _ afterLoop_writes h, after_of_writes_sub _ _ condOps_writes h']

/-- A buffer that nothing writes ends as it began. -/
theorem untouched (c : Dev nD) (r : Ref sig .tc) (h : r ∉ afterLoop) (h' : r ∉ inLoop) (h'' : r ∉ beforeLoop) :
    finalContents condOps preI bodyI postI 2048 m c (Proc.devRef .tc r) = m ((c.tc : Thread nD τ).loc r) := by
  rw [final_of m c r h (fun e => h' (by simp only [inLoop, List.mem_append]; tauto)), loop_keeps m c r h']
  simp only [beforeLoop, List.mem_append, not_or] at h''
  simp only [entryContents, preI, afterL_cons, afterL_nil]
  rw [after_of_writes_sub _ _ hostOps0_2_writes h''.2, after_of_writes_sub _ _ hostOps0_1_writes h''.1.2,
    after_of_writes_sub _ _ hostOps0_writes h''.1.1]

/-- The arguments end as they began. -/
theorem args_kept (c : Dev nD) (mem : (ℓ : Loc nD τ sig) → Buf (Elt F) ℓ)
    (h : ∀ (b : Ref sig .tc), (Proc.devRef .tc b : DevRef τ sig).isScoped = false →
      mem ((c.tc : Thread nD τ).loc b) = finalContents condOps preI bodyI postI 2048 m c (Proc.devRef .tc b)) :
    ∀ b ∈ [main_arg0, main_arg1, main_arg2, main_arg3, main_arg4, main_arg5, main_arg6, main_arg7, main_arg8,
      main_arg9, main_arg10], mem ((c.tc : Thread nD τ).loc b) = m ((c.tc : Thread nD τ).loc b) := by
  have key : ∀ b ∈ [main_arg0, main_arg1, main_arg2, main_arg3, main_arg4, main_arg5, main_arg6, main_arg7, main_arg8,
      main_arg9, main_arg10], (Proc.devRef .tc b : DevRef τ sig).isScoped = false ∧ b ∉ afterLoop ∧ b ∉ inLoop ∧
      b ∉ beforeLoop := by decide +kernel
  intro b hb
  obtain ⟨k1, k2, k3, k4⟩ := key b hb
  rw [h b k1, untouched m c b k2 k3 k4]

/-- The reference's frame. -/
theorem frame : Cert.quiescent_ReferenceIdeal := fun m ρ _ =>
  (θ_run Cert.ReferenceIdeal.defs _ _).mono (fun r h => ⟨fun c => by
      have k := args_kept m c r.2.mem (h c)
      refine ⟨?_, ?_, ?_, ?_, ?_, ?_, ?_, ?_, ?_, ?_, ?_⟩ <;> exact k _ (by simp),
    Idealize.ShloMosaic.sem_eq_zero_of_no_sems (by decide) r.2⟩)
    (run_fold (F := Ideal) m ρ)

end Cert.LruRefRun

end
-- ==== Proof.LruChain.lean ====
/-
  The kernel's 64 unrolled blocks of eight rows as one recursion. `scanned` is what one block computes from the decays,
  the inputs and the state carried in, `lastRow` spreads its last row into the state carried out, and `carried` is the
  state after a number of blocks. The stores of the unrolled body are this recursion's.
-/
module

public import proofs.«01_k».proof.Proof.Gen.KernelIdeal.Skeleton

@[expose] public section

set_option maxRecDepth 16384

noncomputable section

namespace Cert.LruChain

open Idealize.ShloMosaic Idealize.ShloMosaic.TcCoe Idealize.SL.Sem
open Cert.KernelIdeal Cert.KernelIdeal.Gen

variable {F : FTy → Type} [FloatOps F]

/-- Each row's entry `d` rows above, and `fill` in the first `d` rows. -/
def above (d : BitVec 32) (fill : F .f32) (x : FVec F S8x1280 .f32) : FVec F S8x1280 .f32 :=
  select (cmpi .sge (iota .tc S8x1280 32 [0] iota_S8x1280_d0_w32) (broadcast S8x1280 d))
    (dynamicRotate 0 d none x rotates_S8x1280_d0) (broadcast S8x1280 fill)

/-- The products of decays over twice as many rows. -/
def nextA (d : BitVec 32) (a : FVec F S8x1280 .f32) : FVec F S8x1280 .f32 :=
  mulf a (above d (Scalar.ofBits .f32 0x3F800000#32) a)

/-- The inputs gathered over twice as many rows. -/
def nextB (d : BitVec 32) (a b : FVec F S8x1280 .f32) : FVec F S8x1280 .f32 :=
  addf (mulf a (above d (Scalar.ofBits .f32 0x00000000#32) b)) b

/-- One block's states from its decays, its inputs and the state before it. -/
def scanned (a b h : FVec F S8x1280 .f32) : FVec F S8x1280 .f32 :=
  addf (mulf (nextA 4#32 (nextA 2#32 (nextA 1#32 a))) h)
    (nextB 4#32 (nextA 2#32 (nextA 1#32 a)) (nextB 2#32 (nextA 1#32 a) (nextB 1#32 a b)))

/-- A block's last row in all of the eight rows. -/
def lastRow (x : FVec F S8x1280 .f32) : FVec F S8x1280 .f32 :=
  broadcastTo S8x1280 (shapeCast S1x1280 (extractStridedSlice S1x1280 ![7, 0] x slices_S8x1280_o7_0_S1x1280)
    shapeCasts_S1x1280_S1x1280) broadcasts_S1x1280_S8x1280

/-- Eight rows from row `8 i` on lie in the tile. -/
theorem rows_inb (i : Fin 64) : ∀ a, (![8 * i.val, 0] : Fin 2 → Nat) a + S8x1280.size a ≤ S512x1280.size a := by
  intro a
  have := i.isLt
  fin_cases a
  · show 8 * i.val + 8 ≤ 512
    omega
  · show 0 + 1280 ≤ 1280
    omega

/-- The rows of block `i`. -/
abbrev rows (i : Fin 64) : Rect S512x1280 := Rect.unit ![8 * i.val, 0] S8x1280.size (rows_inb i)

variable (A B : Fin 64 → FVec F S8x1280 .f32) (h : FVec F S8x1280 .f32)

/-- The state after `n` blocks. -/
def carried : (n : ℕ) → n ≤ 64 → FVec F S8x1280 .f32
  | 0, _ => h
  | n + 1, hn => lastRow (scanned (A ⟨n, hn⟩) (B ⟨n, hn⟩) (carried n (Nat.le_of_succ_le hn)))

/-- The stores of the first `n` blocks, the last one first. -/
def stores : (n : ℕ) → n ≤ 64 → List (View.Piece (Elt F) S512x1280 .f32)
  | 0, _ => []
  | n + 1, hn => ⟨rows ⟨n, hn⟩, shapeCast S8x1280 (scanned (A ⟨n, hn⟩) (B ⟨n, hn⟩) (carried A B h n (Nat.le_of_succ_le hn)))
      shapeCasts_S8x1280_S8x1280⟩ :: stores n (Nat.le_of_succ_le hn)

end Cert.LruChain

end
-- ==== Proof.LruHeads.lean ====
/-
  The kernel's gates, one head of 128 columns at a time, as one definition for all ten heads.
-/
module

public import proofs.«01_k».proof.Proof.Gen.KernelIdeal.Skeleton

@[expose] public section

set_option maxRecDepth 16384

noncomputable section

namespace Cert.LruHeads

open Idealize.ShloMosaic Idealize.ShloMosaic.TcCoe Idealize.SL.Sem
open Cert.KernelIdeal Cert.KernelIdeal.Gen

variable {F : FTy → Type} [FloatOps F]

theorem slices_tile (e : Fin 10) : S512x1280.Slices ![0, 128 * e.val] S512x128 := by
  revert e; decide +kernel

theorem slices_row (e : Fin 10) : S1x1280.Slices ![0, 128 * e.val] S1x128 := by
  revert e; decide +kernel

theorem inb_weight (e : Fin 10) : ∀ a, (![e.val, 0, 0] : Fin 3 → Nat) a + S1x128x128.size a ≤ S10x128x128.size a := by
  revert e; decide +kernel

theorem inb_bias (e : Fin 10) : ∀ a, (![0, 128 * e.val] : Fin 2 → Nat) a + S1x128.size a ≤ S1x1280.size a := by
  revert e; decide +kernel

/-- The weights of head `e`. -/
abbrev weightOf (e : Fin 10) : Rect S10x128x128 := Rect.unit ![e.val, 0, 0] S1x128x128.size (inb_weight e)

/-- The biases of head `e`. -/
abbrev biasOf (e : Fin 10) : Rect S1x1280 := Rect.unit ![0, 128 * e.val] S1x128.size (inb_bias e)

/-- Head `e`'s columns. -/
def headOf (e : Fin 10) (x : FVec F S512x1280 .f32) : FVec F S512x128 .f32 :=
  extractStridedSlice S512x128 ![0, 128 * e.val] x (slices_tile e)

/-- A gate of head `e`. -/
def headGate (e : Fin 10) (x : FVec F S512x1280 .f32) (w : FVec F S1x128x128 .bf16) (b : FVec F S1x128 .f32) :
    FVec F S512x128 .f32 :=
  logistic (addf (matmul dot_S512x128_S128x128_S512x128_1_0_0_1_n_n none (truncf .bf16 (headOf e x) bitsLt_bf16_f32)
    (shapeCast S128x128 w shapeCasts_S1x128x128_S128x128) (constant S512x128 .f32 0x00000000#32))
    (broadcastTo S512x128 (shapeCast S1x128 b shapeCasts_S1x128_S1x128) broadcasts_S1x128_S512x128))

/-- The decays of head `e`. -/
def headDecay (e : Fin 10) (x : FVec F S512x1280 .f32) (sp : FVec F S1x1280 .f32) (w : FVec F S1x128x128 .bf16)
    (b : FVec F S1x128 .f32) : FVec F S512x128 .f32 :=
  exp (mulf (mulf (broadcast S512x128 (Scalar.ofBits .f32 0xC1000000#32)) (headGate e x w b))
    (broadcastTo S512x128 (extractStridedSlice S1x128 ![0, 128 * e.val] sp (slices_row e)) broadcasts_S1x128_S512x128))

/-- The gated inputs of head `e`. -/
def headInput (e : Fin 10) (x : FVec F S512x1280 .f32) (sp : FVec F S1x1280 .f32) (w w' : FVec F S1x128x128 .bf16)
    (b b' : FVec F S1x128 .f32) : FVec F S512x128 .f32 :=
  mulf (sqrt (subf (broadcast S512x128 (Scalar.ofBits .f32 0x3F800000#32))
    (mulf (headDecay e x sp w b) (headDecay e x sp w b)))) (mulf (headGate e x w' b') (headOf e x))

/-- The decays of a tile, head beside head. -/
def decays (x : FVec F S512x1280 .f32) (sp : FVec F S1x1280 .f32) (w : Fin 10 → FVec F S1x128x128 .bf16)
    (b : Fin 10 → FVec F S1x128 .f32) : FVec F S512x1280 .f32 :=
  concatenate S512x1280 1 (List.ofFn fun e : Fin 10 => ⟨S512x128, headDecay e x sp (w e) (b e)⟩)
    concatenates_S512x128_S512x128_S512x128_S512x128_S512x128_S512x128_S512x128_S512x128_S512x128_S512x128_S512x1280_d1

/-- The gated inputs of a tile, head beside head. -/
def inputs (x : FVec F S512x1280 .f32) (sp : FVec F S1x1280 .f32) (w w' : Fin 10 → FVec F S1x128x128 .bf16)
    (b b' : Fin 10 → FVec F S1x128 .f32) : FVec F S512x1280 .f32 :=
  concatenate S512x1280 1 (List.ofFn fun e : Fin 10 => ⟨S512x128, headInput e x sp (w e) (w' e) (b e) (b' e)⟩)
    concatenates_S512x128_S512x128_S512x128_S512x128_S512x128_S512x128_S512x128_S512x128_S512x128_S512x128_S512x1280_d1

end Cert.LruHeads

end
-- ==== Proof.LruBody.lean ====
/-
  What one grid point of the recurrent layer stores, read off the unrolled body: the tile's projections, its
  convolution, its ten heads of gates and the 64 blocks of the recurrence, whichever contents the point found in the
  two scratch buffers that it carries.
-/
module

public import proofs.«01_k».proof.Proof.Gen.KernelIdeal.Frame
public import proofs.«01_k».proof.Proof.LruChain
public import proofs.«01_k».proof.Proof.LruHeads
public import Idealize.ShloMosaic.Lib.Pipeline.ValueKit
public import Idealize.ShloMosaic.Lib.Pipeline.ReadBack

@[expose] public section

set_option maxRecDepth 16384

noncomputable section

namespace Cert.LruBody

open Idealize.ShloMosaic Idealize.ShloMosaic.TcCoe Idealize.ShloMosaic.Tactic Idealize.SL.Sem
open Cert.KernelIdeal Cert.KernelIdeal.Gen Cert.LruChain Cert.LruHeads

variable {F : FTy → Type} [FloatOps F]

/-- The stores into the padded tile: the eight rows before it, then the tile. -/
abbrev padded (tail : Vec F S8x1280 .f32) (u : FVec F S512x1280 .f32) : List (View.Piece (Elt F) S520x1280 .f32) :=
  [⟨Rect.unit (s := S520x1280) ![8, 0] S512x1280.size inb_S520x1280_S512x1280_8_0, shapeCast S512x1280 u shapeCasts_S512x1280_S512x1280⟩,
    ⟨Rect.unit (s := S520x1280) ![0, 0] S8x1280.size inb_S520x1280_S8x1280_0_0, shapeCast S8x1280 tail shapeCasts_S8x1280_S8x1280⟩]

/-- The whole of a tile. -/
abbrev whole : Rect S512x1280 := Rect.unit ![0, 0] S512x1280.size inb_S512x1280_S512x1280_0_0

/-- The whole of a carried scratch buffer. -/
abbrev whole8 : Rect S8x1280 := Rect.unit ![0, 0] S8x1280.size inb_S8x1280_S8x1280_0_0

/-- The softplus of the decay parameters, negated first. -/
abbrev softplus (lam : Vec F S1x1280 .f32) : FVec F S1x1280 .f32 := k0_pay14 (k0_pay12 lam) (k0_pay13 lam)

theorem inb_tap (e : Fin 4) : ∀ a, (![e.val, 0] : Fin 2 → Nat) a + S1x1280.size a ≤ S4x1280.size a := by
  revert e; decide +kernel

/-- The convolution's weights `e`. -/
abbrev tap (e : Fin 4) : Rect S4x1280 := Rect.unit ![e.val, 0] S1x1280.size (inb_tap e)

section Loads

variable
  (c : Dev nD) (i : grid0.Coords) (arg2 : Memref sig .tc .vmem S512x1024 .f32) (harg2 : arg2.IsWhole)
  (arg3 : Memref sig .tc .vmem S1x1024 .f32) (harg3 : arg3.IsWhole)
  (arg4 : Memref sig .tc .vmem S1024x2560 .bf16) (harg4 : arg4.IsWhole)
  (arg5 : Memref sig .tc .vmem S4x1280 .f32) (harg5 : arg5.IsWhole) (arg6 : Memref sig .tc .vmem S1x1280 .f32)
  (harg6 : arg6.IsWhole) (arg7 : Memref sig .tc .vmem S10x128x128 .bf16) (harg7 : arg7.IsWhole)
  (arg8 : Memref sig .tc .vmem S1x1280 .f32) (harg8 : arg8.IsWhole)
  (arg9 : Memref sig .tc .vmem S10x128x128 .bf16) (harg9 : arg9.IsWhole)
  (arg10 : Memref sig .tc .vmem S1x1280 .f32) (harg10 : arg10.IsWhole)
  (arg11 : Memref sig .tc .vmem S1x1280 .f32) (harg11 : arg11.IsWhole)
  (arg12 : Memref sig .tc .vmem S1280x1024 .bf16) (harg12 : arg12.IsWhole)
  (arg13 : Memref sig .tc .vmem S512x1024 .f32) (harg13 : arg13.IsWhole)
  (arg14 : Memref sig .tc .vmem S1x1x1280 .f32) (harg14 : arg14.IsWhole)
  (arg15 : Memref sig .tc .vmem S1x3x1280 .f32) (harg15 : arg15.IsWhole)
  (arg16 : Memref sig .tc .vmem S8x1280 .f32) (harg16 : arg16.IsWhole)
  (arg17 : Memref sig .tc .vmem S8x1280 .f32) (harg17 : arg17.IsWhole)
  (arg18 : Memref sig .tc .vmem S512x1280 .f32) (harg18 : arg18.IsWhole)
  (arg19 : Memref sig .tc .vmem S512x1280 .f32) (harg19 : arg19.IsWhole)
  (arg20 : Memref sig .tc .vmem S512x1280 .f32) (harg20 : arg20.IsWhole)
  (arg21 : Memref sig .tc .vmem S520x1280 .f32) (harg21 : arg21.IsWhole)
  (x0 : Vec F S512x1024 .f32) (x1 : Vec F S1x1024 .f32) (x2 : Vec F S1024x2560 .bf16) (x3 : Vec F S4x1280 .f32)
  (x4 : Vec F S1x1280 .f32) (x5 : Vec F S10x128x128 .bf16) (x6 : Vec F S1x1280 .f32)
  (x7 : Vec F S10x128x128 .bf16) (x8 : Vec F S1x1280 .f32) (x9 : Vec F S1x1280 .f32)
  (x10 : Vec F S1280x1024 .bf16)
  (xs0 xs1 : Vec F S8x1280 .f32)

variable (hc : cond0_0 i) in
/-- The tile of states that the point stores, block by block. -/
theorem stores_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.1 = stores (fun j => View.readCov (Val := Elt F) arg18.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.1 (rows j).toLoadRect)
    (fun j => View.readCov (Val := Elt F) arg19.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.1 (rows j).toLoadRect) (View.readCov (Val := Elt F) arg17.view [⟨whole8, k0_pay3⟩] whole8.toLoadRect) 64 (le_refl _) := by
  frame_open
  sl_kernel_rfl

variable (hc : cond0_0 i) in
/-- The state that the point leaves in its scratch. -/
theorem state_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.1 = ⟨whole8, shapeCast S8x1280 (carried (fun j => View.readCov (Val := Elt F) arg18.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.1 (rows j).toLoadRect)
    (fun j => View.readCov (Val := Elt F) arg19.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.1 (rows j).toLoadRect) (View.readCov (Val := Elt F) arg17.view [⟨whole8, k0_pay3⟩] whole8.toLoadRect) 64 (le_refl _)) shapeCasts_S8x1280_S8x1280⟩ :: [⟨whole8, k0_pay3⟩] := by
  frame_open
  sl_kernel_rfl

variable (hc : cond0_0 i) in
/-- The state that the point stores as its result. -/
theorem last_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.1 = [⟨Rect.unit (s := S1x1x1280) ![0, 0, 0] S1x1x1280.size inb_S1x1x1280_S1x1x1280_0_0_0,
    shapeCast S1x1x1280 (extractStridedSlice S1x1280 ![0, 0] (carried (fun j => View.readCov (Val := Elt F) arg18.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.1 (rows j).toLoadRect)
    (fun j => View.readCov (Val := Elt F) arg19.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.1 (rows j).toLoadRect) (View.readCov (Val := Elt F) arg17.view [⟨whole8, k0_pay3⟩] whole8.toLoadRect) 64 (le_refl _)) slices_S8x1280_o0_0_S1x1280) shapeCasts_S1x1280_S1x1x1280⟩] := by
  frame_open
  sl_kernel_rfl

variable (hc : cond0_0 i) in
/-- The tile of the layer's output that the point stores. -/
theorem output_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).1 = [⟨Rect.unit (s := S512x1024) ![0, 0] S512x1024.size inb_S512x1024_S512x1024_0_0,
    k0_pay1 (View.readAt (Elt F) arg2.view (Rect.unit ![0, 0] S512x1024.size inb_S512x1024_S512x1024_0_0).toLoadRect (harg2.unread x0)) (k0_pay5 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))) (k0_pay479 (k0_pay5 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))))
      (View.readCov (Val := Elt F) arg20.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.1 whole.toLoadRect) (View.readAt (Elt F) arg12.view (Rect.unit ![0, 0] S1280x1024.size inb_S1280x1024_S1280x1024_0_0).toLoadRect (harg12.unread x10))⟩] := by
  frame_open
  sl_kernel_rfl

variable (hc : cond0_0 i) in
/-- The tile of decays that the point stores. -/
theorem decays_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.1 = [⟨whole, shapeCast S512x1280 (decays (k0_pay11 (View.readAt (Elt F) arg6.view (Rect.unit ![0, 0] S1x1280.size inb_S1x1280_S1x1280_0_0).toLoadRect (harg6.unread x4))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![5, 0] S512x1280.size inb_S520x1280_S512x1280_5_0).toLoadRect) (View.readAt (Elt F) arg5.view (tap 0).toLoadRect (harg5.unread x3))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![6, 0] S512x1280.size inb_S520x1280_S512x1280_6_0).toLoadRect) (View.readAt (Elt F) arg5.view (tap 1).toLoadRect (harg5.unread x3))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![7, 0] S512x1280.size inb_S520x1280_S512x1280_7_0).toLoadRect) (View.readAt (Elt F) arg5.view (tap 2).toLoadRect (harg5.unread x3))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![8, 0] S512x1280.size inb_S520x1280_S512x1280_8_0).toLoadRect) (View.readAt (Elt F) arg5.view (tap 3).toLoadRect (harg5.unread x3))) (softplus (View.readAt (Elt F) arg11.view (Rect.unit ![0, 0] S1x1280.size inb_S1x1280_S1x1280_0_0).toLoadRect (harg11.unread x9))) (fun e => View.readAt (Elt F) arg7.view (weightOf e).toLoadRect (harg7.unread x5)) (fun e => View.readAt (Elt F) arg8.view (biasOf e).toLoadRect (harg8.unread x6))) shapeCasts_S512x1280_S512x1280⟩] := by
  frame_open
  sl_kernel_rfl

variable (hc : cond0_0 i) in
/-- The tile of gated inputs that the point stores. -/
theorem inputs_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.1 = [⟨whole, shapeCast S512x1280 (inputs (k0_pay11 (View.readAt (Elt F) arg6.view (Rect.unit ![0, 0] S1x1280.size inb_S1x1280_S1x1280_0_0).toLoadRect (harg6.unread x4))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![5, 0] S512x1280.size inb_S520x1280_S512x1280_5_0).toLoadRect) (View.readAt (Elt F) arg5.view (tap 0).toLoadRect (harg5.unread x3))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![6, 0] S512x1280.size inb_S520x1280_S512x1280_6_0).toLoadRect) (View.readAt (Elt F) arg5.view (tap 1).toLoadRect (harg5.unread x3))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![7, 0] S512x1280.size inb_S520x1280_S512x1280_7_0).toLoadRect) (View.readAt (Elt F) arg5.view (tap 2).toLoadRect (harg5.unread x3))
    (View.readCov (Val := Elt F) arg21.view (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 (Rect.unit (s := S520x1280) ![8, 0] S512x1280.size inb_S520x1280_S512x1280_8_0).toLoadRect) (View.readAt (Elt F) arg5.view (tap 3).toLoadRect (harg5.unread x3))) (softplus (View.readAt (Elt F) arg11.view (Rect.unit ![0, 0] S1x1280.size inb_S1x1280_S1x1280_0_0).toLoadRect (harg11.unread x9))) (fun e => View.readAt (Elt F) arg7.view (weightOf e).toLoadRect (harg7.unread x5)) (fun e => View.readAt (Elt F) arg9.view (weightOf e).toLoadRect (harg9.unread x7)) (fun e => View.readAt (Elt F) arg8.view (biasOf e).toLoadRect (harg8.unread x6)) (fun e => View.readAt (Elt F) arg10.view (biasOf e).toLoadRect (harg10.unread x8))) shapeCasts_S512x1280_S512x1280⟩] := by
  frame_open
  sl_kernel_rfl

variable (hc : cond0_0 i) in
/-- The padded tile that the point stores. -/
theorem tile_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.2.2.2.2.2.1 = padded (View.readCov (Val := Elt F) arg16.view [⟨whole8, k0_pay2⟩] whole8.toLoadRect) (k0_pay6 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))) := by
  frame_open
  sl_kernel_rfl

variable (hc : cond0_0 i) in
/-- The last rows that the point leaves in its scratch. -/
theorem tail_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.2.1 = ⟨whole8, k0_pay9 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))⟩ :: [⟨whole8, k0_pay2⟩] := by
  frame_open
  sl_kernel_rfl

variable (hc : cond0_0 i) in
/-- The rows that the point stores as its convolution result. -/
theorem conv_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10).2.2.1 = [⟨Rect.unit (s := S1x3x1280) ![0, 0, 0] S1x3x1280.size inb_S1x3x1280_S1x3x1280_0_0_0, k0_pay10 (k0_pay6 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2)))⟩] := by
  frame_open
  sl_kernel_rfl

variable (hc : ¬ cond0_0 i) in
/-- The tile of states that the point stores, block by block. -/
theorem stores_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.1 = stores (fun j => View.readCov (Val := Elt F) arg18.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.1 (rows j).toLoadRect)
    (fun j => View.readCov (Val := Elt F) arg19.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.1 (rows j).toLoadRect) (View.readAt (Elt F) arg17.view (Rect.unit ![0, 0] S8x1280.size inb_S8x1280_S8x1280_0_0).toLoadRect (harg17.unread xs1)) 64 (le_refl _) := by
  frame_open
  sl_kernel_rfl

variable (hc : ¬ cond0_0 i) in
/-- The state that the point leaves in its scratch. -/
theorem state_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.1 = ⟨whole8, shapeCast S8x1280 (carried (fun j => View.readCov (Val := Elt F) arg18.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.1 (rows j).toLoadRect)
    (fun j => View.readCov (Val := Elt F) arg19.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.1 (rows j).toLoadRect) (View.readAt (Elt F) arg17.view (Rect.unit ![0, 0] S8x1280.size inb_S8x1280_S8x1280_0_0).toLoadRect (harg17.unread xs1)) 64 (le_refl _)) shapeCasts_S8x1280_S8x1280⟩ :: [] := by
  frame_open
  sl_kernel_rfl

variable (hc : ¬ cond0_0 i) in
/-- The state that the point stores as its result. -/
theorem last_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.1 = [⟨Rect.unit (s := S1x1x1280) ![0, 0, 0] S1x1x1280.size inb_S1x1x1280_S1x1x1280_0_0_0,
    shapeCast S1x1x1280 (extractStridedSlice S1x1280 ![0, 0] (carried (fun j => View.readCov (Val := Elt F) arg18.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.1 (rows j).toLoadRect)
    (fun j => View.readCov (Val := Elt F) arg19.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.1 (rows j).toLoadRect) (View.readAt (Elt F) arg17.view (Rect.unit ![0, 0] S8x1280.size inb_S8x1280_S8x1280_0_0).toLoadRect (harg17.unread xs1)) 64 (le_refl _)) slices_S8x1280_o0_0_S1x1280) shapeCasts_S1x1280_S1x1x1280⟩] := by
  frame_open
  sl_kernel_rfl

variable (hc : ¬ cond0_0 i) in
/-- The tile of the layer's output that the point stores. -/
theorem output_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).1 = [⟨Rect.unit (s := S512x1024) ![0, 0] S512x1024.size inb_S512x1024_S512x1024_0_0,
    k0_pay1 (View.readAt (Elt F) arg2.view (Rect.unit ![0, 0] S512x1024.size inb_S512x1024_S512x1024_0_0).toLoadRect (harg2.unread x0)) (k0_pay5 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))) (k0_pay479 (k0_pay5 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))))
      (View.readCov (Val := Elt F) arg20.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.1 whole.toLoadRect) (View.readAt (Elt F) arg12.view (Rect.unit ![0, 0] S1280x1024.size inb_S1280x1024_S1280x1024_0_0).toLoadRect (harg12.unread x10))⟩] := by
  frame_open
  sl_kernel_rfl

variable (hc : ¬ cond0_0 i) in
/-- The tile of decays that the point stores. -/
theorem decays_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.1 = [⟨whole, shapeCast S512x1280 (decays (k0_pay11 (View.readAt (Elt F) arg6.view (Rect.unit ![0, 0] S1x1280.size inb_S1x1280_S1x1280_0_0).toLoadRect (harg6.unread x4))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![5, 0] S512x1280.size inb_S520x1280_S512x1280_5_0).toLoadRect) (View.readAt (Elt F) arg5.view (tap 0).toLoadRect (harg5.unread x3))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![6, 0] S512x1280.size inb_S520x1280_S512x1280_6_0).toLoadRect) (View.readAt (Elt F) arg5.view (tap 1).toLoadRect (harg5.unread x3))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![7, 0] S512x1280.size inb_S520x1280_S512x1280_7_0).toLoadRect) (View.readAt (Elt F) arg5.view (tap 2).toLoadRect (harg5.unread x3))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![8, 0] S512x1280.size inb_S520x1280_S512x1280_8_0).toLoadRect) (View.readAt (Elt F) arg5.view (tap 3).toLoadRect (harg5.unread x3))) (softplus (View.readAt (Elt F) arg11.view (Rect.unit ![0, 0] S1x1280.size inb_S1x1280_S1x1280_0_0).toLoadRect (harg11.unread x9))) (fun e => View.readAt (Elt F) arg7.view (weightOf e).toLoadRect (harg7.unread x5)) (fun e => View.readAt (Elt F) arg8.view (biasOf e).toLoadRect (harg8.unread x6))) shapeCasts_S512x1280_S512x1280⟩] := by
  frame_open
  sl_kernel_rfl

variable (hc : ¬ cond0_0 i) in
/-- The tile of gated inputs that the point stores. -/
theorem inputs_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.1 = [⟨whole, shapeCast S512x1280 (inputs (k0_pay11 (View.readAt (Elt F) arg6.view (Rect.unit ![0, 0] S1x1280.size inb_S1x1280_S1x1280_0_0).toLoadRect (harg6.unread x4))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![5, 0] S512x1280.size inb_S520x1280_S512x1280_5_0).toLoadRect) (View.readAt (Elt F) arg5.view (tap 0).toLoadRect (harg5.unread x3))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![6, 0] S512x1280.size inb_S520x1280_S512x1280_6_0).toLoadRect) (View.readAt (Elt F) arg5.view (tap 1).toLoadRect (harg5.unread x3))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![7, 0] S512x1280.size inb_S520x1280_S512x1280_7_0).toLoadRect) (View.readAt (Elt F) arg5.view (tap 2).toLoadRect (harg5.unread x3))
    (View.readCov (Val := Elt F) arg21.view (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 (Rect.unit (s := S520x1280) ![8, 0] S512x1280.size inb_S520x1280_S512x1280_8_0).toLoadRect) (View.readAt (Elt F) arg5.view (tap 3).toLoadRect (harg5.unread x3))) (softplus (View.readAt (Elt F) arg11.view (Rect.unit ![0, 0] S1x1280.size inb_S1x1280_S1x1280_0_0).toLoadRect (harg11.unread x9))) (fun e => View.readAt (Elt F) arg7.view (weightOf e).toLoadRect (harg7.unread x5)) (fun e => View.readAt (Elt F) arg9.view (weightOf e).toLoadRect (harg9.unread x7)) (fun e => View.readAt (Elt F) arg8.view (biasOf e).toLoadRect (harg8.unread x6)) (fun e => View.readAt (Elt F) arg10.view (biasOf e).toLoadRect (harg10.unread x8))) shapeCasts_S512x1280_S512x1280⟩] := by
  frame_open
  sl_kernel_rfl

variable (hc : ¬ cond0_0 i) in
/-- The padded tile that the point stores. -/
theorem tile_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.2.2.2.2.2.1 = padded (View.readAt (Elt F) arg16.view (Rect.unit ![0, 0] S8x1280.size inb_S8x1280_S8x1280_0_0).toLoadRect (harg16.unread xs0)) (k0_pay6 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))) := by
  frame_open
  sl_kernel_rfl

variable (hc : ¬ cond0_0 i) in
/-- The last rows that the point leaves in its scratch. -/
theorem tail_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.2.1 = ⟨whole8, k0_pay9 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2))⟩ :: [] := by
  frame_open
  sl_kernel_rfl

variable (hc : ¬ cond0_0 i) in
/-- The rows that the point stores as its convolution result. -/
theorem conv_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1).2.2.1 = [⟨Rect.unit (s := S1x3x1280) ![0, 0, 0] S1x3x1280.size inb_S1x3x1280_S1x3x1280_0_0_0, k0_pay10 (k0_pay6 (View.readAt (Elt F) arg2.view (Rect.unit ![0, 0] S512x1024.size inb_S512x1024_S512x1024_0_0).toLoadRect (harg2.unread x0)) (View.readAt (Elt F) arg3.view (Rect.unit ![0, 0] S1x1024.size inb_S1x1024_S1x1024_0_0).toLoadRect (harg3.unread x1)) (View.readAt (Elt F) arg4.view (Rect.unit ![0, 0] S1024x2560.size inb_S1024x2560_S1024x2560_0_0).toLoadRect (harg4.unread x2)))⟩] := by
  frame_open
  sl_kernel_rfl

end Loads

end Cert.LruBody

end
-- ==== Proof.Rows.lean ====
/-
  The layer's row arithmetic over the extended reals: what one token's row becomes under the root-mean-square
  norm and under the feed-forward step. Both programs of a claim are read as these functions of a row, so
  that neither the kernel's blocks nor the reference's whole arrays appear in the arithmetic.
-/
module

public import Idealize.ShloMosaic.Lib.Pointwise
public import Idealize.ShloMosaic.Lib.IdealHost

@[expose] public section

noncomputable section

namespace Cert.Rows

open Idealize.ShloMosaic

/-- The mean of the squares of a row of 1024 numbers, with the norm's small constant added. -/
def meanSq (x : Fin 1024 → EReal) : EReal :=
  Ideal.div (∑ k, x k * x k) (Ideal.ofBits .f32 0x44800000#32) + Ideal.ofBits .f32 0x358637BD#32

/-- The root-mean-square norm of a row `x` with weights `w`. -/
def rmsRow (x w : Fin 1024 → EReal) (k : Fin 1024) : EReal :=
  x k * Ideal.rsqrt (meanSq x) * w k

/-- A row times a matrix. -/
def vecMat {a b : ℕ} (x : Fin a → EReal) (w : Fin a → Fin b → EReal) (j : Fin b) : EReal :=
  ∑ k, x k * w k j

/-- The gated hidden row: `g · σ(g) · u`, with `g` and `u` the normed row's two projections. -/
def gatedRow (x nw : Fin 1024 → EReal) (wg wu : Fin 1024 → Fin 2816 → EReal) (j : Fin 2816) : EReal :=
  vecMat (rmsRow x nw) wg j * Ideal.logistic (vecMat (rmsRow x nw) wg j) * vecMat (rmsRow x nw) wu j

/-- The feed-forward step on a row, with its residual. -/
def ffnRow (x nw : Fin 1024 → EReal) (wg wu : Fin 1024 → Fin 2816 → EReal) (wd : Fin 2816 → Fin 1024 → EReal)
    (j : Fin 1024) : EReal :=
  x j + vecMat (gatedRow x nw wg wu) wd j

/-- A row with the projections of the two mixer branches' rows added: the attention's `a` and the recurrence's `b`. -/
def mixRow (x : Fin 1024 → EReal) (a b : Fin 512 → EReal) (wa wb : Fin 512 → Fin 1024 → EReal) (k : Fin 1024) :
    EReal :=
  x k + vecMat a wa k + vecMat b wb k

/-- Projecting the two branches' rows laid end to end is projecting each by its half of the weights. -/
theorem add_vecMat_split (x : EReal) (a b : Fin 512 → EReal) (f : Fin 1024 → EReal) (w : Fin 1024 → Fin 1024 → EReal)
    (k : Fin 1024) (ha : ∀ l : Fin 512, f ⟨l.val, by omega⟩ = a l) (hb : ∀ l : Fin 512, f ⟨512 + l.val, by omega⟩ = b l) :
    x + vecMat f w k = x + vecMat a (fun l => w ⟨l.val, by omega⟩) k + vecMat b (fun l => w ⟨512 + l.val, by omega⟩) k := by
  rw [add_assoc]
  refine congrArg (x + ·) ?_
  refine (Fin.sum_univ_add (a := 512) (b := 512) (fun l : Fin (512 + 512) => f l * w l k)).trans ?_
  refine congrArg₂ (· + ·) (Finset.sum_congr rfl fun l _ => ?_) (Finset.sum_congr rfl fun l _ => ?_)
  · exact congrArg (· * _) (ha l)
  · exact congrArg (· * _) (hb l)

end Cert.Rows

end
-- ==== Proof.LruMath.lean ====
/-
  The recurrent layer's arithmetic over the extended reals, one token at a time: the branches of a token's row, the
  causal convolution, the gates, and the recurrence `h ↦ a h + b` as a plain recursion over the tokens. Then the facts
  by which eight steps of the recurrence are gathered at once: the decays lie between zero and one, so the products
  distribute, and gathering over one, two and four rows gives the recursion's own states.
-/
module

public import proofs.«01_k».proof.Proof.Rows

@[expose] public section

noncomputable section

namespace Cert.LruMath

open Idealize.ShloMosaic Cert.Rows

/-- The layer's parameters. -/
structure Weights where
  norm : Fin 1024 → EReal
  proj : Fin 1024 → Fin 2560 → EReal
  tap : Fin 4 → Fin 1280 → EReal
  tapBias : Fin 1280 → EReal
  decayW : Fin 10 → Fin 128 → Fin 128 → EReal
  decayB : Fin 1280 → EReal
  inputW : Fin 10 → Fin 128 → Fin 128 → EReal
  inputB : Fin 1280 → EReal
  lam : Fin 1280 → EReal
  out : Fin 1280 → Fin 1024 → EReal

/-- Column `l` of head `e`. -/
def col (e : Fin 10) (l : Fin 128) : Fin 1280 := ⟨128 * e.val + l.val, by omega⟩

/-- The head of a column. -/
def head (j : Fin 1280) : Fin 10 := ⟨j.val / 128, by omega⟩

/-- A column's place in its head. -/
def lane (j : Fin 1280) : Fin 128 := ⟨j.val % 128, by omega⟩

theorem col_head_lane (j : Fin 1280) : col (head j) (lane j) = j := by
  apply Fin.ext
  show 128 * (j.val / 128) + j.val % 128 = j.val
  omega

theorem head_col (e : Fin 10) (l : Fin 128) : head (col e l) = e := by
  apply Fin.ext
  show (128 * e.val + l.val) / 128 = e.val
  omega

theorem lane_col (e : Fin 10) (l : Fin 128) : lane (col e l) = l := by
  apply Fin.ext
  show (128 * e.val + l.val) % 128 = l.val
  omega

/-- The gating branch of a token's row. -/
def gateRow (p : Weights) (x : Fin 1024 → EReal) (j : Fin 1280) : EReal :=
  vecMat (rmsRow x p.norm) p.proj ⟨j.val, by omega⟩

/-- The recurrent branch of a token's row. -/
def branchRow (p : Weights) (x : Fin 1024 → EReal) (j : Fin 1280) : EReal :=
  vecMat (rmsRow x p.norm) p.proj ⟨1280 + j.val, by omega⟩

/-- The recurrent branch of the tokens, with three rows of zeros before the first. -/
def history (p : Weights) (x : ℕ → Fin 1024 → EReal) (n : ℕ) (j : Fin 1280) : EReal :=
  if n < 3 then 0 else branchRow p (x (n - 3)) j

/-- The causal convolution at token `s`. -/
def convRow (p : Weights) (x : ℕ → Fin 1024 → EReal) (s : ℕ) (j : Fin 1280) : EReal :=
  p.tapBias j + history p x s j * p.tap 0 j + history p x (s + 1) j * p.tap 1 j + history p x (s + 2) j * p.tap 2 j
    + history p x (s + 3) j * p.tap 3 j

/-- A gate in column `l` of head `e`. -/
def gateAt (w : Fin 10 → Fin 128 → Fin 128 → EReal) (b : Fin 1280 → EReal) (c : Fin 1280 → EReal) (e : Fin 10)
    (l : Fin 128) : EReal :=
  Ideal.logistic (∑ k, c (col e k) * w e k l + b (col e l))

/-- The decay parameter's softplus, negated first. -/
def soft (l : EReal) : EReal :=
  max (0 - l) 0 + Ideal.log1p (Ideal.exp (0 - max (0 - l) (-(0 - l))))

/-- The decay's exponent in column `l` of head `e`. -/
def rateAt (p : Weights) (c : Fin 1280 → EReal) (e : Fin 10) (l : Fin 128) : EReal :=
  Ideal.ofBits .f32 0xC1000000#32 * gateAt p.decayW p.decayB c e l * soft (p.lam (col e l))

/-- The decay in column `l` of head `e`. -/
def decayAt (p : Weights) (c : Fin 1280 → EReal) (e : Fin 10) (l : Fin 128) : EReal :=
  Ideal.exp (rateAt p c e l)

/-- The gated input in column `l` of head `e`. -/
def inputAt (p : Weights) (c : Fin 1280 → EReal) (e : Fin 10) (l : Fin 128) : EReal :=
  Ideal.sqrt (1 - decayAt p c e l * decayAt p c e l) * (gateAt p.inputW p.inputB c e l * c (col e l))

/-- The decay of token `s`. -/
def decayRow (p : Weights) (x : ℕ → Fin 1024 → EReal) (s : ℕ) (j : Fin 1280) : EReal :=
  decayAt p (convRow p x s) (head j) (lane j)

/-- The gated input of token `s`. -/
def inputRow (p : Weights) (x : ℕ → Fin 1024 → EReal) (s : ℕ) (j : Fin 1280) : EReal :=
  inputAt p (convRow p x s) (head j) (lane j)

/-- The recurrence's state after `n` tokens. -/
def state (p : Weights) (x : ℕ → Fin 1024 → EReal) : ℕ → Fin 1280 → EReal
  | 0, _ => 0
  | n + 1, j => decayRow p x n j * state p x n j + inputRow p x n j

/-- The smooth gate of the output. -/
def gelu (g : EReal) : EReal :=
  g * (Ideal.ofBits .f32 0x3F000000#32 * (1 + Ideal.tanh (Ideal.ofBits .f32 0x3F4C422A#32
    * (g + Ideal.ofBits .f32 0x3D372713#32 * (g * (g * g))))))

/-- The layer's output at token `s`. -/
def outRow (p : Weights) (x : ℕ → Fin 1024 → EReal) (s : ℕ) (j : Fin 1024) : EReal :=
  x s j + ∑ k, gelu (gateRow p (x s) k) * state p x (s + 1) k * p.out k j

/-! ## The decays lie between zero and one -/

theorem exp_nonneg (x : EReal) : 0 ≤ Ideal.exp x := by
  induction x using EReal.rec with
  | bot => simp
  | top => simp
  | coe r => rw [Ideal.exp_coe]; exact_mod_cast (Real.exp_pos r).le

theorem exp_le_one {x : EReal} (h : x ≤ 0) : Ideal.exp x ≤ 1 := by
  induction x using EReal.rec with
  | bot => simp
  | top => simp at h
  | coe r =>
    rw [Ideal.exp_coe]
    exact_mod_cast Real.exp_le_one_iff.mpr (by exact_mod_cast h)

theorem exp_two_mul (x : EReal) : Ideal.exp (Ideal.ofBits .f32 0x40000000#32 * x) = Ideal.exp x * Ideal.exp x := by
  have h2 : Ideal.ofBits .f32 0x40000000#32 = ((2 : ℝ) : EReal) := by
    simp [Ideal.ofBits, Ideal.ieee, -EReal.coe_mul]; norm_num
  rw [h2]
  induction x using EReal.rec with
  | bot => rw [EReal.coe_mul_bot_of_pos (by norm_num)]; simp
  | top => rw [EReal.coe_mul_top_of_pos (by norm_num)]; simp
  | coe r =>
    rw [← EReal.coe_mul, Ideal.exp_coe, Ideal.exp_coe, ← EReal.coe_mul, ← Real.exp_add, two_mul]

/-- One less than a square, negated. -/
theorem neg_sub_one (y : EReal) : -(y - 1) = 1 - y := by
  induction y using EReal.rec with
  | bot => rfl
  | top => rfl
  | coe r =>
    have : (1 : EReal) = ((1 : ℝ) : EReal) := rfl
    rw [this, ← EReal.coe_sub, ← EReal.coe_sub, ← EReal.coe_neg]
    congr 1
    ring

theorem logistic_nonneg (x : EReal) : 0 ≤ Ideal.logistic x := by
  induction x using EReal.rec with
  | bot => simp
  | top => simp
  | coe r =>
    rw [Ideal.logistic_coe]
    have := Real.exp_pos (-r)
    exact_mod_cast (by positivity : (0 : ℝ) ≤ (1 + Real.exp (-r))⁻¹)

theorem log_nonneg {x : EReal} (h : 1 ≤ x) : 0 ≤ Ideal.log x := by
  induction x using EReal.rec with
  | bot => exact absurd h (by decide +kernel)
  | top => exact le_top
  | coe r =>
    have hr : (1 : ℝ) ≤ r := by exact_mod_cast h
    show 0 ≤ (if r ≤ 0 then ⊥ else (Real.log r : EReal))
    rw [if_neg (by linarith)]
    exact_mod_cast Real.log_nonneg hr

theorem soft_nonneg (l : EReal) : 0 ≤ soft l := by
  refine add_nonneg (le_max_right _ _) (log_nonneg ?_)
  have := add_le_add (le_refl (1 : EReal)) (exp_nonneg (0 - max (0 - l) (-(0 - l))))
  rwa [add_zero] at this

theorem rate_nonpos (p : Weights) (c : Fin 1280 → EReal) (e : Fin 10) (l : Fin 128) : rateAt p c e l ≤ 0 := by
  have h8 : Ideal.ofBits .f32 0xC1000000#32 = -((8 : ℝ) : EReal) := by
    rw [← EReal.coe_neg]
    simp [Ideal.ofBits, Ideal.ieee, -EReal.coe_mul, -EReal.coe_neg]; norm_num
  unfold rateAt
  rw [h8, EReal.neg_mul, EReal.neg_mul]
  refine EReal.neg_le_of_neg_le ?_
  rw [neg_zero]
  exact mul_nonneg (mul_nonneg (by exact_mod_cast (by norm_num : (0 : ℝ) ≤ 8)) (logistic_nonneg _)) (soft_nonneg _)

theorem decay_nonneg (p : Weights) (x : ℕ → Fin 1024 → EReal) (s : ℕ) (j : Fin 1280) : 0 ≤ decayRow p x s j :=
  exp_nonneg _

theorem decay_le_one (p : Weights) (x : ℕ → Fin 1024 → EReal) (s : ℕ) (j : Fin 1280) : decayRow p x s j ≤ 1 :=
  exp_le_one (rate_nonpos _ _ _ _)

/-- The gated input with the square root's argument as the reference writes it. -/
theorem inputAt_eq (p : Weights) (c : Fin 1280 → EReal) (e : Fin 10) (l : Fin 128) :
    inputAt p c e l = Ideal.sqrt (-(Ideal.exp (Ideal.ofBits .f32 0x40000000#32 * rateAt p c e l) - 1))
      * (gateAt p.inputW p.inputB c e l * c (col e l)) := by
  rw [exp_two_mul, neg_sub_one]
  rfl

/-! ## Eight steps at once -/

/-- The entry `d` places before, and `fill` in the first `d` places. -/
def before (d : ℕ) (fill : EReal) (x : Fin 8 → EReal) (r : Fin 8) : EReal :=
  if d ≤ r.val then x ⟨r.val - d, by omega⟩ else fill

/-- The states `s` are the pairs' images of the states `d` steps earlier. -/
structure Gathers (s : ℕ → EReal) (d : ℕ) (a b : Fin 8 → EReal) : Prop where
  nonneg : ∀ r, 0 ≤ a r
  le_one : ∀ r, a r ≤ 1
  image : ∀ r : Fin 8, a r * s (r.val + 1 - d) + b r = s (r.val + 1)

theorem distrib {x : EReal} (h : 0 ≤ x) (h' : x ≤ 1) (y z : EReal) : x * (y + z) = x * y + x * z :=
  EReal.left_distrib_of_nonneg_of_ne_top h (fun e => by rw [e] at h'; exact absurd (top_le_iff.mp h') (EReal.coe_ne_top 1)) y z

/-- Gathering over twice as many steps. -/
theorem Gathers.twice {s : ℕ → EReal} {d : ℕ} {a b : Fin 8 → EReal} (h : Gathers s d a b) :
    Gathers s (2 * d) (fun r => a r * before d 1 a r) (fun r => a r * before d 0 b r + b r) := by
  refine ⟨fun r => ?_, fun r => ?_, fun r => ?_⟩
  · refine mul_nonneg (h.nonneg r) ?_
    unfold before
    split
    · exact h.nonneg _
    · exact zero_le_one
  · refine le_trans (mul_le_mul_of_nonneg_left (?_ : before d 1 a r ≤ 1) (h.nonneg r)) (by rw [mul_one]; exact h.le_one r)
    unfold before
    split
    · exact h.le_one _
    · exact le_refl _
  · by_cases hd : d ≤ r.val
    · have e := h.image ⟨r.val - d, by omega⟩
      have e' := h.image r
      simp only [before, if_pos hd]
      rw [show r.val + 1 - d = r.val - d + 1 by omega, ← e, distrib (h.nonneg r) (h.le_one r)] at e'
      rw [← e', mul_assoc, add_assoc, show r.val + 1 - 2 * d = r.val - d + 1 - d by omega]
    · have e' := h.image r
      simp only [before, if_neg hd, mul_one, mul_zero, zero_add]
      rw [← e', show r.val + 1 - 2 * d = r.val + 1 - d by omega]

end Cert.LruMath

end
-- ==== Proof.LruTile.lean ====
/-
  One grid point's values: from a tile of the input and the two buffers carried into it, what the convolution, the gates
  and the 64 blocks of the recurrence hold at each token, as the layer's functions of a token.
-/
module

public import proofs.«01_k».proof.Proof.LruBody
public import proofs.«01_k».proof.Proof.LruMath
public import Idealize.ShloMosaic.Lib.Pointwise

@[expose] public section

set_option maxRecDepth 16384

noncomputable section

namespace Cert.LruTile

open Idealize.ShloMosaic Idealize.ShloMosaic.TcCoe Idealize.SL.Sem
open Cert.KernelIdeal Cert.KernelIdeal.Gen Cert.LruChain Cert.LruHeads Cert.LruBody Cert.Rows Cert.LruMath

/-- A load from a buffer with known contents. -/
theorem load_eq {κ : Kind} {sp : Space} {S : Shape} {e : EltTy} (a : Memref sig κ sp S e) (h : a.IsWhole)
    (x : S.Idx → Elt Ideal e) (R : Rect S) :
    View.readAt (Elt Ideal) a.view R.toLoadRect (h.unread x) = View.ld x R := by
  rw [View.readAt_eq_ld, h.read_unread]

/-- A load after stores, at a place where the stores agree with a function. -/
theorem readBack {κ : Kind} {sp : Space} {S : Shape} {e : EltTy} (v : View sig κ sp S e)
    (L : List (View.Piece (Elt Ideal) S e)) (G : S.Idx → Elt Ideal e)
    (hG : ∀ p ∈ L, ∀ x : p.1.shape.Idx, p.2 x = G (p.1.emb x)) (R : Rect S) (y : R.shape.Idx) (i : S.Idx)
    (hi : R.idx y = i) (hc : ∃ p ∈ L, ∃ x : p.1.shape.Idx, p.1.emb x = i) : v.readCov L R.toLoadRect y = G i := by
  rw [View.readCov_eq_canon']
  show View.canon L (R.idx y) = G i
  rw [hi]
  obtain ⟨p, hp, x, hx⟩ := hc
  exact View.canon_apply_of_pieces G L hG i ⟨p, hp, hx ▸ p.1.idx_mem x⟩

/-- Where an index of a rectangle lies. -/
theorem emb_at {S : Shape} (off size : Fin S.rank → Nat) (inb) (x : (Rect.unit off size inb).shape.Idx) (i : S.Idx)
    (h : ∀ a, (i a : ℕ) = off a + x a) : (Rect.unit off size inb).emb x = i :=
  funext fun a => Fin.ext ((ValueKit.rect_emb_unit_val off size inb x a).trans (h a).symm)

/-- The operands of a grid point whose tile begins at token `s`. -/
structure Operands (p : Weights) (xs : ℕ → Fin 1024 → EReal) (s : ℕ) (x0 : Vec Ideal S512x1024 .f32)
    (x1 : Vec Ideal S1x1024 .f32) (x2 : Vec Ideal S1024x2560 .bf16) (x3 : Vec Ideal S4x1280 .f32)
    (x4 : Vec Ideal S1x1280 .f32) (x5 : Vec Ideal S10x128x128 .bf16) (x6 : Vec Ideal S1x1280 .f32)
    (x7 : Vec Ideal S10x128x128 .bf16) (x8 : Vec Ideal S1x1280 .f32) (x9 : Vec Ideal S1x1280 .f32)
    (x10 : Vec Ideal S1280x1024 .bf16) : Prop where
  rows : ∀ r k, x0 (ix2 r k) = xs (s + r.val) k
  norm : ∀ k, x1 (ix2 0 k) = p.norm k
  proj : ∀ k l, x2 (ix2 k l) = p.proj k l
  tap : ∀ e j, x3 (ix2 e j) = p.tap e j
  tapBias : ∀ j, x4 (ix2 0 j) = p.tapBias j
  decayW : ∀ e k l, x5 (ix3 e k l) = p.decayW e k l
  decayB : ∀ j, x6 (ix2 0 j) = p.decayB j
  inputW : ∀ e k l, x7 (ix3 e k l) = p.inputW e k l
  inputB : ∀ j, x8 (ix2 0 j) = p.inputB j
  lam : ∀ j, x9 (ix2 0 j) = p.lam j
  out : ∀ k l, x10 (ix2 k l) = p.out k l

/-- What a grid point's carried buffers hold before token `s`: the last rows before it, and the state. -/
structure Before (p : Weights) (xs : ℕ → Fin 1024 → EReal) (s : ℕ) (tail h : Vec Ideal S8x1280 .f32) : Prop where
  tail : ∀ (r : Fin 8) (j : Fin 1280), 5 ≤ r.val → tail (ix2 r j) = history p xs (s + (r.val - 5)) j
  state : ∀ (r : Fin 8) (j : Fin 1280), h (ix2 r j) = state p xs s j

section Blocks

theorem one_bits : (Scalar.ofBits .f32 0x3F800000#32 : Ideal .f32) = (1 : EReal) := by
  show Ideal.ofBits .f32 0x3F800000#32 = 1
  simp

theorem zero_bits : (Scalar.ofBits .f32 0x00000000#32 : Ideal .f32) = (0 : EReal) := by
  show Ideal.ofBits .f32 0x00000000#32 = 0
  simp

theorem above_apply (d : Fin 3) (fill : Ideal .f32) (x : FVec Ideal S8x1280 .f32) (r : Fin 8) (j : Fin 1280) :
    above (F := Ideal) (BitVec.ofNat 32 (2 ^ d.val)) fill x (ix2 r j) = before (2 ^ d.val) fill (fun r => x (ix2 r j)) r := by
  pointwise [above, before]
  fin_cases d <;> fin_cases r <;> rfl

theorem nextA_apply (d : Fin 3) (x : FVec Ideal S8x1280 .f32) (r : Fin 8) (j : Fin 1280) :
    nextA (F := Ideal) (BitVec.ofNat 32 (2 ^ d.val)) x (ix2 r j)
      = x (ix2 r j) * before (2 ^ d.val) 1 (fun r => x (ix2 r j)) r := by
  show x (ix2 r j) * above (F := Ideal) _ _ x (ix2 r j) = _
  rw [above_apply, one_bits]

theorem nextB_apply (d : Fin 3) (x y : FVec Ideal S8x1280 .f32) (r : Fin 8) (j : Fin 1280) :
    nextB (F := Ideal) (BitVec.ofNat 32 (2 ^ d.val)) x y (ix2 r j)
      = x (ix2 r j) * before (2 ^ d.val) 0 (fun r => y (ix2 r j)) r + y (ix2 r j) := by
  show x (ix2 r j) * above (F := Ideal) _ _ y (ix2 r j) + y (ix2 r j) = _
  rw [above_apply, zero_bits]

/-- One step of the blocks' scan gathers over twice as many rows. -/
theorem gathers_next {st : ℕ → EReal} (d : Fin 3) (x y : FVec Ideal S8x1280 .f32) (j : Fin 1280)
    (g : Gathers st (2 ^ d.val) (fun r => x (ix2 r j)) (fun r => y (ix2 r j))) :
    Gathers st (2 * 2 ^ d.val) (fun r => nextA (F := Ideal) (BitVec.ofNat 32 (2 ^ d.val)) x (ix2 r j))
      (fun r => nextB (F := Ideal) (BitVec.ofNat 32 (2 ^ d.val)) x y (ix2 r j)) := by
  have := g.twice
  simpa only [nextA_apply, nextB_apply] using this

variable (p : Weights) (xs : ℕ → Fin 1024 → EReal) (s : ℕ)
  (A B : Fin 64 → FVec Ideal S8x1280 .f32) (h : FVec Ideal S8x1280 .f32)
  (hA : ∀ n r j, A n (ix2 r j) = decayRow p xs (s + (8 * n.val + r.val)) j)
  (hB : ∀ n r j, B n (ix2 r j) = inputRow p xs (s + (8 * n.val + r.val)) j)
  (hh : ∀ r j, h (ix2 r j) = LruMath.state p xs s j)

include hA hB in
/-- One block's states, from the state before it. -/
theorem scanned_apply (n : Fin 64) (g : FVec Ideal S8x1280 .f32)
    (hg : ∀ r j, g (ix2 r j) = LruMath.state p xs (s + 8 * n.val) j) (r : Fin 8) (j : Fin 1280) :
    scanned (A n) (B n) g (ix2 r j) = LruMath.state p xs (s + (8 * n.val + r.val) + 1) j := by
  have base : Gathers (fun t => LruMath.state p xs (s + 8 * n.val + t) j) 1 (fun r => A n (ix2 r j)) (fun r => B n (ix2 r j)) := by
    refine ⟨fun r => ?_, fun r => ?_, fun r => ?_⟩
    · rw [hA]; exact decay_nonneg _ _ _ _
    · rw [hA]; exact decay_le_one _ _ _ _
    · rw [hA, hB]
      show _ = LruMath.state p xs (s + 8 * n.val + r.val + 1) j
      rw [Nat.add_sub_cancel, ← Nat.add_assoc]
      rfl
  have last := (gathers_next 2 _ _ j (gathers_next 1 _ _ j (gathers_next 0 _ _ j base))).image r
  have e0 : r.val + 1 - 2 * 2 ^ (2 : Fin 3).val = 0 := by
    have := r.isLt
    show r.val + 1 - 8 = 0
    omega
  rw [e0, Nat.add_zero, ← hg r j] at last
  rw [← Nat.add_assoc]
  exact last

theorem lastRow_apply (x : FVec Ideal S8x1280 .f32) (r : Fin 8) (j : Fin 1280) : lastRow x (ix2 r j) = x (ix2 7 j) := by
  pointwise [lastRow]

include hA hB hh in
/-- The state after `n` blocks. -/
theorem carried_apply : ∀ (n : ℕ) (hn : n ≤ 64) (r : Fin 8) (j : Fin 1280),
    carried A B h n hn (ix2 r j) = LruMath.state p xs (s + 8 * n) j
  | 0, _, r, j => hh r j
  | n + 1, hn, r, j => by
    rw [carried, lastRow_apply, scanned_apply p xs s A B hA hB ⟨n, hn⟩ _ (carried_apply n _)]
    rfl

include hA hB hh in
/-- Every store of the first `n` blocks is a block of the states. -/
theorem stores_states : ∀ (n : ℕ) (hn : n ≤ 64), ∀ q ∈ stores A B h n hn, ∀ x : q.1.shape.Idx,
    q.2 x = (fun i : S512x1280.Idx => LruMath.state p xs (s + (i 0).val + 1) (i 1)) (q.1.emb x)
  | 0, _, q, hq, _ => absurd hq (List.not_mem_nil)
  | n + 1, hn, q, hq, x => by
    rcases List.mem_cons.mp hq with rfl | hq
    · obtain ⟨r, j, rfl⟩ : ∃ (r : Fin 8) (j : Fin 1280), x = ix2 r j := ⟨x 0, x 1, eq_ix2 x⟩
      have e : (rows ⟨n, hn⟩).emb (ix2 r j) = ix2 ⟨8 * n + r.val, by omega⟩ j :=
        emb_at _ _ _ _ _ fun a => by
          fin_cases a
          · rfl
          · exact (Nat.zero_add _).symm
      refine Eq.trans ?_ (congrArg (fun i : S512x1280.Idx => LruMath.state p xs (s + (i 0).val + 1) (i 1)) e.symm)
      refine Eq.trans ?_ (scanned_apply p xs s A B hA hB ⟨n, hn⟩ _
        (carried_apply p xs s A B h hA hB hh n (Nat.le_of_succ_le hn)) r j)
      exact congrFun (shapeCast_self (scanned (A ⟨n, hn⟩) (B ⟨n, hn⟩) (carried A B h n (Nat.le_of_succ_le hn)))
        shapeCasts_S8x1280_S8x1280) (ix2 r j)
    · exact stores_states n _ q hq x

/-- The first `n` blocks store the first `8 n` rows. -/
theorem stores_cover : ∀ (n : ℕ) (hn : n ≤ 64) (i : S512x1280.Idx), (i 0).val < 8 * n →
    ∃ q ∈ stores A B h n hn, ∃ x : q.1.shape.Idx, q.1.emb x = i
  | 0, _, _, hi => absurd hi (Nat.not_lt_zero _)
  | n + 1, hn, i, hi => by
    by_cases h' : (i 0).val < 8 * n
    · obtain ⟨q, hq, hx⟩ := stores_cover n (Nat.le_of_succ_le hn) i h'
      exact ⟨q, List.mem_cons_of_mem _ hq, hx⟩
    · refine ⟨_, List.mem_cons_self, ix2 (⟨(i 0).val - 8 * n, by omega⟩ : Fin 8) (i 1), ?_⟩
      refine emb_at _ _ (rows_inb ⟨n, hn⟩) _ _ fun a => ?_
      fin_cases a
      · show (i 0).val = 8 * n + ((i 0).val - 8 * n)
        omega
      · exact (Nat.zero_add _).symm

include hA hB hh in
/-- The tile of states, read back. -/
theorem states_read (v : View sig .tc .vmem S512x1280 .f32) (r : Fin 512) (j : Fin 1280) :
    v.readCov (Val := Elt Ideal) (stores A B h 64 (le_refl _)) whole.toLoadRect (ix2 r j)
      = LruMath.state p xs (s + r.val + 1) j := by
  refine readBack v _ (fun i : S512x1280.Idx => LruMath.state p xs (s + (i 0).val + 1) (i 1)) (stores_states p xs s A B h hA hB hh 64 _) whole (ix2 r j) (ix2 r j) ?_
    (stores_cover A B h 64 _ (ix2 r j) (by show r.val < 8 * 64; omega))
  funext a
  apply Fin.ext
  refine (Rect.idx_unit_val _ _ _ _ _).trans ?_
  fin_cases a <;> exact Nat.zero_add _

end Blocks

section Tile

variable (p : Weights) (xs : ℕ → Fin 1024 → EReal) (s : ℕ) {x0 : Vec Ideal S512x1024 .f32}
  {x1 : Vec Ideal S1x1024 .f32} {x2 : Vec Ideal S1024x2560 .bf16} {x3 : Vec Ideal S4x1280 .f32}
  {x4 : Vec Ideal S1x1280 .f32} {x5 : Vec Ideal S10x128x128 .bf16} {x6 : Vec Ideal S1x1280 .f32}
  {x7 : Vec Ideal S10x128x128 .bf16} {x8 : Vec Ideal S1x1280 .f32} {x9 : Vec Ideal S1x1280 .f32}
  {x10 : Vec Ideal S1280x1024 .bf16} (o : Operands p xs s x0 x1 x2 x3 x4 x5 x6 x7 x8 x9 x10)

include o in
/-- The recurrent branch of the tile. -/
theorem branch_apply (r : Fin 512) (j : Fin 1280) : k0_pay6 x0 x1 x2 (ix2 r j) = branchRow p (xs (s + r.val)) j := by
  pointwise [k0_pay6, k0_pay4, branchRow, rmsRow, meanSq, vecMat]
  simp only [o.rows, o.norm, o.proj]

include o in
/-- The gating branch of the tile. -/
theorem gate_apply (r : Fin 512) (j : Fin 1280) : k0_pay5 x0 x1 x2 (ix2 r j) = gateRow p (xs (s + r.val)) j := by
  pointwise [k0_pay5, k0_pay4, gateRow, rmsRow, meanSq, vecMat]
  simp only [o.rows, o.norm, o.proj]

theorem history_branch (n : ℕ) (j : Fin 1280) : history p xs (n + 3) j = branchRow p (xs n) j := by
  unfold history
  rw [if_neg (by omega), Nat.add_sub_cancel]

/-- What the padded tile holds. -/
def paddedRow (T : Vec Ideal S8x1280 .f32) (i : S520x1280.Idx) : EReal :=
  if h : (i 0).val < 8 then T (ix2 ⟨(i 0).val, h⟩ (i 1)) else history p xs (s + ((i 0).val - 5)) (i 1)

theorem padded_pieces (T : Vec Ideal S8x1280 .f32) (U : FVec Ideal S512x1280 .f32)
    (hU : ∀ (r : Fin 512) j, U (ix2 r j) = branchRow p (xs (s + r.val)) j) :
    ∀ q ∈ padded T U, ∀ x : q.1.shape.Idx, q.2 x = paddedRow p xs s T (q.1.emb x) := by
  intro q hq x
  rcases List.mem_cons.mp hq with rfl | hq
  · obtain ⟨r, j, rfl⟩ : ∃ (r : Fin 512) (j : Fin 1280), x = ix2 r j := ⟨x 0, x 1, eq_ix2 x⟩
    refine (congrFun (shapeCast_self U shapeCasts_S512x1280_S512x1280) (ix2 r j)).trans ?_
    have e := emb_at (S := S520x1280) ![8, 0] S512x1280.size inb_S520x1280_S512x1280_8_0 (ix2 r j)
      (ix2 ⟨8 + r.val, by omega⟩ j) (fun a => by
        fin_cases a
        · rfl
        · exact (Nat.zero_add _).symm)
    refine Eq.trans ?_ (congrArg (paddedRow p xs s T) e.symm)
    show _ = if h : 8 + r.val < 8 then T (ix2 ⟨8 + r.val, h⟩ j) else history p xs (s + (8 + r.val - 5)) j
    rw [dif_neg (by omega), hU, show s + (8 + r.val - 5) = s + r.val + 3 by omega, history_branch]
  · obtain rfl := List.mem_singleton.mp hq
    obtain ⟨r, j, rfl⟩ : ∃ (r : Fin 8) (j : Fin 1280), x = ix2 r j := ⟨x 0, x 1, eq_ix2 x⟩
    refine (congrFun (shapeCast_self T shapeCasts_S8x1280_S8x1280) (ix2 r j)).trans ?_
    have e := emb_at (S := S520x1280) ![0, 0] S8x1280.size inb_S520x1280_S8x1280_0_0 (ix2 r j)
      (ix2 ⟨r.val, by omega⟩ j) (fun a => by
        fin_cases a <;> exact (Nat.zero_add _).symm)
    refine Eq.trans ?_ (congrArg (paddedRow p xs s T) e.symm)
    show _ = if h : r.val < 8 then T (ix2 ⟨r.val, h⟩ j) else history p xs (s + (r.val - 5)) j
    rw [dif_pos r.isLt]

theorem padded_cover (T : Vec Ideal S8x1280 .f32) (U : FVec Ideal S512x1280 .f32) (n : Fin 520) (j : Fin 1280) :
    ∃ q ∈ padded T U, ∃ x : q.1.shape.Idx, q.1.emb x = ix2 n j := by
  by_cases h : n.val < 8
  · refine ⟨_, List.mem_cons_of_mem _ List.mem_cons_self, ix2 (⟨n.val, h⟩ : Fin 8) j,
      emb_at (S := S520x1280) ![0, 0] S8x1280.size inb_S520x1280_S8x1280_0_0 _ _ fun a => ?_⟩
    fin_cases a <;> exact (Nat.zero_add _).symm
  · refine ⟨_, List.mem_cons_self, ix2 (⟨n.val - 8, by omega⟩ : Fin 512) j,
      emb_at (S := S520x1280) ![8, 0] S512x1280.size inb_S520x1280_S512x1280_8_0 _ _ fun a => ?_⟩
    fin_cases a
    · show n.val = 8 + (n.val - 8)
      omega
    · exact (Nat.zero_add _).symm

/-- The padded tile, read back from row `5 + e` on. -/
theorem padded_read (v : View sig .tc .vmem S520x1280 .f32) (T : Vec Ideal S8x1280 .f32) (U : FVec Ideal S512x1280 .f32)
    (hT : ∀ (r : Fin 8) (j : Fin 1280), 5 ≤ r.val → T (ix2 r j) = history p xs (s + (r.val - 5)) j)
    (hU : ∀ (r : Fin 512) j, U (ix2 r j) = branchRow p (xs (s + r.val)) j) (e : ℕ) (he : e < 4)
    (inb : ∀ a, (![5 + e, 0] : Fin 2 → Nat) a + S512x1280.size a ≤ S520x1280.size a) (r : Fin 512) (j : Fin 1280) :
    v.readCov (Val := Elt Ideal) (padded T U) (Rect.unit (s := S520x1280) ![5 + e, 0] S512x1280.size inb).toLoadRect (ix2 r j)
      = history p xs (s + r.val + e) j := by
  have hi : (Rect.unit (s := S520x1280) ![5 + e, 0] S512x1280.size inb).idx (ix2 r j) = ix2 ⟨5 + e + r.val, by omega⟩ j := by
    funext a
    apply Fin.ext
    refine (Rect.idx_unit_val _ _ _ _ _).trans ?_
    fin_cases a
    · rfl
    · exact Nat.zero_add _
  have hn : 5 + e + r.val < 520 := by omega
  have back := readBack v (padded T U) (paddedRow p xs s T) (padded_pieces p xs s T U hU)
    (Rect.unit (s := S520x1280) ![5 + e, 0] S512x1280.size inb) (ix2 r j) (ix2 ⟨5 + e + r.val, hn⟩ j) hi
    (padded_cover T U ⟨5 + e + r.val, hn⟩ j)
  refine back.trans ?_
  show (if h : 5 + e + r.val < 8 then T (ix2 ⟨5 + e + r.val, h⟩ j) else history p xs (s + (5 + e + r.val - 5)) j) = _
  split
  · rw [hT _ _ (by show 5 ≤ 5 + e + r.val; omega)]
    show history p xs (s + (5 + e + r.val - 5)) j = _
    rw [show s + (5 + e + r.val - 5) = s + r.val + e by omega]
  · rw [show s + (5 + e + r.val - 5) = s + r.val + e by omega]

include o in
/-- The convolution of the tile. -/
theorem conv_apply (v : View sig .tc .vmem S520x1280 .f32) (T : Vec Ideal S8x1280 .f32) (U : FVec Ideal S512x1280 .f32)
    (hT : ∀ (r : Fin 8) (j : Fin 1280), 5 ≤ r.val → T (ix2 r j) = history p xs (s + (r.val - 5)) j)
    (hU : ∀ (r : Fin 512) j, U (ix2 r j) = branchRow p (xs (s + r.val)) j) (r : Fin 512) (j : Fin 1280) :
    k0_pay11 x4
      (v.readCov (Val := Elt Ideal) (padded T U) (Rect.unit (s := S520x1280) ![5, 0] S512x1280.size inb_S520x1280_S512x1280_5_0).toLoadRect)
      (View.ld x3 (tap 0))
      (v.readCov (Val := Elt Ideal) (padded T U) (Rect.unit (s := S520x1280) ![6, 0] S512x1280.size inb_S520x1280_S512x1280_6_0).toLoadRect)
      (View.ld x3 (tap 1))
      (v.readCov (Val := Elt Ideal) (padded T U) (Rect.unit (s := S520x1280) ![7, 0] S512x1280.size inb_S520x1280_S512x1280_7_0).toLoadRect)
      (View.ld x3 (tap 2))
      (v.readCov (Val := Elt Ideal) (padded T U) (Rect.unit (s := S520x1280) ![8, 0] S512x1280.size inb_S520x1280_S512x1280_8_0).toLoadRect)
      (View.ld x3 (tap 3)) (ix2 r j) = convRow p xs (s + r.val) j := by
  have t : ∀ e j, View.ld x3 (tap e) (ix2 0 j) = p.tap e j := fun e j =>
    (View.ld_unit_apply_of x3 _ _ _ _ (ix2 e j) (fun a => by
      fin_cases a
      · rfl
      · exact (Nat.zero_add _).symm)).trans (o.tap e j)
  have h0 := padded_read p xs s v T U hT hU 0 (by decide) inb_S520x1280_S512x1280_5_0 r j
  have h1 := padded_read p xs s v T U hT hU 1 (by decide) inb_S520x1280_S512x1280_6_0 r j
  have h2 := padded_read p xs s v T U hT hU 2 (by decide) inb_S520x1280_S512x1280_7_0 r j
  have h3 := padded_read p xs s v T U hT hU 3 (by decide) inb_S520x1280_S512x1280_8_0 r j
  unfold convRow
  rw [← o.tapBias, ← t, ← t, ← t, ← t]
  refine Eq.trans ?_ (congr (congrArg HAdd.hAdd (congr (congrArg HAdd.hAdd (congr (congrArg HAdd.hAdd (congrArg (x4 (ix2 0 j) + ·) (congrArg (· * View.ld x3 (tap 0) (ix2 0 j)) h0)))
    (congrArg (· * View.ld x3 (tap 1) (ix2 0 j)) h1))) (congrArg (· * View.ld x3 (tap 2) (ix2 0 j)) h2))) (congrArg (· * View.ld x3 (tap 3) (ix2 0 j)) h3))
  clear h0 h1 h2 h3
  generalize View.readCov v (padded T U) _ = y0
  pointwise [k0_pay11]

/-- A gate in one column of a head. -/
theorem headGate_apply (e : Fin 10) (X : FVec Ideal S512x1280 .f32) (w : FVec Ideal S1x128x128 .bf16)
    (b : FVec Ideal S1x128 .f32) (c : Fin 1280 → EReal) (W : Fin 10 → Fin 128 → Fin 128 → EReal) (B : Fin 1280 → EReal)
    (r : Fin 512) (hX : ∀ j, X (ix2 r j) = c j) (hw : ∀ k l, w (ix3 0 k l) = W e k l) (hb : ∀ l, b (ix2 0 l) = B (col e l))
    (l : Fin 128) : headGate e X w b (ix2 r l) = gateAt W B c e l := by
  unfold gateAt
  rw [← hb]
  simp only [← hX, ← hw]
  pointwise [headGate, headOf, col]

include o in
theorem softplus_apply (j : Fin 1280) : softplus x9 (ix2 0 j) = soft (p.lam j) := by
  rw [← o.lam]
  unfold softplus
  pointwise [k0_pay12, k0_pay13, k0_pay14, soft]
  rfl

include o in
theorem headDecay_apply (e : Fin 10) (X : FVec Ideal S512x1280 .f32) (c : Fin 1280 → EReal) (r : Fin 512)
    (hX : ∀ j, X (ix2 r j) = c j) (l : Fin 128) :
    headDecay e X (softplus x9) (View.ld x5 (weightOf e)) (View.ld x6 (biasOf e)) (ix2 r l) = decayAt p c e l := by
  have hw : ∀ k l, View.ld x5 (weightOf e) (ix3 0 k l) = p.decayW e k l := fun k l =>
    (View.ld_unit_apply_of x5 _ _ _ _ (ix3 e k l) (fun a => by
      fin_cases a
      · rfl
      · exact (Nat.zero_add _).symm
      · exact (Nat.zero_add _).symm)).trans (o.decayW e k l)
  have hb : ∀ l, View.ld x6 (biasOf e) (ix2 0 l) = p.decayB (col e l) := fun l =>
    (View.ld_unit_apply_of x6 _ _ _ _ (ix2 0 (col e l)) (fun a => by
      fin_cases a
      · rfl
      · rfl)).trans (o.decayB _)
  unfold decayAt rateAt
  rw [← headGate_apply e X _ _ c p.decayW p.decayB r hX hw hb, ← softplus_apply p xs s o]
  generalize softplus x9 = sp
  generalize View.ld x5 (weightOf e) = w
  generalize View.ld x6 (biasOf e) = b
  generalize hg : headGate e X w b = g
  unfold headDecay
  rw [hg]
  pointwise [col]

include o in
theorem headInput_apply (e : Fin 10) (X : FVec Ideal S512x1280 .f32) (c : Fin 1280 → EReal) (r : Fin 512)
    (hX : ∀ j, X (ix2 r j) = c j) (l : Fin 128) :
    headInput e X (softplus x9) (View.ld x5 (weightOf e)) (View.ld x7 (weightOf e)) (View.ld x6 (biasOf e))
      (View.ld x8 (biasOf e)) (ix2 r l) = inputAt p c e l := by
  have hw : ∀ k l, View.ld x7 (weightOf e) (ix3 0 k l) = p.inputW e k l := fun k l =>
    (View.ld_unit_apply_of x7 _ _ _ _ (ix3 e k l) (fun a => by
      fin_cases a
      · rfl
      · exact (Nat.zero_add _).symm
      · exact (Nat.zero_add _).symm)).trans (o.inputW e k l)
  have hb : ∀ l, View.ld x8 (biasOf e) (ix2 0 l) = p.inputB (col e l) := fun l =>
    (View.ld_unit_apply_of x8 _ _ _ _ (ix2 0 (col e l)) (fun a => by
      fin_cases a
      · rfl
      · rfl)).trans (o.inputB _)
  unfold inputAt
  rw [← headGate_apply e X _ _ c p.inputW p.inputB r hX hw hb, ← headDecay_apply p xs s o e X c r hX, ← hX]
  generalize hd : headDecay e X (softplus x9) (View.ld x5 (weightOf e)) (View.ld x6 (biasOf e)) = d
  generalize hg : headGate e X (View.ld x7 (weightOf e)) (View.ld x8 (biasOf e)) = g
  unfold headInput
  rw [hd, hg]
  pointwise [headOf, col]

/-- A column of the tile in its head. -/
theorem heads_apply (f : Fin 10 → FVec Ideal S512x128 .f32) (h) (r : Fin 512) (j : Fin 1280) :
    concatenate (α := EReal) S512x1280 1 (List.ofFn fun e : Fin 10 => ⟨S512x128, f e⟩) h (ix2 r j)
      = f (head j) (ix2 r (lane j)) :=
  concatenate_ofFn_apply (s₁ := S512x128) (1 : Fin S512x1280.rank) f h rfl 128 rfl (ix2 r j) (head j) rfl (ix2 r (lane j)) rfl
    (fun b hb => by
      fin_cases b
      · rfl
      · exact absurd rfl hb)

include o in
/-- The decays of the tile. -/
theorem decays_apply (X : FVec Ideal S512x1280 .f32) (hX : ∀ r j, X (ix2 r j) = convRow p xs (s + r.val) j)
    (r : Fin 512) (j : Fin 1280) :
    decays X (softplus x9) (fun e => View.ld x5 (weightOf e)) (fun e => View.ld x6 (biasOf e)) (ix2 r j)
      = decayRow p xs (s + r.val) j :=
  (heads_apply _ _ r j).trans (headDecay_apply p xs s o _ X _ r (hX r) _)

include o in
/-- The gated inputs of the tile. -/
theorem inputs_apply (X : FVec Ideal S512x1280 .f32) (hX : ∀ r j, X (ix2 r j) = convRow p xs (s + r.val) j)
    (r : Fin 512) (j : Fin 1280) :
    inputs X (softplus x9) (fun e => View.ld x5 (weightOf e)) (fun e => View.ld x7 (weightOf e))
      (fun e => View.ld x6 (biasOf e)) (fun e => View.ld x8 (biasOf e)) (ix2 r j)
      = inputRow p xs (s + r.val) j :=
  (heads_apply _ _ r j).trans (headInput_apply p xs s o _ X _ r (hX r) _)

/-- A tile stored whole, read back block by block. -/
theorem block_read (v : View sig .tc .vmem S512x1280 .f32) (Z : FVec Ideal S512x1280 .f32) (n : Fin 64) (r : Fin 8) (j : Fin 1280) :
    v.readCov (Val := Elt Ideal) [⟨whole, shapeCast S512x1280 Z shapeCasts_S512x1280_S512x1280⟩] (rows n).toLoadRect (ix2 r j)
      = Z (ix2 ⟨8 * n.val + r.val, by omega⟩ j) := by
  have e := View.readCov_fill (Val := Elt Ideal) v inb_S512x1280_S512x1280_0_0
    (shapeCast S512x1280 Z shapeCasts_S512x1280_S512x1280) [] (rows n) (by decide)
  refine (congrFun e (ix2 r j)).trans ?_
  rw [shapeCast_self]
  exact View.ld_unit_apply_of (S := S512x1280) (Val := Elt Ideal) (e := .f32) Z ![8 * n.val, 0] S8x1280.size (rows_inb n) (ix2 r j)
    (ix2 ⟨8 * n.val + r.val, by omega⟩ j) (fun a => by
      fin_cases a
      · rfl
      · exact (Nat.zero_add _).symm)

include o in
/-- The tile of the layer's output. -/
theorem output_apply (Y : FVec Ideal S512x1280 .f32) (hY : ∀ r j, Y (ix2 r j) = LruMath.state p xs (s + r.val + 1) j)
    (r : Fin 512) (j : Fin 1024) :
    k0_pay1 x0 (k0_pay5 x0 x1 x2) (k0_pay479 (k0_pay5 x0 x1 x2)) Y x10 (ix2 r j) = outRow p xs (s + r.val) j := by
  unfold outRow
  simp only [← gate_apply p xs s o, ← hY, ← o.out, ← o.rows]
  generalize k0_pay5 x0 x1 x2 = g
  pointwise [k0_pay1, k0_pay479, gelu]

end Tile

end Cert.LruTile

end
-- ==== Proof.LruPoint.lean ====
/-
  What one grid point leaves: its tile of the layer's output, the state and the last rows as results, and the two carried
  buffers, each as the layer's functions of a token.
-/
module

public import proofs.«01_k».proof.Proof.LruTile

@[expose] public section

set_option maxRecDepth 16384

noncomputable section

namespace Cert.LruPoint

open Idealize.ShloMosaic Idealize.ShloMosaic.TcCoe Idealize.SL.Sem
open Cert.KernelIdeal Cert.KernelIdeal.Gen Cert.LruChain Cert.LruHeads Cert.LruBody Cert.Rows Cert.LruMath Cert.LruTile

/-- A tile read back block by block. -/
abbrev decaysOf (a : Memref sig .tc .vmem S512x1280 .f32) (L : List (View.Piece (Elt Ideal) S512x1280 .f32)) (j : Fin 64) :
    FVec Ideal S8x1280 .f32 :=
  View.readCov (Val := Elt Ideal) a.view L (rows j).toLoadRect

/-- What a grid point whose tile begins at token `s` leaves. -/
structure Outcome (p : Weights) (xs : ℕ → Fin 1024 → EReal) (s : ℕ)
    (f : Vec Ideal S512x1024 .f32 × Vec Ideal S1x1x1280 .f32 × Vec Ideal S1x3x1280 .f32 × Vec Ideal S8x1280 .f32
      × Vec Ideal S8x1280 .f32) : Prop where
  output : ∀ r j, f.1 (ix2 r j) = outRow p xs (s + r.val) j
  last : ∀ j, f.2.1 (ix3 0 0 j) = LruMath.state p xs (s + 512) j
  conv : ∀ (r : Fin 3) j, f.2.2.1 (ix3 0 r j) = history p xs (s + 512 + r.val) j
  next : Before p xs (s + 512) f.2.2.2.1 f.2.2.2.2

theorem zero2 : ∀ a : Fin 2, (![0, 0] : Fin 2 → Nat) a = 0 := by decide

theorem zero3 : ∀ a : Fin 3, (![0, 0, 0] : Fin 3 → Nat) a = 0 := by decide

/-- What is left of the stores into a whole buffer: the last one. -/
theorem stored {S : Shape} (v : View sig .tc .vmem S .f32) {off : Fin S.rank → Nat} (inb : ∀ a, off a + S.size a ≤ S.size a)
    (Z : S.Idx → EReal) (L : List (View.Piece (Elt Ideal) S .f32)) (h : ∀ a, off a = 0) :
    v.read (Elt Ideal) (v.writes (Elt Ideal) v.junk (⟨Rect.unit off S.size inb, Z⟩ :: L)) = Z := by
  rw [View.read_writes_junk_eq_canon]
  exact View.canon_cons_unit_lit inb Z L h

/-- Buffers filled with zeros are what a sequence begins with. -/
theorem zero_before (p : Weights) (xs : ℕ → Fin 1024 → EReal) (a b : Memref sig .tc .vmem S8x1280 .f32) :
    Before p xs 0 (View.readCov (Val := Elt Ideal) a.view [⟨whole8, k0_pay2 (F := Ideal)⟩] whole8.toLoadRect)
      (View.readCov (Val := Elt Ideal) b.view [⟨whole8, k0_pay3 (F := Ideal)⟩] whole8.toLoadRect) := by
  rw [View.readCov_fill _ _ _ _ _ zero2, View.readCov_fill _ _ _ _ _ zero2, View.ld_unit_lit _ _ zero2, View.ld_unit_lit _ _ zero2]
  refine ⟨fun r j h => ?_, fun r j => ?_⟩
  · unfold history
    rw [if_pos (by omega)]
    pointwise [k0_pay2]
  · show _ = (0 : EReal)
    pointwise [k0_pay3]

/-- Buffers loaded whole. -/
theorem kept_before (p : Weights) (xs : ℕ → Fin 1024 → EReal) (s : ℕ) (a : Memref sig .tc .vmem S8x1280 .f32) (ha : a.IsWhole)
    (b : Memref sig .tc .vmem S8x1280 .f32) (hb : b.IsWhole) (x y : Vec Ideal S8x1280 .f32) (h : Before p xs s x y) :
    Before p xs s (View.readAt (Elt Ideal) a.view whole8.toLoadRect (ha.unread x))
      (View.readAt (Elt Ideal) b.view whole8.toLoadRect (hb.unread y)) := by
  rw [load_eq, load_eq, View.ld_unit_lit _ _ (by decide), View.ld_unit_lit _ _ (by decide)]
  exact h

section Outcome

variable
  (arg2 : Memref sig .tc .vmem S512x1024 .f32) (harg2 : arg2.IsWhole)
  (arg3 : Memref sig .tc .vmem S1x1024 .f32) (harg3 : arg3.IsWhole)
  (arg4 : Memref sig .tc .vmem S1024x2560 .bf16) (harg4 : arg4.IsWhole)
  (arg5 : Memref sig .tc .vmem S4x1280 .f32) (harg5 : arg5.IsWhole) (arg6 : Memref sig .tc .vmem S1x1280 .f32)
  (harg6 : arg6.IsWhole) (arg7 : Memref sig .tc .vmem S10x128x128 .bf16) (harg7 : arg7.IsWhole)
  (arg8 : Memref sig .tc .vmem S1x1280 .f32) (harg8 : arg8.IsWhole)
  (arg9 : Memref sig .tc .vmem S10x128x128 .bf16) (harg9 : arg9.IsWhole)
  (arg10 : Memref sig .tc .vmem S1x1280 .f32) (harg10 : arg10.IsWhole)
  (arg11 : Memref sig .tc .vmem S1x1280 .f32) (harg11 : arg11.IsWhole)
  (arg12 : Memref sig .tc .vmem S1280x1024 .bf16) (harg12 : arg12.IsWhole)
  (arg18 : Memref sig .tc .vmem S512x1280 .f32)
  (arg19 : Memref sig .tc .vmem S512x1280 .f32)
  (arg20 : Memref sig .tc .vmem S512x1280 .f32)
  (arg21 : Memref sig .tc .vmem S520x1280 .f32)
  (x0 : Vec Ideal S512x1024 .f32) (x1 : Vec Ideal S1x1024 .f32) (x2 : Vec Ideal S1024x2560 .bf16) (x3 : Vec Ideal S4x1280 .f32)
  (x4 : Vec Ideal S1x1280 .f32) (x5 : Vec Ideal S10x128x128 .bf16) (x6 : Vec Ideal S1x1280 .f32)
  (x7 : Vec Ideal S10x128x128 .bf16) (x8 : Vec Ideal S1x1280 .f32) (x9 : Vec Ideal S1x1280 .f32)
  (x10 : Vec Ideal S1280x1024 .bf16)
  (p : Weights) (xs : ℕ → Fin 1024 → EReal) (s : ℕ) (o : Operands p xs s x0 x1 x2 x3 x4 x5 x6 x7 x8 x9 x10)
  (T H : Vec Ideal S8x1280 .f32) (hb : Before p xs s T H)
  (P : List (View.Piece (Elt Ideal) S520x1280 .f32)) (D I Y : List (View.Piece (Elt Ideal) S512x1280 .f32))
  (O : List (View.Piece (Elt Ideal) S512x1024 .f32)) (N : List (View.Piece (Elt Ideal) S1x1x1280 .f32))
  (C : List (View.Piece (Elt Ideal) S1x3x1280 .f32)) (T' H' restT restH : List (View.Piece (Elt Ideal) S8x1280 .f32))

include o hb in
/-- What a point's stores leave, from what its carried buffers held. -/
theorem outcome
    (hP : P = padded T (k0_pay6 (View.readAt (Elt Ideal) arg2.view (Rect.unit ![0, 0] S512x1024.size inb_S512x1024_S512x1024_0_0).toLoadRect (harg2.unread x0)) (View.readAt (Elt Ideal) arg3.view (Rect.unit ![0, 0] S1x1024.size inb_S1x1024_S1x1024_0_0).toLoadRect (harg3.unread x1)) (View.readAt (Elt Ideal) arg4.view (Rect.unit ![0, 0] S1024x2560.size inb_S1024x2560_S1024x2560_0_0).toLoadRect (harg4.unread x2))))
    (hD : D = [⟨whole, shapeCast S512x1280 (decays (k0_pay11 (View.readAt (Elt Ideal) arg6.view (Rect.unit ![0, 0] S1x1280.size inb_S1x1280_S1x1280_0_0).toLoadRect (harg6.unread x4))
      (View.readCov (Val := Elt Ideal) arg21.view P (Rect.unit (s := S520x1280) ![5, 0] S512x1280.size inb_S520x1280_S512x1280_5_0).toLoadRect) (View.readAt (Elt Ideal) arg5.view (tap 0).toLoadRect (harg5.unread x3))
      (View.readCov (Val := Elt Ideal) arg21.view P (Rect.unit (s := S520x1280) ![6, 0] S512x1280.size inb_S520x1280_S512x1280_6_0).toLoadRect) (View.readAt (Elt Ideal) arg5.view (tap 1).toLoadRect (harg5.unread x3))
      (View.readCov (Val := Elt Ideal) arg21.view P (Rect.unit (s := S520x1280) ![7, 0] S512x1280.size inb_S520x1280_S512x1280_7_0).toLoadRect) (View.readAt (Elt Ideal) arg5.view (tap 2).toLoadRect (harg5.unread x3))
      (View.readCov (Val := Elt Ideal) arg21.view P (Rect.unit (s := S520x1280) ![8, 0] S512x1280.size inb_S520x1280_S512x1280_8_0).toLoadRect) (View.readAt (Elt Ideal) arg5.view (tap 3).toLoadRect (harg5.unread x3)))
      (softplus (View.readAt (Elt Ideal) arg11.view (Rect.unit ![0, 0] S1x1280.size inb_S1x1280_S1x1280_0_0).toLoadRect (harg11.unread x9))) (fun e => View.readAt (Elt Ideal) arg7.view (weightOf e).toLoadRect (harg7.unread x5)) (fun e => View.readAt (Elt Ideal) arg8.view (biasOf e).toLoadRect (harg8.unread x6))) shapeCasts_S512x1280_S512x1280⟩])
    (hI : I = [⟨whole, shapeCast S512x1280 (inputs (k0_pay11 (View.readAt (Elt Ideal) arg6.view (Rect.unit ![0, 0] S1x1280.size inb_S1x1280_S1x1280_0_0).toLoadRect (harg6.unread x4))
      (View.readCov (Val := Elt Ideal) arg21.view P (Rect.unit (s := S520x1280) ![5, 0] S512x1280.size inb_S520x1280_S512x1280_5_0).toLoadRect) (View.readAt (Elt Ideal) arg5.view (tap 0).toLoadRect (harg5.unread x3))
      (View.readCov (Val := Elt Ideal) arg21.view P (Rect.unit (s := S520x1280) ![6, 0] S512x1280.size inb_S520x1280_S512x1280_6_0).toLoadRect) (View.readAt (Elt Ideal) arg5.view (tap 1).toLoadRect (harg5.unread x3))
      (View.readCov (Val := Elt Ideal) arg21.view P (Rect.unit (s := S520x1280) ![7, 0] S512x1280.size inb_S520x1280_S512x1280_7_0).toLoadRect) (View.readAt (Elt Ideal) arg5.view (tap 2).toLoadRect (harg5.unread x3))
      (View.readCov (Val := Elt Ideal) arg21.view P (Rect.unit (s := S520x1280) ![8, 0] S512x1280.size inb_S520x1280_S512x1280_8_0).toLoadRect) (View.readAt (Elt Ideal) arg5.view (tap 3).toLoadRect (harg5.unread x3)))
      (softplus (View.readAt (Elt Ideal) arg11.view (Rect.unit ![0, 0] S1x1280.size inb_S1x1280_S1x1280_0_0).toLoadRect (harg11.unread x9))) (fun e => View.readAt (Elt Ideal) arg7.view (weightOf e).toLoadRect (harg7.unread x5)) (fun e => View.readAt (Elt Ideal) arg9.view (weightOf e).toLoadRect (harg9.unread x7)) (fun e => View.readAt (Elt Ideal) arg8.view (biasOf e).toLoadRect (harg8.unread x6)) (fun e => View.readAt (Elt Ideal) arg10.view (biasOf e).toLoadRect (harg10.unread x8))) shapeCasts_S512x1280_S512x1280⟩])
    (hY : Y = stores (decaysOf arg18 D) (decaysOf arg19 I) H 64 (le_refl _))
    (hO : O = [⟨Rect.unit (s := S512x1024) ![0, 0] S512x1024.size inb_S512x1024_S512x1024_0_0,
      k0_pay1 (View.readAt (Elt Ideal) arg2.view (Rect.unit ![0, 0] S512x1024.size inb_S512x1024_S512x1024_0_0).toLoadRect (harg2.unread x0)) (k0_pay5 (View.readAt (Elt Ideal) arg2.view (Rect.unit ![0, 0] S512x1024.size inb_S512x1024_S512x1024_0_0).toLoadRect (harg2.unread x0)) (View.readAt (Elt Ideal) arg3.view (Rect.unit ![0, 0] S1x1024.size inb_S1x1024_S1x1024_0_0).toLoadRect (harg3.unread x1)) (View.readAt (Elt Ideal) arg4.view (Rect.unit ![0, 0] S1024x2560.size inb_S1024x2560_S1024x2560_0_0).toLoadRect (harg4.unread x2))) (k0_pay479 (k0_pay5 (View.readAt (Elt Ideal) arg2.view (Rect.unit ![0, 0] S512x1024.size inb_S512x1024_S512x1024_0_0).toLoadRect (harg2.unread x0)) (View.readAt (Elt Ideal) arg3.view (Rect.unit ![0, 0] S1x1024.size inb_S1x1024_S1x1024_0_0).toLoadRect (harg3.unread x1)) (View.readAt (Elt Ideal) arg4.view (Rect.unit ![0, 0] S1024x2560.size inb_S1024x2560_S1024x2560_0_0).toLoadRect (harg4.unread x2)))) (View.readCov (Val := Elt Ideal) arg20.view Y whole.toLoadRect) (View.readAt (Elt Ideal) arg12.view (Rect.unit ![0, 0] S1280x1024.size inb_S1280x1024_S1280x1024_0_0).toLoadRect (harg12.unread x10))⟩])
    (hN : N = [⟨Rect.unit (s := S1x1x1280) ![0, 0, 0] S1x1x1280.size inb_S1x1x1280_S1x1x1280_0_0_0,
      shapeCast S1x1x1280 (extractStridedSlice S1x1280 ![0, 0] (carried (decaysOf arg18 D) (decaysOf arg19 I) H 64 (le_refl _)) slices_S8x1280_o0_0_S1x1280) shapeCasts_S1x1280_S1x1x1280⟩])
    (hC : C = [⟨Rect.unit (s := S1x3x1280) ![0, 0, 0] S1x3x1280.size inb_S1x3x1280_S1x3x1280_0_0_0, k0_pay10 (k0_pay6 (View.readAt (Elt Ideal) arg2.view (Rect.unit ![0, 0] S512x1024.size inb_S512x1024_S512x1024_0_0).toLoadRect (harg2.unread x0)) (View.readAt (Elt Ideal) arg3.view (Rect.unit ![0, 0] S1x1024.size inb_S1x1024_S1x1024_0_0).toLoadRect (harg3.unread x1)) (View.readAt (Elt Ideal) arg4.view (Rect.unit ![0, 0] S1024x2560.size inb_S1024x2560_S1024x2560_0_0).toLoadRect (harg4.unread x2)))⟩])
    (hT : T' = ⟨whole8, k0_pay9 (View.readAt (Elt Ideal) arg2.view (Rect.unit ![0, 0] S512x1024.size inb_S512x1024_S512x1024_0_0).toLoadRect (harg2.unread x0)) (View.readAt (Elt Ideal) arg3.view (Rect.unit ![0, 0] S1x1024.size inb_S1x1024_S1x1024_0_0).toLoadRect (harg3.unread x1)) (View.readAt (Elt Ideal) arg4.view (Rect.unit ![0, 0] S1024x2560.size inb_S1024x2560_S1024x2560_0_0).toLoadRect (harg4.unread x2))⟩ :: restT)
    (hH : H' = ⟨whole8, shapeCast S8x1280 (carried (decaysOf arg18 D) (decaysOf arg19 I) H 64 (le_refl _)) shapeCasts_S8x1280_S8x1280⟩ :: restH) :
    Outcome p xs s (VO0_11.read (Elt Ideal) (VO0_11.writes (Elt Ideal) VO0_11.junk O),
      VO0_12.read (Elt Ideal) (VO0_12.writes (Elt Ideal) VO0_12.junk N),
      VO0_13.read (Elt Ideal) (VO0_13.writes (Elt Ideal) VO0_13.junk C),
      VS0_0.read (Elt Ideal) (VS0_0.writes (Elt Ideal) VS0_0.junk T'),
      VS0_1.read (Elt Ideal) (VS0_1.writes (Elt Ideal) VS0_1.junk H')) := by
  simp only [load_eq, View.ld_unit_lit (S := S512x1024) inb_S512x1024_S512x1024_0_0 _ zero2,
    View.ld_unit_lit (S := S1x1024) inb_S1x1024_S1x1024_0_0 _ zero2,
    View.ld_unit_lit (S := S1024x2560) inb_S1024x2560_S1024x2560_0_0 _ zero2,
    View.ld_unit_lit (S := S1x1280) inb_S1x1280_S1x1280_0_0 _ zero2,
    View.ld_unit_lit (S := S1280x1024) inb_S1280x1024_S1280x1024_0_0 _ zero2] at hP hD hI hO hC hT
  have hU := branch_apply p xs s o
  have hX := conv_apply p xs s o arg21.view T (k0_pay6 x0 x1 x2) hb.tail hU
  subst hP
  have hA : ∀ n r j, decaysOf arg18 D n (ix2 r j) = decayRow p xs (s + (8 * n.val + r.val)) j := fun n r j => by
    subst hD
    exact (block_read _ _ n r j).trans (decays_apply p xs s o _ hX _ _)
  have hB : ∀ n r j, decaysOf arg19 I n (ix2 r j) = inputRow p xs (s + (8 * n.val + r.val)) j := fun n r j => by
    subst hI
    exact (block_read _ _ n r j).trans (inputs_apply p xs s o _ hX _ _)
  clear hX hD hI
  have hS := carried_apply p xs s _ _ H hA hB hb.state 64 (le_refl _)
  have hR := states_read p xs s _ _ H hA hB hb.state arg20.view
  generalize carried (decaysOf arg18 D) (decaysOf arg19 I) H 64 (le_refl _) = K at hN hH hS
  rw [← hY] at hR
  generalize View.readCov (Val := Elt Ideal) arg20.view Y whole.toLoadRect = Q at hO hR
  subst hO hN hC hT hH
  refine ⟨fun r j => ?_, fun j => ?_, fun r j => ?_, ⟨fun r j h => ?_, fun r j => ?_⟩⟩
  · dsimp only
    rw [stored VO0_11 _ _ [] zero2]
    exact output_apply p xs s o Q hR r j
  · dsimp only
    rw [stored VO0_12 _ _ [] zero3]
    rw [← hS 0 j]
    pointwise
  · dsimp only
    rw [stored VO0_13 _ _ [] zero3]
    generalize k0_pay6 x0 x1 x2 = u at hU
    refine Eq.trans (b := u (ix2 ⟨509 + r.val, by omega⟩ j)) ?_ ?_
    · pointwise [k0_pay10]
    · rw [hU, ← history_branch]
      show history p xs (s + (509 + r.val) + 3) j = _
      rw [show s + (509 + r.val) + 3 = s + 512 + r.val by omega]
  · dsimp only
    rw [stored VS0_0 _ _ restT zero2]
    unfold k0_pay9
    generalize k0_pay6 x0 x1 x2 = u at hU
    refine Eq.trans (b := u (ix2 ⟨504 + r.val, by omega⟩ j)) ?_ ?_
    · pointwise
    · rw [hU, ← history_branch]
      show history p xs (s + (504 + r.val) + 3) j = _
      rw [show s + (504 + r.val) + 3 = s + 512 + (r.val - 5) by omega]
  · dsimp only
    rw [stored VS0_1 _ _ restH zero2]
    rw [shapeCast_self]
    exact hS r j

end Outcome

section Cases

variable
  (c : Dev nD) (i : grid0.Coords) (arg2 : Memref sig .tc .vmem S512x1024 .f32) (harg2 : arg2.IsWhole)
  (arg3 : Memref sig .tc .vmem S1x1024 .f32) (harg3 : arg3.IsWhole)
  (arg4 : Memref sig .tc .vmem S1024x2560 .bf16) (harg4 : arg4.IsWhole)
  (arg5 : Memref sig .tc .vmem S4x1280 .f32) (harg5 : arg5.IsWhole) (arg6 : Memref sig .tc .vmem S1x1280 .f32)
  (harg6 : arg6.IsWhole) (arg7 : Memref sig .tc .vmem S10x128x128 .bf16) (harg7 : arg7.IsWhole)
  (arg8 : Memref sig .tc .vmem S1x1280 .f32) (harg8 : arg8.IsWhole)
  (arg9 : Memref sig .tc .vmem S10x128x128 .bf16) (harg9 : arg9.IsWhole)
  (arg10 : Memref sig .tc .vmem S1x1280 .f32) (harg10 : arg10.IsWhole)
  (arg11 : Memref sig .tc .vmem S1x1280 .f32) (harg11 : arg11.IsWhole)
  (arg12 : Memref sig .tc .vmem S1280x1024 .bf16) (harg12 : arg12.IsWhole)
  (arg13 : Memref sig .tc .vmem S512x1024 .f32) (harg13 : arg13.IsWhole)
  (arg14 : Memref sig .tc .vmem S1x1x1280 .f32) (harg14 : arg14.IsWhole)
  (arg15 : Memref sig .tc .vmem S1x3x1280 .f32) (harg15 : arg15.IsWhole)
  (arg16 : Memref sig .tc .vmem S8x1280 .f32) (harg16 : arg16.IsWhole)
  (arg17 : Memref sig .tc .vmem S8x1280 .f32) (harg17 : arg17.IsWhole)
  (arg18 : Memref sig .tc .vmem S512x1280 .f32) (harg18 : arg18.IsWhole)
  (arg19 : Memref sig .tc .vmem S512x1280 .f32) (harg19 : arg19.IsWhole)
  (arg20 : Memref sig .tc .vmem S512x1280 .f32) (harg20 : arg20.IsWhole)
  (arg21 : Memref sig .tc .vmem S520x1280 .f32) (harg21 : arg21.IsWhole)
  (x0 : Vec Ideal S512x1024 .f32) (x1 : Vec Ideal S1x1024 .f32) (x2 : Vec Ideal S1024x2560 .bf16) (x3 : Vec Ideal S4x1280 .f32)
  (x4 : Vec Ideal S1x1280 .f32) (x5 : Vec Ideal S10x128x128 .bf16) (x6 : Vec Ideal S1x1280 .f32)
  (x7 : Vec Ideal S10x128x128 .bf16) (x8 : Vec Ideal S1x1280 .f32) (x9 : Vec Ideal S1x1280 .f32)
  (x10 : Vec Ideal S1280x1024 .bf16)
  (xs0 xs1 : Vec Ideal S8x1280 .f32)

variable (hc : cond0_0 i) in
/-- A grid point that begins a sequence. -/
theorem outcome_A (p : Weights) (xs : ℕ → Fin 1024 → EReal)
    (o : Operands p xs 0 x0 x1 x2 x3 x4 x5 x6 x7 x8 x9 x10) :
    Outcome p xs 0 (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10, out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10, out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10, sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10) :=
  outcome arg2 harg2 arg3 harg3 arg4 harg4 arg5 harg5 arg6 harg6 arg7 harg7 arg8 harg8 arg9 harg9 arg10 harg10 arg11 harg11 arg12 harg12 arg18 arg19 arg20 arg21 x0 x1 x2 x3 x4 x5 x6 x7 x8 x9 x10 p xs 0 o _ _ (zero_before p xs arg16 arg17)
    _ _ _ _ _ _ _ _ _ _ _ (tile_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (decays_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (inputs_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (stores_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (output_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (last_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (conv_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (tail_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc) (state_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc)

variable (hc : ¬ cond0_0 i) in
/-- A grid point that goes on with a sequence. -/
theorem outcome_B (p : Weights) (xs : ℕ → Fin 1024 → EReal) (s : ℕ)
    (o : Operands p xs s x0 x1 x2 x3 x4 x5 x6 x7 x8 x9 x10)
    (hb : Before p xs s xs0 xs1) :
    Outcome p xs s (out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1, out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1, out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1, sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 xs0 xs1) :=
  outcome arg2 harg2 arg3 harg3 arg4 harg4 arg5 harg5 arg6 harg6 arg7 harg7 arg8 harg8 arg9 harg9 arg10 harg10 arg11 harg11 arg12 harg12 arg18 arg19 arg20 arg21 x0 x1 x2 x3 x4 x5 x6 x7 x8 x9 x10 p xs s o _ _ (kept_before p xs s arg16 harg16 arg17 harg17 xs0 xs1 hb)
    _ _ _ _ _ _ _ _ _ _ _ (tile_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (decays_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (inputs_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (stores_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (output_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (last_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (conv_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc) (state_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 xs0 xs1 hc)

end Cases

end Cert.LruPoint

end
-- ==== Proof.LruKernel.lean ====
/-
  The recurrent block's kernel: what its three result arrays hold after the run, as the layer's functions of the
  argument arrays. The grid points of one sequence follow one another, four tiles to a sequence.
-/
module

public import proofs.«01_k».proof.Proof.LruPoint
public import proofs.«01_k».proof.Proof.Gen.KernelIdeal.Value

@[expose] public section

set_option maxRecDepth 16384

noncomputable section

namespace Cert.LruKernel

open Idealize.ShloMosaic Idealize.ShloMosaic.TcCoe Idealize.SL.Sem
open Idealize.ShloMosaic.Pipeline (Dat)
open Cert.KernelIdeal Cert.KernelIdeal.Gen Cert.Rows Cert.LruMath Cert.LruTile Cert.LruPoint

variable (m : (ℓ : Loc nD τ sig) → Buf (Elt Ideal) ℓ) (c : Dev nD)

/-- The layer's parameters in the argument arrays. -/
def weights : Weights where
  norm k := m ((c.tc : Thread nD τ).loc main_arg1) (ix1 k)
  proj k l := m ((c.tc : Thread nD τ).loc main_arg2) (ix2 k l)
  tap e j := m ((c.tc : Thread nD τ).loc main_arg3) (ix2 e j)
  tapBias j := m ((c.tc : Thread nD τ).loc main_arg4) (ix1 j)
  decayW e k l := m ((c.tc : Thread nD τ).loc main_arg5) (ix3 e k l)
  decayB j := m ((c.tc : Thread nD τ).loc main_arg6) (ix1 j)
  inputW e k l := m ((c.tc : Thread nD τ).loc main_arg7) (ix3 e k l)
  inputB j := m ((c.tc : Thread nD τ).loc main_arg8) (ix1 j)
  lam j := m ((c.tc : Thread nD τ).loc main_arg9) (ix1 j)
  out k l := m ((c.tc : Thread nD τ).loc main_arg10) (ix2 k l)

/-- The rows of sequence `b`. -/
def tokens (b n : ℕ) (k : Fin 1024) : EReal :=
  if h : 2048 * b + n < 16384 then m ((c.tc : Thread nD τ).loc main_arg0) (ix2 ⟨2048 * b + n, h⟩ k) else 0

/-- Where the windows' blocks lie. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = t.val ∧ win0_11.index t 1 = 0)
    ∧ (win0_12.index t 0 = t.val / 4 ∧ win0_12.index t 1 = 0 ∧ win0_12.index t 2 = 0)
    ∧ (win0_13.index t 0 = t.val / 4 ∧ win0_13.index t 1 = 0 ∧ win0_13.index t 2 = 0) := by
  decide +kernel

set_option maxHeartbeats 1600000 in
/-- The operands of grid point `t`. -/
theorem operands (t : Fin cfg0.N) : Operands (weights m c) (tokens m c (t.val / 4)) (512 * (t.val % 4)) (iblk m c 0 t)
    (iblk m c 1 t) (iblk m c 2 t) (iblk m c 3 t) (iblk m c 4 t) (iblk m c 5 t) (iblk m c 6 t) (iblk m c 7 t) (iblk m c 8 t)
    (iblk m c 9 t) (iblk m c 10 t) where
  rows r k := by
    have ht : t.val < 32 := t.isLt
    have hr : 2048 * (t.val / 4) + (512 * (t.val % 4) + r.val) < 16384 := by omega
    unfold tokens
    rw [dif_pos hr]
    have e : (⟨2048 * (t.val / 4) + (512 * (t.val % 4) + r.val), hr⟩ : Fin 16384) = ⟨512 * t.val + r.val, by omega⟩ :=
      Fin.ext (by show 2048 * (t.val / 4) + (512 * (t.val % 4) + r.val) = 512 * t.val + r.val; omega)
    rw [e]
    blk_ext [iblk, V, idx t]
  norm k := by blk_ext! [iblk, V, idx t]
  proj k l := by blk_ext! [iblk, V, idx t]
  tap e j := by blk_ext! [iblk, V, idx t]
  tapBias j := by blk_ext! [iblk, V, idx t]
  decayW e k l := by blk_ext! [iblk, V, idx t]
  decayB j := by blk_ext! [iblk, V, idx t]
  inputW e k l := by blk_ext! [iblk, V, idx t]
  inputB j := by blk_ext! [iblk, V, idx t]
  lam j := by blk_ext! [iblk, V, idx t]
  out k l := by blk_ext! [iblk, V, idx t]

/-- A grid point that begins a sequence. -/
theorem first_tile (t : Fin cfg0.N) (h0 : t.val % 4 = 0) :
    Outcome (weights m c) (tokens m c (t.val / 4)) 0 (outsAt0 m c t.val t.isLt) := by
  have o := operands m c t
  rw [h0] at o
  rw [outsAt0_A m c t h0]
  apply outcome_A
  exact o

/-- A grid point that goes on with a sequence. -/
theorem later_tile (t : Fin cfg0.N) (h0 : ¬ t.val % 4 = 0)
    (hb : Before (weights m c) (tokens m c (t.val / 4)) (512 * (t.val % 4))
      (outsAt0 m c (t.val - 1) (by have := t.isLt; omega)).2.2.2.1 (outsAt0 m c (t.val - 1) (by have := t.isLt; omega)).2.2.2.2) :
    Outcome (weights m c) (tokens m c (t.val / 4)) (512 * (t.val % 4)) (outsAt0 m c t.val t.isLt) := by
  have o := operands m c t
  rw [outsAt0_B m c t h0]
  apply outcome_B
  · exact o
  · exact hb

/-- What grid point `n` leaves. -/
theorem outcome_at : ∀ (n : ℕ) (hn : n < cfg0.N),
    Outcome (weights m c) (tokens m c (n / 4)) (512 * (n % 4)) (outsAt0 m c n hn)
  | 0, hn => first_tile m c ⟨0, hn⟩ rfl
  | n + 1, hn => by
    by_cases h0 : (n + 1) % 4 = 0
    · rw [h0]
      exact first_tile m c ⟨n + 1, hn⟩ h0
    · refine later_tile m c ⟨n + 1, hn⟩ h0 ?_
      have := (outcome_at n (Nat.lt_of_succ_lt hn)).next
      rw [show n / 4 = (n + 1) / 4 by omega, show 512 * (n % 4) + 512 = 512 * ((n + 1) % 4) by omega] at this
      exact this

/-- The layer's output in the kernel's result array. -/
def outputs (i : S16384x1024.Idx) : EReal :=
  outRow (weights m c) (tokens m c ((i 0).val / 2048)) ((i 0).val % 2048) (i 1)

/-- The last states in the kernel's result array. -/
def lasts (i : S8x1x1280.Idx) : EReal :=
  LruMath.state (weights m c) (tokens m c (i 0).val) 2048 (i 2)

/-- The last rows before the convolution in the kernel's result array. -/
def tails (i : S8x3x1280.Idx) : EReal :=
  history (weights m c) (tokens m c (i 0).val) (2048 + (i 1).val) (i 2)

theorem outputs_array : (dats m 0 c).arrAt 11 cfg0.N = outputs m c := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  rw [(outcome_at m c t.val t.isLt).output]
  have ht : t.val < 32 := t.isLt
  have e0 : ((((View.whole main_v9_0).slice (win0_11.rect t)).emb (ix2 r j)) 0).val = 512 * t.val + r.val := by
    blk_simp [idx t]
    omega
  have e1 : (((View.whole main_v9_0).slice (win0_11.rect t)).emb (ix2 r j)) 1 = j := by
    apply Fin.ext
    blk_simp [idx t]
  unfold outputs
  rw [e0, e1, show (512 * t.val + r.val) / 2048 = t.val / 4 by omega,
    show (512 * t.val + r.val) % 2048 = 512 * (t.val % 4) + r.val by omega]

theorem lasts_array : (dats m 0 c).arrAt 12 cfg0.N = lasts m c := by
  refine (dats m 0 c).arrAt_eq_of_covers 12 _ (by decide +kernel) fun t hf y => ?_
  have h3 : t.val % 4 = 3 := by
    revert hf; revert t; decide +kernel
  blk_simp
  rw [after0_12]
  obtain ⟨j, rfl⟩ : ∃ (j : Fin 1280), y = ix3 0 0 j := ⟨y 2, by
    funext a
    fin_cases a
    · exact Subsingleton.elim (α := Fin 1) _ _
    · exact Subsingleton.elim (α := Fin 1) _ _
    · rfl⟩
  rw [(outcome_at m c t.val t.isLt).last]
  have ht : t.val < 32 := t.isLt
  have e0 : ((((View.whole main_v9_1).slice (win0_12.rect t)).emb (ix3 0 0 j)) 0).val = t.val / 4 := by
    blk_simp [idx t]
    exact Nat.add_zero _
  have e1 : (((View.whole main_v9_1).slice (win0_12.rect t)).emb (ix3 0 0 j)) 2 = j := by
    apply Fin.ext
    blk_simp [idx t]
  unfold lasts
  rw [e0, e1, h3]

theorem tails_array : (dats m 0 c).arrAt 13 cfg0.N = tails m c := by
  refine (dats m 0 c).arrAt_eq_of_covers 13 _ (by decide +kernel) fun t hf y => ?_
  have h3 : t.val % 4 = 3 := by
    revert hf; revert t; decide +kernel
  blk_simp
  rw [after0_13]
  obtain ⟨r, j, rfl⟩ : ∃ (r : Fin 3) (j : Fin 1280), y = ix3 0 r j := ⟨y 1, y 2, by
    funext a
    fin_cases a
    · exact Subsingleton.elim (α := Fin 1) _ _
    · rfl
    · rfl⟩
  rw [(outcome_at m c t.val t.isLt).conv]
  have ht : t.val < 32 := t.isLt
  have e0 : ((((View.whole main_v9_2).slice (win0_13.rect t)).emb (ix3 0 r j)) 0).val = t.val / 4 := by
    blk_simp [idx t]
    exact Nat.add_zero _
  have e1 : ((((View.whole main_v9_2).slice (win0_13.rect t)).emb (ix3 0 r j)) 1).val = r.val := by
    blk_simp [idx t]
  have e2 : (((View.whole main_v9_2).slice (win0_13.rect t)).emb (ix3 0 r j)) 2 = j := by
    apply Fin.ext
    blk_simp [idx t]
  unfold tails
  rw [e0, e1, e2, h3]

end Cert.LruKernel

end
-- ==== Proof.LruEntry.lean ====
/-
  What the recurrent layer's reference holds when its loop begins: the branches, the convolution, the gates, and for
  every token the factor and the summand of the recurrence.
-/
module

public import proofs.«01_k».proof.Proof.LruMath
public import proofs.«01_k».proof.Proof.LruRefRun
public import Idealize.ShloMosaic.Lib.Pointwise

@[expose] public section

set_option maxRecDepth 16384

noncomputable section

namespace Cert.LruEntry

open Idealize.ShloMosaic Idealize.ShloMosaic.TcCoe Idealize.ShloMosaic.StableHlo
open Cert.ReferenceIdeal Cert.ReferenceIdeal.Gen Cert.ReferenceIdeal.Value
open Cert.Rows Cert.LruMath

/-- The operations of the first stretch up to the projection. -/
abbrev projOps : List (HloOp τ sig (Elt Ideal)) := hostOps0.take 18

/-- Those that cut the projection into its two branches and put the rows of zeros before the second. -/
abbrev branchOps : List (HloOp τ sig (Elt Ideal)) := (hostOps0.drop 18).take 7

/-- Those of the last rows and of the convolution. -/
abbrev convOps : List (HloOp τ sig (Elt Ideal)) := (hostOps0.drop 25).take 31

/-- Those of the decay's gate. -/
abbrev decayOps : List (HloOp τ sig (Elt Ideal)) := (hostOps0.drop 56).take 15

/-- Those of the input's gate, and the decay parameter's sign. -/
abbrev inputOps : List (HloOp τ sig (Elt Ideal)) := hostOps0.drop 71

theorem cut : (hostOps0 : List (HloOp τ sig (Elt Ideal))) = projOps ++ branchOps ++ convOps ++ decayOps ++ inputOps := rfl

variable (V : Valuation τ sig (Elt Ideal))

theorem proj_rows (b : Fin 8) (t : Fin 2048) (k : Fin 1024) :
    (after projOps V (Proc.devRef .tc main_v0) : Vec Ideal S8x2048x1024 .f32) (ix3 b t k)
      = (V (Proc.devRef .tc main_arg0) : Vec Ideal S16384x1024 .f32) (ix2 ⟨b.val * 2048 + t.val, by omega⟩ k) := by
  simp only [projOps, List.take_succ_cons, List.take_zero]
  after_results_simp
  generalize V (Proc.devRef .tc main_arg0) = x0
  show shapeCast S8x2048x1024 x0 shapeCasts_S16384x1024_S8x2048x1024 (ix3 b t k) = _
  pointwise

theorem proj_apply (b : Fin 8) (t : Fin 2048) (j : Fin 2560) :
    (after projOps V (Proc.devRef .tc main_v14) : Vec Ideal S8x2048x2560 .f32) (ix3 b t j)
      = vecMat (rmsRow (fun k => (V (Proc.devRef .tc main_arg0) : Vec Ideal S16384x1024 .f32) (ix2 ⟨b.val * 2048 + t.val, by omega⟩ k))
          (fun k => (V (Proc.devRef .tc main_arg1) : Vec Ideal S1024 .f32) (ix1 k)))
        (fun k l => (V (Proc.devRef .tc main_arg2) : Vec Ideal S1024x2560 .f32) (ix2 k l)) j := by
  simp only [projOps, List.take_succ_cons, List.take_zero]
  after_results_simp
  generalize V (Proc.devRef .tc main_arg0) = x0
  generalize V (Proc.devRef .tc main_arg1) = x1
  generalize V (Proc.devRef .tc main_arg2) = x2
  pointwise [rmsRow, meanSq, vecMat]

theorem gate_branch (b : Fin 8) (t : Fin 2048) (j : Fin 1280) :
    (after branchOps V (Proc.devRef .tc main_v15) : Vec Ideal S8x2048x1280 .f32) (ix3 b t j)
      = (V (Proc.devRef .tc main_v14) : Vec Ideal S8x2048x2560 .f32) (ix3 b t ⟨j.val, by omega⟩) := by
  simp only [branchOps, List.drop_succ_cons, List.drop_zero, List.take_succ_cons, List.take_zero]
  after_results_simp
  generalize V (Proc.devRef .tc main_v14) = x0
  pointwise

theorem start_zero (b : Fin 8) (j : Fin 1280) :
    (after branchOps V (Proc.devRef .tc main_v17) : Vec Ideal S8x1280 .f32) (ix2 b j) = (0 : EReal) := by
  simp only [branchOps, List.drop_succ_cons, List.drop_zero, List.take_succ_cons, List.take_zero]
  after_results_simp
  pointwise

theorem padded_branch (b : Fin 8) (n : Fin 2051) (j : Fin 1280) (x : Vec Ideal S8x2048x2560 .f32)
    (hx : V (Proc.devRef .tc main_v14) = x) :
    (after branchOps V (Proc.devRef .tc main_v19) : Vec Ideal S8x2051x1280 .f32) (ix3 b n j)
      = if h : n.val < 3 then (0 : EReal) else x (ix3 b ⟨n.val - 3, by omega⟩ ⟨1280 + j.val, by omega⟩) := by
  simp only [branchOps, List.drop_succ_cons, List.drop_zero, List.take_succ_cons, List.take_zero]
  after_results_simp
  subst hx
  show concatenate S8x2051x1280 1
      [⟨S8x3x1280, broadcastInDim S8x3x1280 ![] bcast_S_S8x3x1280 (constant (F := Ideal) S_ .f32 0x00000000#32)⟩,
        ⟨S8x2048x1280, extractStridedSlice S8x2048x1280 ![0, 0, 1280] (V (Proc.devRef .tc main_v14))
          slices_S8x2048x2560_S8x2048x1280_0_0_1280⟩]
      concatenates_S8x3x1280_S8x2048x1280_S8x2051x1280_d1 (ix3 b n j) = _
  generalize V (Proc.devRef .tc main_v14) = x
  pointwise

theorem last_rows (b : Fin 8) (r : Fin 3) (j : Fin 1280) (x : Vec Ideal S8x2051x1280 .f32)
    (hx : V (Proc.devRef .tc main_v19) = x) :
    (after convOps V (Proc.devRef .tc main_v20) : Vec Ideal S8x3x1280 .f32) (ix3 b r j) = x (ix3 b ⟨2048 + r.val, by omega⟩ j) := by
  simp only [convOps, List.drop_succ_cons, List.drop_zero, List.take_succ_cons, List.take_zero]
  after_results_simp
  rw [hx]
  pointwise

theorem conv_apply (b : Fin 8) (t : Fin 2048) (j : Fin 1280) (x : Vec Ideal S8x2051x1280 .f32) (w : Vec Ideal S4x1280 .f32)
    (hx : V (Proc.devRef .tc main_v19) = x) (hw : V (Proc.devRef .tc main_arg3) = w) :
    (after convOps V (Proc.devRef .tc main_v50) : Vec Ideal S8x2048x1280 .f32) (ix3 b t j)
      = x (ix3 b ⟨t.val, by omega⟩ j) * w (ix2 0 j) + x (ix3 b ⟨1 + t.val, by omega⟩ j) * w (ix2 1 j)
        + x (ix3 b ⟨2 + t.val, by omega⟩ j) * w (ix2 2 j) + x (ix3 b ⟨3 + t.val, by omega⟩ j) * w (ix2 3 j)
        + (V (Proc.devRef .tc main_arg4) : Vec Ideal S1280 .f32) (ix1 j) := by
  simp only [convOps, List.drop_succ_cons, List.drop_zero, List.take_succ_cons, List.take_zero]
  after_results_simp
  rw [hx, hw]
  generalize V (Proc.devRef .tc main_arg4) = z
  pointwise

/-- A gate of the reference: the rows cut into heads, each head through its own weights, and the logistic function. -/
def gateOf (x : FVec Ideal S8x2048x10x128 .f32) (w : FVec Ideal S10x128x128 .f32) (z : FVec Ideal S1280 .f32) :
    FVec Ideal S8x2048x1280 .f32 :=
  let one := broadcastInDim S8x2048x1280 ![] bcast_S_S8x2048x1280 (constant (F := Ideal) S_ .f32 0x3F800000#32)
  Host.divf one (addf one (Host.exp (Host.negf (addf
    (shapeCast S8x2048x1280 (transpose S8x2048x10x128 [2, 3, 0, 1]
      (Host.dotGeneral dot_S10x128x128_S8x2048x10x128_S10x128x8x2048_1_3_2_01_0_2 none w x)
      transposes_S10x128x8x2048_S8x2048x10x128_2_3_0_1) shapeCasts_S8x2048x10x128_S8x2048x1280)
    (broadcastInDim S8x2048x1280 ![0, 1, 2] bcast_S1x1x1280_S8x2048x1280_0_1_2
      (broadcastInDim S1x1x1280 ![2] bcast_S1280_S1x1x1280_2 z))))))

theorem gate_apply (x : FVec Ideal S8x2048x10x128 .f32) (w : FVec Ideal S10x128x128 .f32) (z : FVec Ideal S1280 .f32)
    (b : Fin 8) (t : Fin 2048) (j : Fin 1280) :
    gateOf x w z (ix3 b t j)
      = Ideal.logistic (∑ k, x (ix4 b t (head j) k) * w (ix3 (head j) k (lane j)) + z (ix1 j)) := by
  simp only [mul_comm (x _)]
  pointwise [gateOf, head, lane, Ideal.logistic]

/-- Rows cut into heads. -/
theorem heads_apply (x : FVec Ideal S8x2048x1280 .f32) (b : Fin 8) (t : Fin 2048) (e : Fin 10) (l : Fin 128) :
    shapeCast S8x2048x10x128 x shapeCasts_S8x2048x1280_S8x2048x10x128 (ix4 b t e l) = x (ix3 b t (col e l)) := by
  have h : col e l = ⟨e.val * 128 + l.val, by omega⟩ := Fin.ext (by show 128 * e.val + l.val = e.val * 128 + l.val; omega)
  rw [h]
  pointwise

theorem in_heads (b : Fin 8) (t : Fin 2048) (e : Fin 10) (l : Fin 128) (x : Vec Ideal S8x2048x1280 .f32)
    (hx : V (Proc.devRef .tc main_v50) = x) :
    (after decayOps V (Proc.devRef .tc main_v51) : Vec Ideal S8x2048x10x128 .f32) (ix4 b t e l) = x (ix3 b t (col e l)) := by
  simp only [decayOps, List.drop_succ_cons, List.drop_zero, List.take_succ_cons, List.take_zero]
  after_results_simp
  rw [hx]
  exact heads_apply x b t e l

theorem decay_gate (b : Fin 8) (t : Fin 2048) (j : Fin 1280) (w : Vec Ideal S10x128x128 .f32) (z : Vec Ideal S1280 .f32)
    (x : Vec Ideal S8x2048x1280 .f32) (hw : V (Proc.devRef .tc main_arg5) = w) (hz : V (Proc.devRef .tc main_arg6) = z)
    (hx : V (Proc.devRef .tc main_v50) = x) :
    (after decayOps V (Proc.devRef .tc main_v63) : Vec Ideal S8x2048x1280 .f32) (ix3 b t j)
      = Ideal.logistic (∑ k, x (ix3 b t (col (head j) k)) * w (ix3 (head j) k (lane j)) + z (ix1 j)) := by
  simp only [decayOps, List.drop_succ_cons, List.drop_zero, List.take_succ_cons, List.take_zero]
  after_results_simp
  rw [hw, hz, hx]
  refine (gate_apply (shapeCast S8x2048x10x128 x shapeCasts_S8x2048x1280_S8x2048x10x128) w z b t j).trans ?_
  simp only [heads_apply]

theorem input_gate (b : Fin 8) (t : Fin 2048) (j : Fin 1280) (w : Vec Ideal S10x128x128 .f32) (z : Vec Ideal S1280 .f32)
    (x : Vec Ideal S8x2048x10x128 .f32) (hw : V (Proc.devRef .tc main_arg7) = w) (hz : V (Proc.devRef .tc main_arg8) = z)
    (hx : V (Proc.devRef .tc main_v51) = x) :
    (after inputOps V (Proc.devRef .tc main_v75) : Vec Ideal S8x2048x1280 .f32) (ix3 b t j)
      = Ideal.logistic (∑ k, x (ix4 b t (head j) k) * w (ix3 (head j) k (lane j)) + z (ix1 j)) := by
  simp only [inputOps, List.drop_succ_cons, List.drop_zero, List.take_succ_cons, List.take_zero]
  after_results_simp
  rw [hw, hz, hx]
  exact gate_apply x w z b t j

theorem scaled_gate (b : Fin 8) (t : Fin 2048) (j : Fin 1280) (x : Vec Ideal S8x2048x1280 .f32)
    (hx : V (Proc.devRef .tc main_v63) = x) :
    (after inputOps V (Proc.devRef .tc main_v77) : Vec Ideal S8x2048x1280 .f32) (ix3 b t j)
      = Ideal.ofBits .f32 0xC1000000#32 * x (ix3 b t j) := by
  simp only [inputOps, List.drop_succ_cons, List.drop_zero, List.take_succ_cons, List.take_zero]
  after_results_simp
  rw [hx]
  pointwise

theorem lam_negated (j : Fin 1280) (x : Vec Ideal S1280 .f32) (hx : V (Proc.devRef .tc main_arg9) = x) :
    (after inputOps V (Proc.devRef .tc main_v78) : Vec Ideal S1280 .f32) (ix1 j) = 0 - x (ix1 j) := by
  simp only [inputOps, List.drop_succ_cons, List.drop_zero, List.take_succ_cons, List.take_zero]
  after_results_simp
  rw [hx, zero_sub]
  pointwise

/-- The softplus that the reference computes: the larger of zero and `x`, and the logarithm's part. -/
def softplus (x : FVec Ideal S1280 .f32) : FVec Ideal S1280 .f32 :=
  let z := broadcastInDim S1280 ![] bcast_S_S1280 (constant (F := Ideal) S_ .f32 0x00000000#32)
  select (cmpf .une (subf x z) (subf x z)) (addf x z)
    (addf (maximumf x z) (Host.log1p (Host.exp (Host.negf (Host.absf (subf x z))))))

theorem softplus_result (x : Vec Ideal S1280 .f32) (hx : V (Proc.devRef .tc main_v78) = x) :
    after hostOps0_1 V (Proc.devRef .tc main_v79) = softplus x := by
  subst hx
  unfold hostOps0_1
  after_results_entrywise []

theorem softplus_apply (x : FVec Ideal S1280 .f32) (j : Fin 1280) (l : EReal) (h : x (ix1 j) = 0 - l) :
    softplus x (ix1 j) = soft l := by
  unfold soft
  rw [← h, zero_sub]
  have : ∀ y : EReal, (FloatOps.absf (F := Ideal) (φ := .f32) y : EReal) = max y (-y) := fun _ => rfl
  pointwise [softplus, this]
  exact if_neg (fun h => h rfl)

theorem factors (b : Fin 8) (t : Fin 2048) (j : Fin 1280) (g : Vec Ideal S8x2048x1280 .f32) (l : Vec Ideal S1280 .f32)
    (hg : V (Proc.devRef .tc main_v77) = g) (hl : V (Proc.devRef .tc main_v79) = l) :
    (after hostOps0_2 V (Proc.devRef .tc main_v94_0) : Vec Ideal S2048x8x1280 .f32) (ix3 t b j)
      = Ideal.exp (g (ix3 b t j) * l (ix1 j)) := by
  simp only [hostOps0_2]
  after_results_simp
  rw [hg, hl]
  pointwise [id]

theorem summands (b : Fin 8) (t : Fin 2048) (j : Fin 1280) (g i c : Vec Ideal S8x2048x1280 .f32) (l : Vec Ideal S1280 .f32)
    (hg : V (Proc.devRef .tc main_v77) = g) (hl : V (Proc.devRef .tc main_v79) = l)
    (hi : V (Proc.devRef .tc main_v75) = i) (hc : V (Proc.devRef .tc main_v50) = c) :
    (after hostOps0_2 V (Proc.devRef .tc main_v94_1) : Vec Ideal S2048x8x1280 .f32) (ix3 t b j)
      = Ideal.sqrt (-(Ideal.exp (Ideal.ofBits .f32 0x40000000#32 * (g (ix3 b t j) * l (ix1 j))) - 1))
        * (i (ix3 b t j) * c (ix3 b t j)) := by
  simp only [hostOps0_2]
  after_results_simp
  rw [hg, hl, hi, hc]
  pointwise [id, Ideal.expm1]

theorem loop_start : after hostOps0_2 V (Proc.devRef .tc main_v94_3) = V (Proc.devRef .tc main_v17) := by
  simp only [hostOps0_2]
  after_results_simp
  rfl

/-- A buffer that the first stretch does not write is kept by each of its parts. -/
theorem part_keeps (ops : List (HloOp τ sig (Elt Ideal))) (h : ops ⊆ hostOps0) (r : Ref sig .tc) (hr : r ∉ hostOps0_W) :
    after ops V (Proc.devRef .tc r) = V (Proc.devRef .tc r) :=
  after_of_writes_sub ops V (List.forall_iff_forall_mem.mpr fun op hop =>
    List.forall_iff_forall_mem.mp hostOps0_writes op (h hop)) hr

/-- What each part writes. -/
abbrev projW : List (Ref sig .tc) := hostOps0_W.take 18
abbrev branchW : List (Ref sig .tc) := (hostOps0_W.drop 18).take 7
abbrev convW : List (Ref sig .tc) := (hostOps0_W.drop 25).take 31
abbrev decayW : List (Ref sig .tc) := (hostOps0_W.drop 56).take 15
abbrev inputW : List (Ref sig .tc) := hostOps0_W.drop 71

theorem branch_keeps (r : Ref sig .tc) (hr : r ∉ branchW) : after branchOps V (Proc.devRef .tc r) = V (Proc.devRef .tc r) :=
  after_of_writes_sub _ V (StableHlo.forall_writes_sub_of_map rfl) hr

theorem conv_keeps (r : Ref sig .tc) (hr : r ∉ convW) : after convOps V (Proc.devRef .tc r) = V (Proc.devRef .tc r) :=
  after_of_writes_sub _ V (StableHlo.forall_writes_sub_of_map rfl) hr

theorem decay_keeps (r : Ref sig .tc) (hr : r ∉ decayW) : after decayOps V (Proc.devRef .tc r) = V (Proc.devRef .tc r) :=
  after_of_writes_sub _ V (StableHlo.forall_writes_sub_of_map rfl) hr

theorem input_keeps (r : Ref sig .tc) (hr : r ∉ inputW) : after inputOps V (Proc.devRef .tc r) = V (Proc.devRef .tc r) :=
  after_of_writes_sub _ V (StableHlo.forall_writes_sub_of_map rfl) hr

theorem soft_keeps (r : Ref sig .tc) (hr : r ∉ hostOps0_1_W) : after hostOps0_1 V (Proc.devRef .tc r) = V (Proc.devRef .tc r) :=
  after_of_writes_sub _ V hostOps0_1_writes hr

theorem last_keeps (r : Ref sig .tc) (hr : r ∉ hostOps0_2_W) : after hostOps0_2 V (Proc.devRef .tc r) = V (Proc.devRef .tc r) :=
  after_of_writes_sub _ V hostOps0_2_writes hr

end Cert.LruEntry

end
-- ==== Proof.LruReference.lean ====
/-
  The recurrent layer's reference, token by token: what its loop carries after each trip, and its three results.
-/
module

public import proofs.«01_k».proof.Proof.LruEntry
public import Idealize.ShloMosaic.Lib.WordArith.Masks
public import Idealize.ShloMosaic.Lib.DynamicIndex
public import Idealize.ShloMosaic.Lib.Pipeline.Value

@[expose] public section

set_option maxRecDepth 16384

noncomputable section

namespace Cert.LruReference

open Idealize.ShloMosaic Idealize.ShloMosaic.TcCoe Idealize.ShloMosaic.StableHlo
open Cert.ReferenceIdeal Cert.ReferenceIdeal.Gen Cert.ReferenceIdeal.Value
open Cert.Rows Cert.LruMath Cert.LruEntry Cert.LruRefRun

variable (m : (ℓ : Loc nD τ sig) → Buf (Elt Ideal) ℓ) (c : Dev nD)

/-- The layer's parameters in the argument arrays. -/
def weights : Weights where
  norm k := m ((c.tc : Thread nD τ).loc main_arg1) (ix1 k)
  proj k l := m ((c.tc : Thread nD τ).loc main_arg2) (ix2 k l)
  tap e j := m ((c.tc : Thread nD τ).loc main_arg3) (ix2 e j)
  tapBias j := m ((c.tc : Thread nD τ).loc main_arg4) (ix1 j)
  decayW e k l := m ((c.tc : Thread nD τ).loc main_arg5) (ix3 e k l)
  decayB j := m ((c.tc : Thread nD τ).loc main_arg6) (ix1 j)
  inputW e k l := m ((c.tc : Thread nD τ).loc main_arg7) (ix3 e k l)
  inputB j := m ((c.tc : Thread nD τ).loc main_arg8) (ix1 j)
  lam j := m ((c.tc : Thread nD τ).loc main_arg9) (ix1 j)
  out k l := m ((c.tc : Thread nD τ).loc main_arg10) (ix2 k l)

/-- The rows of sequence `b`. -/
def tokens (b n : ℕ) (k : Fin 1024) : EReal :=
  if h : 2048 * b + n < 16384 then m ((c.tc : Thread nD τ).loc main_arg0) (ix2 ⟨2048 * b + n, h⟩ k) else 0

theorem tokens_row (b : Fin 8) (t : Fin 2048) (k : Fin 1024) :
    (m ((c.tc : Thread nD τ).loc main_arg0) : Vec Ideal S16384x1024 .f32) (ix2 ⟨b.val * 2048 + t.val, by omega⟩ k)
      = tokens m c b.val t.val k := by
  unfold tokens
  rw [dif_pos (show 2048 * b.val + t.val < 16384 by omega)]
  simp only [Nat.mul_comm 2048]

/-! ## The contents after each part of the stretch before the loop -/

def c0 : Valuation τ sig (Elt Ideal) := launchContents m c
def c1 : Valuation τ sig (Elt Ideal) := after projOps (c0 m c)
def c2 : Valuation τ sig (Elt Ideal) := after branchOps (c1 m c)
def c3 : Valuation τ sig (Elt Ideal) := after convOps (c2 m c)
def c4 : Valuation τ sig (Elt Ideal) := after decayOps (c3 m c)
def c5 : Valuation τ sig (Elt Ideal) := after inputOps (c4 m c)
def c6 : Valuation τ sig (Elt Ideal) := after hostOps0_1 (c5 m c)

/-- Two stretches one after the other. -/
theorem after_both (l l' : List (HloOp τ sig (Elt Ideal))) (V : Valuation τ sig (Elt Ideal)) :
    after (l ++ l') V = after l' (after l V) := by
  induction l generalizing V with
  | nil => rfl
  | cons op l ih => exact ih _

theorem entry_eq : entryContents preI m c = after hostOps0_2 (c6 m c) := by
  have h := congrArg (fun l => after hostOps0_2 (after hostOps0_1 (after l (launchContents m c)))) cut
  simp only [after_both] at h
  exact h

theorem proj_sub : projOps ⊆ hostOps0 := List.take_subset _ _
theorem branch_sub : branchOps ⊆ hostOps0 := List.Subset.trans (List.take_subset _ _) (List.drop_subset _ _)
theorem conv_sub : convOps ⊆ hostOps0 := List.Subset.trans (List.take_subset _ _) (List.drop_subset _ _)
theorem decay_sub : decayOps ⊆ hostOps0 := List.Subset.trans (List.take_subset _ _) (List.drop_subset _ _)

variable (r : Ref sig .tc) (hr : r ∉ hostOps0_W)
include hr

/-- An argument is kept by every part. -/
theorem arg1 : c1 m c (Proc.devRef .tc r) = m ((c.tc : Thread nD τ).loc r) := part_keeps _ _ proj_sub r hr
theorem arg2 : c2 m c (Proc.devRef .tc r) = m ((c.tc : Thread nD τ).loc r) :=
  (part_keeps _ _ branch_sub r hr).trans (arg1 m c r hr)
theorem arg3 : c3 m c (Proc.devRef .tc r) = m ((c.tc : Thread nD τ).loc r) :=
  (part_keeps _ _ conv_sub r hr).trans (arg2 m c r hr)
theorem arg4 : c4 m c (Proc.devRef .tc r) = m ((c.tc : Thread nD τ).loc r) :=
  (part_keeps _ _ decay_sub r hr).trans (arg3 m c r hr)

omit hr

variable (b : Fin 8) (t : Fin 2048)

/-- The projection of a token. -/
theorem projected (j : Fin 2560) : (c1 m c (Proc.devRef .tc main_v14) : Vec Ideal S8x2048x2560 .f32) (ix3 b t j)
    = vecMat (rmsRow (tokens m c b.val t.val) (weights m c).norm) (weights m c).proj j := by
  refine (proj_apply (c0 m c) b t j).trans ?_
  have h : ∀ k, tokens m c b.val t.val k = _ := fun k => (tokens_row m c b t k).symm
  rw [show tokens m c b.val t.val = _ from funext h]
  rfl

theorem input_rows (k : Fin 1024) : (c1 m c (Proc.devRef .tc main_v0) : Vec Ideal S8x2048x1024 .f32) (ix3 b t k)
    = tokens m c b.val t.val k :=
  (proj_rows (c0 m c) b t k).trans (tokens_row m c b t k)

theorem gates (j : Fin 1280) : (c2 m c (Proc.devRef .tc main_v15) : Vec Ideal S8x2048x1280 .f32) (ix3 b t j)
    = gateRow (weights m c) (tokens m c b.val t.val) j :=
  (gate_branch (c1 m c) b t j).trans (projected m c b t _)

theorem padded (n : Fin 2051) (j : Fin 1280) : (c2 m c (Proc.devRef .tc main_v19) : Vec Ideal S8x2051x1280 .f32) (ix3 b n j)
    = history (weights m c) (tokens m c b.val) n.val j := by
  refine (padded_branch (c1 m c) b n j _ rfl).trans ?_
  unfold history
  split
  · rfl
  · exact projected m c b _ _

theorem tail_rows (i : Fin 3) (j : Fin 1280) : (c3 m c (Proc.devRef .tc main_v20) : Vec Ideal S8x3x1280 .f32) (ix3 b i j)
    = history (weights m c) (tokens m c b.val) (2048 + i.val) j :=
  (last_rows (c2 m c) b i j _ rfl).trans (padded m c b _ j)

theorem convolved (j : Fin 1280) : (c3 m c (Proc.devRef .tc main_v50) : Vec Ideal S8x2048x1280 .f32) (ix3 b t j)
    = convRow (weights m c) (tokens m c b.val) t.val j := by
  refine (LruEntry.conv_apply (c2 m c) b t j _ _ rfl rfl).trans ?_
  rw [padded, padded, padded, padded, arg2 m c main_arg3 (by decide), arg2 m c main_arg4 (by decide)]
  unfold convRow
  simp only [Nat.add_comm _ t.val]
  rw [add_comm]
  simp only [← add_assoc]
  rfl

theorem conv_heads (e : Fin 10) (l : Fin 128) :
    (c4 m c (Proc.devRef .tc main_v51) : Vec Ideal S8x2048x10x128 .f32) (ix4 b t e l)
      = convRow (weights m c) (tokens m c b.val) t.val (col e l) :=
  (in_heads (c3 m c) b t e l _ rfl).trans (convolved m c b t _)

theorem decay_gates (j : Fin 1280) : (c4 m c (Proc.devRef .tc main_v63) : Vec Ideal S8x2048x1280 .f32) (ix3 b t j)
    = gateAt (weights m c).decayW (weights m c).decayB (convRow (weights m c) (tokens m c b.val) t.val) (head j) (lane j) := by
  refine (decay_gate (c3 m c) b t j _ _ _ rfl rfl rfl).trans ?_
  unfold gateAt
  rw [col_head_lane]
  refine congrArg Ideal.logistic (congr (congrArg HAdd.hAdd (Finset.sum_congr rfl fun k _ =>
    congr (congrArg HMul.hMul (convolved m c b t _)) ?_)) ?_)
  · exact congrFun (arg3 m c main_arg5 (by decide)) _
  · exact congrFun (arg3 m c main_arg6 (by decide)) _

theorem input_gates (j : Fin 1280) : (c5 m c (Proc.devRef .tc main_v75) : Vec Ideal S8x2048x1280 .f32) (ix3 b t j)
    = gateAt (weights m c).inputW (weights m c).inputB (convRow (weights m c) (tokens m c b.val) t.val) (head j) (lane j) := by
  refine (input_gate (c4 m c) b t j _ _ _ rfl rfl rfl).trans ?_
  unfold gateAt
  rw [col_head_lane]
  refine congrArg Ideal.logistic (congr (congrArg HAdd.hAdd (Finset.sum_congr rfl fun k _ =>
    congr (congrArg HMul.hMul (conv_heads m c b t _ _)) ?_)) ?_)
  · exact congrFun (arg4 m c main_arg7 (by decide)) _
  · exact congrFun (arg4 m c main_arg8 (by decide)) _

theorem soft_values (j : Fin 1280) : (c6 m c (Proc.devRef .tc main_v79) : Vec Ideal S1280 .f32) (ix1 j)
    = soft ((weights m c).lam j) := by
  refine (congrFun (softplus_result (c5 m c) _ rfl) (ix1 j)).trans (softplus_apply _ j _ ?_)
  refine (lam_negated (c4 m c) j _ rfl).trans ?_
  rw [arg4 m c main_arg9 (by decide)]
  rfl

theorem rates (j : Fin 1280) (g : Vec Ideal S8x2048x1280 .f32) (l : Vec Ideal S1280 .f32)
    (hg : c6 m c (Proc.devRef .tc main_v77) = g) (hl : c6 m c (Proc.devRef .tc main_v79) = l) :
    g (ix3 b t j) * l (ix1 j) = (rateAt (weights m c) (convRow (weights m c) (tokens m c b.val) t.val) (head j) (lane j) : EReal) := by
  subst hg hl
  rw [soft_values]
  unfold c6
  rw [soft_keeps _ main_v77 (by decide)]
  unfold c5
  rw [scaled_gate (c4 m c) b t j _ rfl, decay_gates]
  unfold rateAt
  rw [col_head_lane]

theorem entry_decays (j : Fin 1280) :
    (entryContents preI m c (Proc.devRef .tc main_v94_0) : Vec Ideal S2048x8x1280 .f32) (ix3 t b j)
      = decayRow (weights m c) (tokens m c b.val) t.val j := by
  rw [entry_eq, factors (c6 m c) b t j _ _ rfl rfl, rates m c b t j _ _ rfl rfl]
  rfl

theorem entry_inputs (j : Fin 1280) :
    (entryContents preI m c (Proc.devRef .tc main_v94_1) : Vec Ideal S2048x8x1280 .f32) (ix3 t b j)
      = inputRow (weights m c) (tokens m c b.val) t.val j := by
  rw [entry_eq, summands (c6 m c) b t j _ _ _ _ rfl rfl rfl rfl, rates m c b t j _ _ rfl rfl]
  unfold c6
  rw [soft_keeps _ main_v75 (by decide), soft_keeps _ main_v50 (by decide), input_gates]
  unfold c5
  rw [input_keeps _ main_v50 (by decide)]
  unfold c4
  rw [decay_keeps _ main_v50 (by decide), convolved]
  unfold inputRow
  rw [inputAt_eq, col_head_lane]

theorem entry_start (j : Fin 1280) :
    (entryContents preI m c (Proc.devRef .tc main_v94_3) : Vec Ideal S8x1280 .f32) (ix2 b j) = (0 : EReal) := by
  rw [entry_eq, loop_start]
  unfold c6
  rw [soft_keeps _ main_v17 (by decide)]
  unfold c5
  rw [input_keeps _ main_v17 (by decide)]
  unfold c4
  rw [decay_keeps _ main_v17 (by decide)]
  unfold c3
  rw [conv_keeps _ main_v17 (by decide)]
  exact start_zero (c1 m c) b j

theorem entry_gates (j : Fin 1280) :
    (entryContents preI m c (Proc.devRef .tc main_v15) : Vec Ideal S8x2048x1280 .f32) (ix3 b t j)
      = gateRow (weights m c) (tokens m c b.val t.val) j := by
  rw [entry_eq, last_keeps _ main_v15 (by decide)]
  unfold c6
  rw [soft_keeps _ main_v15 (by decide)]
  unfold c5
  rw [input_keeps _ main_v15 (by decide)]
  unfold c4
  rw [decay_keeps _ main_v15 (by decide)]
  unfold c3
  rw [conv_keeps _ main_v15 (by decide), gates]

theorem entry_rows (k : Fin 1024) :
    (entryContents preI m c (Proc.devRef .tc main_v0) : Vec Ideal S8x2048x1024 .f32) (ix3 b t k) = tokens m c b.val t.val k := by
  rw [entry_eq, last_keeps _ main_v0 (by decide)]
  unfold c6
  rw [soft_keeps _ main_v0 (by decide)]
  unfold c5
  rw [input_keeps _ main_v0 (by decide)]
  unfold c4
  rw [decay_keeps _ main_v0 (by decide)]
  unfold c3
  rw [conv_keeps _ main_v0 (by decide)]
  unfold c2
  rw [branch_keeps _ main_v0 (by decide), input_rows]

theorem entry_tails (i : Fin 3) (j : Fin 1280) :
    (entryContents preI m c (Proc.devRef .tc main_v20) : Vec Ideal S8x3x1280 .f32) (ix3 b i j)
      = history (weights m c) (tokens m c b.val) (2048 + i.val) j := by
  rw [entry_eq, last_keeps _ main_v20 (by decide)]
  unfold c6
  rw [soft_keeps _ main_v20 (by decide)]
  unfold c5
  rw [input_keeps _ main_v20 (by decide)]
  unfold c4
  rw [decay_keeps _ main_v20 (by decide), tail_rows]

/-! ## The loop -/

omit b t

theorem counter_word (k : ℕ) (hk : k < 2048) : (Scf.iv 0#32 1#32 k).toInt = k := by
  rw [BitVec.toInt_eq_toNat_of_lt (by rw [WordArith.toNat_iv_zero_one _ (by omega)]; omega),
    WordArith.toNat_iv_zero_one _ (by omega)]

/-- Where a trip reads and writes. -/
abbrev place (w : IVec S_ 32) : Fin S2048x8x1280.rank → Int := fun a =>
  ((![w, constantI S_ 32 0#32, constantI S_ 32 0#32] : Fin 3 → IVec S_ 32) a (Shape.Idx.first h_S_)).toInt

theorem place_eq (w : IVec S_ 32) (k : ℕ) (hk : k < 2048) (hw : w = fun _ => Scf.iv 0#32 1#32 k) (a : Fin S2048x8x1280.rank) :
    place w a = ((![k, 0, 0] : Fin 3 → ℕ) a : Int) := by
  subst hw
  fin_cases a
  · exact counter_word k hk
  · rfl
  · rfl

theorem place_fits (k : ℕ) (hk : k < 2048) : S2048x8x1280.Slices ![k, 0, 0] S1x8x1280 :=
  ⟨rfl, fun a => by
    fin_cases a
    · show k + 1 ≤ 2048
      omega
    · show 0 + 8 ≤ 8
      omega
    · show 0 + 1280 ≤ 1280
      omega⟩

/-- What a trip reads of an array over the tokens. -/
theorem read_token (x : FVec Ideal S2048x8x1280 .f32) (w : IVec S_ 32) (k : ℕ) (hk : k < 2048)
    (hw : w = fun _ => Scf.iv 0#32 1#32 k) (b : Fin 8) (j : Fin 1280) :
    shapeCast S8x1280 (Host.dynamicSlice S1x8x1280 x (place w) sliceFits_S2048x8x1280_S1x8x1280)
      shapeCasts_S1x8x1280_S8x1280 (ix2 b j) = x (ix3 ⟨k, hk⟩ b j) := by
  rw [Host.dynamicSlice_eq_extractStridedSlice _ _ _ ![k, 0, 0] _ (place_fits k hk) (place_eq w k hk hw)]
  pointwise

/-- What a trip leaves of an array over the tokens. -/
theorem write_token (x : FVec Ideal S2048x8x1280 .f32) (y : FVec Ideal S8x1280 .f32) (w : IVec S_ 32) (k : ℕ) (hk : k < 2048)
    (hw : w = fun _ => Scf.iv 0#32 1#32 k) (t : Fin 2048) (b : Fin 8) (j : Fin 1280) :
    Host.dynamicUpdateSlice x (broadcastInDim S1x8x1280 ![1, 2] bcast_S8x1280_S1x8x1280_1_2 y) (place w)
      updateFits_S2048x8x1280_S1x8x1280 (ix3 t b j) = if t.val = k then y (ix2 b j) else x (ix3 t b j) := by
  rw [Host.dynamicUpdateSlice_eq_updateSlice _ _ _ _ ![k, 0, 0] (fun a => by
    have := (place_fits k hk).2 a
    rw [place_eq w k hk hw a]
    omega) (place_fits k hk)]
  pointwise
  by_cases h : t.val = k
  · rw [dif_pos (by omega), if_pos h]
  · rw [dif_neg (by omega), if_neg h]

/-- What the loop carries before trip `k`. -/
structure Carried (k : ℕ) (V : Valuation τ sig (Elt Ideal)) : Prop where
  decays : ∀ (b : Fin 8) (t : Fin 2048) (j : Fin 1280), (V (Proc.devRef .tc main_v94_0) : Vec Ideal S2048x8x1280 .f32) (ix3 t b j)
    = decayRow (weights m c) (tokens m c b.val) t.val j
  inputs : ∀ (b : Fin 8) (t : Fin 2048) (j : Fin 1280), (V (Proc.devRef .tc main_v94_1) : Vec Ideal S2048x8x1280 .f32) (ix3 t b j)
    = inputRow (weights m c) (tokens m c b.val) t.val j
  last : ∀ (b : Fin 8) (j : Fin 1280), (V (Proc.devRef .tc main_v94_3) : Vec Ideal S8x1280 .f32) (ix2 b j)
    = LruMath.state (weights m c) (tokens m c b.val) k j
  states : ∀ (b : Fin 8) (t : Fin 2048) (j : Fin 1280), t.val < k →
    (V (Proc.devRef .tc main_v94_4) : Vec Ideal S2048x8x1280 .f32) (ix3 t b j)
      = LruMath.state (weights m c) (tokens m c b.val) (t.val + 1) j

/-- The state that trip `k` computes. -/
theorem trip_state (V : Valuation τ sig (Elt Ideal)) (k : ℕ) (hk : k < 2048) (h : Carried m c k V)
    (hw : V (Proc.devRef .tc main_v94_2) = fun _ => Scf.iv 0#32 1#32 k) (b : Fin 8) (j : Fin 1280) :
    (res_main_while0b_v119 V : Vec Ideal S8x1280 .f32) (ix2 b j) = LruMath.state (weights m c) (tokens m c b.val) (k + 1) j := by
  have e1 := (read_token (V (Proc.devRef .tc main_v94_0)) _ k hk hw b j).trans (h.decays b ⟨k, hk⟩ j)
  have e2 := (read_token (V (Proc.devRef .tc main_v94_1)) _ k hk hw b j).trans (h.inputs b ⟨k, hk⟩ j)
  have e3 := h.last b j
  exact congr (congrArg HAdd.hAdd (congr (congrArg HMul.hMul e1) e3)) e2

theorem carried : ∀ k, k ≤ 2048 → Carried m c k (atK m k c)
  | 0, _ => ⟨fun b t j => entry_decays m c b t j, fun b t j => entry_inputs m c b t j,
      fun b j => entry_start m c b j, fun _ _ _ h => absurd h (Nat.not_lt_zero _)⟩
  | k + 1, hk => by
    have ih := carried k (by omega)
    have hw := atK_ctr m c k
    have step : Agree (atK m (k + 1) c) (STEP (atK m k c)) := trip_agree (atK m k c)
    have st := trip_state m c _ k (by omega) ih hw
    refine ⟨fun b t j => ?_, fun b t j => ?_, fun b j => ?_, fun b t j ht => ?_⟩
    · rw [step main_v94_0 (by decide), STEP_main_v94_0]
      exact ih.decays b t j
    · rw [step main_v94_1 (by decide), STEP_main_v94_1]
      exact ih.inputs b t j
    · rw [step main_v94_3 (by decide), STEP_main_v94_3]
      exact st b j
    · rw [step main_v94_4 (by decide), STEP_main_v94_4]
      refine (write_token (atK m k c (Proc.devRef .tc main_v94_4)) (res_main_while0b_v119 (atK m k c)) _ k (by omega) hw t b j).trans ?_
      split
      · next e => rw [e]; exact st b j
      · exact ih.states b t j (by omega)

/-! ## The results -/

/-- The output after the last stretch, from what it reads. -/
theorem output_rows (V : Valuation τ sig (Elt Ideal)) (x : Vec Ideal S8x2048x1024 .f32) (g : Vec Ideal S8x2048x1280 .f32)
    (s : Vec Ideal S2048x8x1280 .f32) (w : Vec Ideal S1280x1024 .f32) (hx : V (Proc.devRef .tc main_v0) = x)
    (hg : V (Proc.devRef .tc main_v15) = g) (hs : V (Proc.devRef .tc main_v94_4) = s) (hw : V (Proc.devRef .tc main_arg10) = w)
    (i : Fin 16384) (j : Fin 1024) (b : Fin 8) (t : Fin 2048) (hb : b.val = i.val / 2048) (ht : t.val = i.val % 2048) :
    (after hostOps0_3 V (Proc.devRef .tc main_v112) : Vec Ideal S16384x1024 .f32) (ix2 i j)
      = x (ix3 b t j) + ∑ k, gelu (g (ix3 b t k)) * s (ix3 t b k) * w (ix2 k j) := by
  rw [show b = ⟨i.val / 2048, Nat.div_lt_of_lt_mul i.isLt⟩ from Fin.ext hb,
    show t = ⟨i.val % 2048, Nat.mod_lt _ (by decide)⟩ from Fin.ext ht]
  simp only [hostOps0_3]
  after_results_simp
  rw [hx, hg, hs, hw]
  simp only [gelu, mul_comm (g _) (g _ * g _)]
  pointwise

/-- The last states after the last stretch. -/
theorem last_states (V : Valuation τ sig (Elt Ideal)) (s : Vec Ideal S2048x8x1280 .f32)
    (hs : V (Proc.devRef .tc main_v94_4) = s) (b : Fin 8) (z : Fin 1) (j : Fin 1280) :
    (after hostOps0_3 V (Proc.devRef .tc main_v115) : Vec Ideal S8x1x1280 .f32) (ix3 b z j) = s (ix3 ⟨2047, by decide⟩ b j) := by
  simp only [hostOps0_3]
  after_results_simp
  rw [hs]
  pointwise

/-- The contents before the last stretch. -/
abbrev beforeLast : Valuation τ sig (Elt Ideal) := after condOps (atK m 2048 c)

theorem final_eq : finalContents condOps preI bodyI postI 2048 m c = after hostOps0_3 (beforeLast m c) := by
  simp only [finalContents, postI, afterL_cons, afterL_nil]

theorem last_reads (r : Ref sig .tc) (h : r ∉ condOps_W) :
    beforeLast m c (Proc.devRef .tc r) = atK m 2048 c (Proc.devRef .tc r) :=
  after_of_writes_sub _ _ condOps_writes h

theorem output_final (i : Fin 16384) (j : Fin 1024) :
    (finalContents condOps preI bodyI postI 2048 m c (Proc.devRef .tc main_v112) : Vec Ideal S16384x1024 .f32) (ix2 i j)
      = outRow (weights m c) (tokens m c (i.val / 2048)) (i.val % 2048) j := by
  rw [final_eq]
  refine (output_rows (beforeLast m c) _ _ _ _ rfl rfl rfl rfl i j ⟨i.val / 2048, by omega⟩ ⟨i.val % 2048, by omega⟩ rfl rfl).trans ?_
  have h0 : beforeLast m c (Proc.devRef .tc main_v0) = entryContents preI m c (Proc.devRef .tc main_v0) :=
    (last_reads m c main_v0 (by decide)).trans (loop_keeps m c main_v0 (by decide) 2048)
  have h1 : beforeLast m c (Proc.devRef .tc main_v15) = entryContents preI m c (Proc.devRef .tc main_v15) :=
    (last_reads m c main_v15 (by decide)).trans (loop_keeps m c main_v15 (by decide) 2048)
  have h2 : beforeLast m c (Proc.devRef .tc main_v94_4) = atK m 2048 c (Proc.devRef .tc main_v94_4) :=
    last_reads m c main_v94_4 (by decide)
  have h3 : beforeLast m c (Proc.devRef .tc main_arg10) = m ((c.tc : Thread nD τ).loc main_arg10) := by
    rw [last_reads m c main_arg10 (by decide), loop_keeps m c main_arg10 (by decide) 2048, entry_eq,
      last_keeps _ main_arg10 (by decide)]
    unfold c6
    rw [soft_keeps _ main_arg10 (by decide)]
    unfold c5
    rw [input_keeps _ main_arg10 (by decide)]
    exact arg4 m c main_arg10 (by decide)
  rw [h0, h1, h2, h3]
  unfold outRow
  refine congr (congrArg HAdd.hAdd (entry_rows m c _ _ j)) (Finset.sum_congr rfl fun k _ => ?_)
  refine congr (congrArg HMul.hMul (congr (congrArg HMul.hMul (congrArg gelu (entry_gates m c _ _ k))) ?_)) rfl
  exact (carried m c 2048 (le_refl _)).states _ _ k (by show i.val % 2048 < 2048; omega)

theorem last_final (b : Fin 8) (z : Fin 1) (j : Fin 1280) :
    (finalContents condOps preI bodyI postI 2048 m c (Proc.devRef .tc main_v115) : Vec Ideal S8x1x1280 .f32) (ix3 b z j)
      = LruMath.state (weights m c) (tokens m c b.val) 2048 j := by
  rw [final_eq]
  refine (last_states (beforeLast m c) _ rfl b z j).trans ?_
  rw [last_reads m c main_v94_4 (by decide)]
  exact (carried m c 2048 (le_refl _)).states b ⟨2047, by decide⟩ j (by show 2047 < 2048; omega)

theorem tail_final (b : Fin 8) (r : Fin 3) (j : Fin 1280) :
    (finalContents condOps preI bodyI postI 2048 m c (Proc.devRef .tc main_v20) : Vec Ideal S8x3x1280 .f32) (ix3 b r j)
      = history (weights m c) (tokens m c b.val) (2048 + r.val) j := by
  rw [final_of m c main_v20 (by decide) (by decide), loop_keeps m c main_v20 (by decide) 2048]
  exact entry_tails m c b r j

end Cert.LruReference

end
-- ==== Proof.LruValue.lean ====
/-
  The value claim of the recurrent layer: the kernel's three result arrays and the reference's three results are the
  same functions of the arguments.
-/
module

public import proofs.«01_k».proof.Proof.LruKernel
public import proofs.«01_k».proof.Proof.LruReference

@[expose] public section

set_option maxRecDepth 16384

noncomputable section

namespace Cert.LruValue

open Idealize.ShloMosaic Idealize.ShloMosaic.TcCoe Idealize.SL.Sem
open Cert.Rows Cert.LruMath

/-- The recurrent layer's kernel computes the reference. -/
theorem algebraic : algebraic_KernelIdeal_ReferenceIdeal := by
  intro m g m' g' _ hag
  refine ⟨fun c => LruKernel.outputs m c, fun c => LruKernel.lasts m c, fun c => LruKernel.tails m c, ?_, ?_⟩
  · refine (θ_run _ _ _).mono (fun r h c => ?_) (KernelIdeal.Value.run_blocks m g)
    have := h c
    rw [LruKernel.outputs_array, LruKernel.lasts_array, LruKernel.tails_array] at this
    exact this
  · refine (θ_run _ _ _).mono (fun r h c => ?_) (ReferenceIdeal.Value.run_fold (F := Ideal) m' g')
    obtain ⟨e0, e1, e2, e3, e4, e5, e6, e7, e8, e9, e10⟩ := hag c
    have hw : LruReference.weights m' c = LruKernel.weights m c := by
      unfold LruReference.weights LruKernel.weights
      rw [e1, e2, e3, e4, e5, e6, e7, e8, e9, e10]
    have ht : LruReference.tokens m' c = LruKernel.tokens m c := by
      unfold LruReference.tokens LruKernel.tokens
      rw [e0]
    have kept := LruRefRun.args_kept m' c r.2.mem (h c)
    refine ⟨?_, ?_, ?_, ?_⟩
    · refine (h c ReferenceIdeal.main_v112 (by decide)).trans (funext fun i => ?_)
      refine (congrArg _ (eq_ix2 i)).trans ((LruReference.output_final m' c (i 0) (i 1)).trans ?_)
      rw [hw, ht]
      rfl
    · refine (h c ReferenceIdeal.main_v115 (by decide)).trans (funext fun i => ?_)
      refine (congrArg _ (eq_ix3 i)).trans ((LruReference.last_final m' c (i 0) (i 1) (i 2)).trans ?_)
      rw [hw, ht]
      rfl
    · refine (h c ReferenceIdeal.main_v20 (by decide)).trans (funext fun i => ?_)
      refine (congrArg _ (eq_ix3 i)).trans ((LruReference.tail_final m' c (i 0) (i 1) (i 2)).trans ?_)
      rw [hw, ht]
      rfl
    · refine ⟨?_, ?_, ?_, ?_, ?_, ?_, ?_, ?_, ?_, ?_, ?_⟩ <;> exact kept _ (by simp)

end Cert.LruValue

end
-- ==== Proof.FfnValue.lean ====
/-
  The value claim of the last feed-forward call: every 512-row block that the kernel writes holds, row by row,
  the norm of the feed-forward step of the same row of its input, and so does the reference's result.
-/
module

public import proofs.«01_k».proof.Defs
public import proofs.«01_k».proof.Proof.Rows
public import proofs.«01_k».proof.Proof.Gen.Kernel2Ideal.Value
public import proofs.«01_k».proof.Proof.Gen.Reference2Ideal
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.FfnValue

open Idealize.ShloMosaic Idealize.ShloMosaic.TcCoe Idealize.SL.Sem
open Idealize.ShloMosaic.Pipeline (Dat)
open Cert.Rows

section Kernel
open Cert.Kernel2Ideal Cert.Kernel2Ideal.Gen

/-- The kernel's residual value in row `r` of its block is the feed-forward step of that row. -/
theorem residual_row (x : Vec Ideal S512x1024 .f32) (nw : Vec Ideal S1x1024 .f32)
    (wg wu : Vec Ideal S1024x2816 .bf16) (wd : Vec Ideal S2816x1024 .bf16) (r : Fin 512) (j : Fin 1024) :
    k0_pay2 x nw wg wu wd (ix2 r j)
      = ffnRow (fun k => x (ix2 r k)) (fun k => nw (ix2 0 k)) (fun k l => wg (ix2 k l)) (fun k l => wu (ix2 k l))
          (fun k l => wd (ix2 k l)) j := by
  pointwise [k0_pay2, ffnRow, gatedRow, rmsRow, meanSq, vecMat]

/-- The block that the kernel stores, row by row. -/
theorem block_row (x : Vec Ideal S512x1024 .f32) (nw : Vec Ideal S1x1024 .f32)
    (wg wu : Vec Ideal S1024x2816 .bf16) (wd : Vec Ideal S2816x1024 .bf16) (nf : Vec Ideal S1x1024 .f32)
    (r : Fin 512) (j : Fin 1024) :
    k0_pay1 (k0_pay2 x nw wg wu wd) (k0_pay3 nf) (k0_pay4 x nw wg wu wd) (k0_pay5 (F := Ideal)) (ix2 r j)
      = rmsRow (ffnRow (fun k => x (ix2 r k)) (fun k => nw (ix2 0 k)) (fun k l => wg (ix2 k l))
          (fun k l => wu (ix2 k l)) (fun k l => wd (ix2 k l))) (fun k => nf (ix2 0 k)) j := by
  have h := residual_row x nw wg wu wd r
  unfold k0_pay4
  generalize k0_pay2 x nw wg wu wd = y at h
  pointwise [k0_pay1, k0_pay3, k0_pay5, rmsRow, meanSq]
  simp only [h]

/-- What the launch memory gives the row functions: the argument arrays of the kernel's program. -/
def result (m : (ℓ : Loc nD τ sig) → Buf (Elt Ideal) ℓ) (c : Dev nD) (i : S16384x1024.Idx) : EReal :=
  rmsRow (ffnRow (fun k => m ((c.tc : Thread nD τ).loc main_arg0) (ix2 (i 0) k))
      (fun k => m ((c.tc : Thread nD τ).loc main_arg1) (ix1 k))
      (fun k l => m ((c.tc : Thread nD τ).loc main_arg2) (ix2 k l))
      (fun k l => m ((c.tc : Thread nD τ).loc main_arg3) (ix2 k l))
      (fun k l => m ((c.tc : Thread nD τ).loc main_arg4) (ix2 k l)))
    (fun k => m ((c.tc : Thread nD τ).loc main_arg5) (ix1 k)) (i 1)

/-- Where the windows' blocks lie: point `t` reads and writes row block `t`; the weights are read whole. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) := by
  decide +kernel

/-- The result array after the run. -/
theorem result_array (m : (ℓ : Loc nD τ sig) → Buf (Elt Ideal) ℓ) (c : Dev nD) :
    (dats m 0 c).arrAt 6 cfg0.N = result m c := by
  refine (dats m 0 c).arrAt_eq_of_covers 6 _ (by decide +kernel) fun t hf y => ?_
  blk_simp
  rw [after0_6]
  frame_out
  obtain ⟨r, j, rfl⟩ : ∃ (r : Fin 512) (j : Fin 1024), y = ix2 r j := ⟨y 0, y 1, eq_ix2 y⟩
  rw [block_row]
  have hj : (((View.whole main_v5).slice (win0_6.rect t)).emb (ix2 r j)) 1 = j := by
    apply Fin.ext
    blk_simp [idx t]
  have h0 : ∀ k, iblk m c 0 t (ix2 r k) = m ((c.tc : Thread nD τ).loc main_arg0)
      (ix2 ((((View.whole main_v5).slice (win0_6.rect t)).emb (ix2 r j)) 0) k) := fun k => by
    blk_ext [iblk, V, idx t]
  have h1 : ∀ k, iblk m c 1 t (ix2 0 k) = m ((c.tc : Thread nD τ).loc main_arg1) (ix1 k) := fun k => by
    blk_ext! [iblk, V, idx t]
  have h2 : ∀ k l, iblk m c 2 t (ix2 k l) = m ((c.tc : Thread nD τ).loc main_arg2) (ix2 k l) := fun k l => by
    blk_ext! [iblk, V, idx t]
  have h3 : ∀ k l, iblk m c 3 t (ix2 k l) = m ((c.tc : Thread nD τ).loc main_arg3) (ix2 k l) := fun k l => by
    blk_ext! [iblk, V, idx t]
  have h4 : ∀ k l, iblk m c 4 t (ix2 k l) = m ((c.tc : Thread nD τ).loc main_arg4) (ix2 k l) := fun k l => by
    blk_ext! [iblk, V, idx t]
  have h5 : ∀ k, iblk m c 5 t (ix2 0 k) = m ((c.tc : Thread nD τ).loc main_arg5) (ix1 k) := fun k => by
    blk_ext! [iblk, V, idx t]
  unfold result
  simp only [h0, h1, h2, h3, h4, h5, hj]

end Kernel

section Reference
open Cert.Reference2Ideal Cert.Reference2Ideal.Value

/-- The reference's result as the same row functions of its own arguments. -/
theorem reference_array (m : (ℓ : Loc nD τ sig) → Buf (Elt Ideal) ℓ) (c : Dev nD) (i : Fin 16384) (j : Fin 1024) :
    res_out0 m c (ix2 i j) = rmsRow (ffnRow (fun k => m ((c.tc : Thread nD τ).loc main_arg0) (ix2 i k))
      (fun k => m ((c.tc : Thread nD τ).loc main_arg1) (ix1 k))
      (fun k l => m ((c.tc : Thread nD τ).loc main_arg2) (ix2 k l))
      (fun k l => m ((c.tc : Thread nD τ).loc main_arg3) (ix2 k l))
      (fun k l => m ((c.tc : Thread nD τ).loc main_arg4) (ix2 k l)))
    (fun k => m ((c.tc : Thread nD τ).loc main_arg5) (ix1 k)) j := by
  unfold res_out0 res_main_v31
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  pointwise [rmsRow, ffnRow, gatedRow, meanSq, vecMat, Ideal.logistic]

end Reference

/-- The last feed-forward call computes the reference. -/
theorem algebraic : algebraic_Kernel2Ideal_Reference2Ideal := by
  intro m g m' g' _ hag
  refine ⟨fun c => result m c, ?_, ?_⟩
  · refine (θ_run _ _ _).mono (fun r h c => ?_) (Kernel2Ideal.Value.run_blocks m g)
    have := h c
    rw [result_array] at this
    exact this
  · refine (θ_run _ _ _).mono (fun r h c => ?_) (Reference2Ideal.Value.run m' g')
    refine ⟨(h c).1.trans ?_, (h c).2⟩
    obtain ⟨e0, e1, e2, e3, e4, e5⟩ := hag c
    funext i
    refine (congrArg _ (eq_ix2 i)).trans ((reference_array m' c (i 0) (i 1)).trans ?_)
    simp only [e0, e1, e2, e3, e4, e5]
    rfl

/-- The reference's frame. -/
theorem frame_reference : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

end Cert.FfnValue

end
-- ==== Proof.FfnMixValue.lean ====
/-
  The value claim of layer 0's feed-forward call: every 512-row block that the kernel writes holds, row by row, the
  feed-forward step of the row with the two mixer branches' projections added, and so does the reference's result.
-/
module

public import proofs.«01_k».proof.Defs
public import proofs.«01_k».proof.Proof.Rows
public import proofs.«01_k».proof.Proof.Gen.Kernel3Ideal.Value
public import proofs.«01_k».proof.Proof.Gen.Reference3Ideal
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.FfnMixValue

open Idealize.ShloMosaic Idealize.ShloMosaic.TcCoe Idealize.SL.Sem
open Idealize.ShloMosaic.Pipeline (Dat)
open Cert.Rows

section Kernel
open Cert.Kernel3Ideal Cert.Kernel3Ideal.Gen

/-- The block's rows with the two branches' projections. The attention's block has its features before its tokens. -/
theorem mixed_row (x : Vec Ideal S512x1024 .f32) (a : Vec Ideal S1x512x512 .f32) (wa : Vec Ideal S512x1024 .bf16)
    (b : Vec Ideal S512x512 .f32) (wb : Vec Ideal S512x1024 .bf16) (r : Fin 512) (j : Fin 1024) :
    k0_pay2 x a wa b wb (ix2 r j)
      = mixRow (fun k => x (ix2 r k)) (fun l => a (ix3 0 l r)) (fun l => b (ix2 r l)) (fun l k => wa (ix2 l k))
          (fun l k => wb (ix2 l k)) j := by
  pointwise [k0_pay2, mixRow, vecMat]

/-- The block that the kernel stores, row by row. -/
theorem block_row (x : Vec Ideal S512x1024 .f32) (a : Vec Ideal S1x512x512 .f32) (wa : Vec Ideal S512x1024 .bf16)
    (b : Vec Ideal S512x512 .f32) (wb : Vec Ideal S512x1024 .bf16) (nw : Vec Ideal S1x1024 .f32)
    (wg wu : Vec Ideal S1024x2816 .bf16) (wd : Vec Ideal S2816x1024 .bf16) (r : Fin 512) (j : Fin 1024) :
    k0_pay1 (k0_pay2 x a wa b wb) (k0_pay3 x a wa b wb nw) (k0_pay4 x a wa b wb nw wg) (k0_pay5 wu) wd (ix2 r j)
      = ffnRow (mixRow (fun k => x (ix2 r k)) (fun l => a (ix3 0 l r)) (fun l => b (ix2 r l))
          (fun l k => wa (ix2 l k)) (fun l k => wb (ix2 l k))) (fun k => nw (ix2 0 k)) (fun k l => wg (ix2 k l))
          (fun k l => wu (ix2 k l)) (fun k l => wd (ix2 k l)) j := by
  have h := mixed_row x a wa b wb r
  unfold k0_pay4 k0_pay3
  generalize k0_pay2 x a wa b wb = y at h
  pointwise [k0_pay1, k0_pay5, ffnRow, gatedRow, rmsRow, meanSq, vecMat]
  simp only [h]

/-- What the launch memory gives the row functions: token `i` of all is token `i % 2048` of sequence `i / 2048`. -/
def result (m : (ℓ : Loc nD τ sig) → Buf (Elt Ideal) ℓ) (c : Dev nD) (i : S16384x1024.Idx) : EReal :=
  ffnRow (mixRow (fun k => m ((c.tc : Thread nD τ).loc main_arg0) (ix2 (i 0) k))
        (fun l => m ((c.tc : Thread nD τ).loc main_arg1) (ix3 ⟨(i 0).val / 2048, Nat.div_lt_of_lt_mul (i 0).isLt⟩ l ⟨(i 0).val % 2048, Nat.mod_lt _ (by norm_num)⟩))
        (fun l => m ((c.tc : Thread nD τ).loc main_arg2) (ix2 (i 0) l))
        (fun l k => m ((c.tc : Thread nD τ).loc main_arg3) (ix2 ⟨l.val, by omega⟩ k))
        (fun l k => m ((c.tc : Thread nD τ).loc main_arg3) (ix2 ⟨512 + l.val, by omega⟩ k)))
      (fun k => m ((c.tc : Thread nD τ).loc main_arg4) (ix1 k)) (fun k l => m ((c.tc : Thread nD τ).loc main_arg5) (ix2 k l))
      (fun k l => m ((c.tc : Thread nD τ).loc main_arg6) (ix2 k l)) (fun k l => m ((c.tc : Thread nD τ).loc main_arg7) (ix2 k l)) (i 1)

/-- Where the windows' blocks lie: point `t` reads and writes row block `t`, of the attention's result the tokens
    `512 (t % 4) …` of sequence `t / 4`; the weights are read whole. -/
theorem idx : ∀ t : Fin grid0.N, (win0_0.index t 0 = t.val ∧ win0_0.index t 1 = 0)
    ∧ (win0_1.index t 0 = t.val / 4 ∧ win0_1.index t 1 = 0 ∧ win0_1.index t 2 = t.val % 4)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_10.index t 0 = t.val ∧ win0_10.index t 1 = 0) := by
  decide +kernel

set_option maxHeartbeats 1000000 in
/-- The result array after the run. -/
theorem result_array (m : (ℓ : Loc nD τ sig) → Buf (Elt Ideal) ℓ) (c : Dev nD) :
    (dats m 0 c).arrAt 10 cfg0.N = result m c := by
  refine (dats m 0 c).arrAt_eq_of_covers 10 _ (by decide +kernel) fun t hf y => ?_
  blk_simp
  rw [after0_10]
  frame_out
  obtain ⟨r, j, rfl⟩ : ∃ (r : Fin 512) (j : Fin 1024), y = ix2 r j := ⟨y 0, y 1, eq_ix2 y⟩
  rw [block_row]
  have hj : (((View.whole main_v9).slice (win0_10.rect t)).emb (ix2 r j)) 1 = j := by
    apply Fin.ext
    blk_simp [idx t]
  have hi : ((((View.whole main_v9).slice (win0_10.rect t)).emb (ix2 r j)) 0).val = t.val * 512 + r.val := by
    blk_simp [idx t]
  have h0 : ∀ k, iblk m c 0 t (ix2 r k) = m ((c.tc : Thread nD τ).loc main_arg0)
      (ix2 ((((View.whole main_v9).slice (win0_10.rect t)).emb (ix2 r j)) 0) k) := fun k => by
    blk_ext [iblk, V, idx t]
  have h1 : ∀ l, iblk m c 1 t (ix3 0 l r) = m ((c.tc : Thread nD τ).loc main_arg1)
      (ix3 ⟨((((View.whole main_v9).slice (win0_10.rect t)).emb (ix2 r j)) 0).val / 2048,
        Nat.div_lt_of_lt_mul ((((View.whole main_v9).slice (win0_10.rect t)).emb (ix2 r j)) 0).isLt⟩ l
        ⟨((((View.whole main_v9).slice (win0_10.rect t)).emb (ix2 r j)) 0).val % 2048, Nat.mod_lt _ (by norm_num)⟩) :=
    fun l => by
    have hr := r.isLt
    blk_ext [iblk, V, idx t, hi] <;> omega
  have h2 : ∀ l, iblk m c 2 t (ix2 r l) = m ((c.tc : Thread nD τ).loc main_arg2)
      (ix2 ((((View.whole main_v9).slice (win0_10.rect t)).emb (ix2 r j)) 0) l) := fun l => by
    blk_ext [iblk, V, idx t]
  have h3 : ∀ l k, iblk m c 3 t (ix2 l k) = m ((c.tc : Thread nD τ).loc main_arg3) (ix2 ⟨l.val, by omega⟩ k) := fun l k => by
    blk_ext! [iblk, V, idx t]
  have h4 : ∀ l k, iblk m c 4 t (ix2 l k) = m ((c.tc : Thread nD τ).loc main_arg3) (ix2 ⟨512 + l.val, by omega⟩ k) := fun l k => by
    blk_ext! [iblk, V, idx t]
  have h5 : ∀ k, iblk m c 5 t (ix2 0 k) = m ((c.tc : Thread nD τ).loc main_arg4) (ix1 k) := fun k => by
    blk_ext! [iblk, V, idx t]
  have h6 : ∀ k l, iblk m c 6 t (ix2 k l) = m ((c.tc : Thread nD τ).loc main_arg5) (ix2 k l) := fun k l => by
    blk_ext! [iblk, V, idx t]
  have h7 : ∀ k l, iblk m c 7 t (ix2 k l) = m ((c.tc : Thread nD τ).loc main_arg6) (ix2 k l) := fun k l => by
    blk_ext! [iblk, V, idx t]
  have h8 : ∀ k l, iblk m c 8 t (ix2 k l) = m ((c.tc : Thread nD τ).loc main_arg7) (ix2 k l) := fun k l => by
    blk_ext! [iblk, V, idx t]
  unfold result
  simp only [h0, h1, h2, h3, h4, h5, h6, h7, h8, hj]

end Kernel

section Reference
open Cert.Reference3Ideal Cert.Reference3Ideal.Gen Cert.Reference3Ideal.Value

/-- The reference's rows with the two branches' projections. -/
def mixed (x : FVec Ideal S16384x1024 .f32) (o : FVec Ideal S8x512x2048 .f32) (y : FVec Ideal S16384x512 .f32)
    (w : FVec Ideal S1024x1024 .f32) : FVec Ideal S16384x1024 .f32 :=
  addf x (Host.dotGeneral dot_S16384x1024_S1024x1024_S16384x1024_1_0_0_1_n_n none
    (concatenate S16384x1024 1 [⟨S16384x512, shapeCast S16384x512
      (transpose S8x2048x512 [0, 2, 1] o transposes_S8x512x2048_S8x2048x512_0_2_1) shapeCasts_S8x2048x512_S16384x512⟩,
      ⟨S16384x512, y⟩] concatenates_S16384x512_S16384x512_S16384x1024_d1) w)

/-- The reference's norm. -/
def normed (y : FVec Ideal S16384x1024 .f32) (nw : FVec Ideal S1024 .f32) : FVec Ideal S16384x1024 .f32 :=
  mulf (mulf y (broadcastInDim S16384x1024 ![0, 1] bcast_S16384x1_S16384x1024_0_1 (Host.rsqrt (addf (Host.divf
    (broadcastInDim S16384x1 ![0] bcast_S16384_S16384x1_0 (Host.reduceAdd (mulf y y) (constant S_ .f32 0x00000000#32)
      reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 nw))

/-- The reference's feed-forward step, from a residual stream `y` and its norm `n`. -/
def feed (y n : FVec Ideal S16384x1024 .f32) (wg wu : FVec Ideal S1024x2816 .f32) (wd : FVec Ideal S2816x1024 .f32) :
    FVec Ideal S16384x1024 .f32 :=
  addf y (Host.dotGeneral dot_S16384x2816_S2816x1024_S16384x1024_1_0_0_1_n_n none (mulf (mulf
    (Host.dotGeneral dot_S16384x1024_S1024x2816_S16384x2816_1_0_0_1_n_n none n wg)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (Host.dotGeneral dot_S16384x1024_S1024x2816_S16384x2816_1_0_0_1_n_n none n wg))))))
    (Host.dotGeneral dot_S16384x1024_S1024x2816_S16384x2816_1_0_0_1_n_n none n wu)) wd)

/-- The reference's mixed row. -/
theorem mixed_array (x : FVec Ideal S16384x1024 .f32) (o : FVec Ideal S8x512x2048 .f32)
    (y : FVec Ideal S16384x512 .f32) (w : FVec Ideal S1024x1024 .f32) (i : Fin 16384) (k : Fin 1024) :
    mixed x o y w (ix2 i k) = mixRow (fun k => x (ix2 i k))
        (fun l => o (ix3 ⟨i.val / 2048, Nat.div_lt_of_lt_mul i.isLt⟩ l ⟨i.val % 2048, Nat.mod_lt _ (by norm_num)⟩))
        (fun l => y (ix2 i l)) (fun l k => w (ix2 ⟨l.val, by omega⟩ k)) (fun l k => w (ix2 ⟨512 + l.val, by omega⟩ k)) k := by
  unfold mixed
  generalize hf : concatenate S16384x1024 1 [⟨S16384x512, shapeCast S16384x512
      (transpose S8x2048x512 [0, 2, 1] o transposes_S8x512x2048_S8x2048x512_0_2_1) shapeCasts_S8x2048x512_S16384x512⟩,
      ⟨S16384x512, y⟩] concatenates_S16384x512_S16384x512_S16384x1024_d1 = f
  refine Eq.trans ?_ (add_vecMat_split (x (ix2 i k)) _ _ (fun l => f (ix2 i l)) (fun l k => w (ix2 l k)) k
    (fun l => ?_) (fun l => ?_))
  · pointwise [vecMat]
  · subst hf
    pointwise []
  · subst hf
    pointwise []

/-- The reference's feed-forward step, row by row. -/
theorem feed_array (y : FVec Ideal S16384x1024 .f32) (nw : FVec Ideal S1024 .f32) (wg wu : FVec Ideal S1024x2816 .f32)
    (wd : FVec Ideal S2816x1024 .f32) (i : Fin 16384) (j : Fin 1024) :
    feed y (normed y nw) wg wu wd (ix2 i j) = ffnRow (fun k => y (ix2 i k)) (fun k => nw (ix1 k))
      (fun k l => wg (ix2 k l)) (fun k l => wu (ix2 k l)) (fun k l => wd (ix2 k l)) j := by
  pointwise [feed, normed, rmsRow, ffnRow, gatedRow, meanSq, vecMat, Ideal.logistic]

/-- The reference's result as the same row functions of its own arguments. -/
theorem reference_array (m : (ℓ : Loc nD τ sig) → Buf (Elt Ideal) ℓ) (c : Dev nD) (i : Fin 16384) (j : Fin 1024) :
    res_out0 m c (ix2 i j) = ffnRow (mixRow (fun k => m ((c.tc : Thread nD τ).loc main_arg0) (ix2 i k))
        (fun l => m ((c.tc : Thread nD τ).loc main_arg1) (ix3 ⟨i.val / 2048, Nat.div_lt_of_lt_mul i.isLt⟩ l ⟨i.val % 2048, Nat.mod_lt _ (by norm_num)⟩))
        (fun l => m ((c.tc : Thread nD τ).loc main_arg2) (ix2 i l))
        (fun l k => m ((c.tc : Thread nD τ).loc main_arg3) (ix2 ⟨l.val, by omega⟩ k))
        (fun l k => m ((c.tc : Thread nD τ).loc main_arg3) (ix2 ⟨512 + l.val, by omega⟩ k)))
      (fun k => m ((c.tc : Thread nD τ).loc main_arg4) (ix1 k)) (fun k l => m ((c.tc : Thread nD τ).loc main_arg5) (ix2 k l))
      (fun k l => m ((c.tc : Thread nD τ).loc main_arg6) (ix2 k l)) (fun k l => m ((c.tc : Thread nD τ).loc main_arg7) (ix2 k l)) j := by
  refine (feed_array (mixed _ _ _ _) _ _ _ _ i j).trans ?_
  exact congrArg (fun f => ffnRow f _ _ _ _ j) (funext fun k => mixed_array _ _ _ _ i k)

end Reference

/-- Layer 0's feed-forward call computes the reference. -/
theorem algebraic : algebraic_Kernel3Ideal_Reference3Ideal := by
  intro m g m' g' _ hag
  refine ⟨fun c => result m c, ?_, ?_⟩
  · refine (θ_run _ _ _).mono (fun r h c => ?_) (Kernel3Ideal.Value.run_blocks m g)
    have := h c
    rw [result_array] at this
    exact this
  · refine (θ_run _ _ _).mono (fun r h c => ?_) (Reference3Ideal.Value.run m' g')
    refine ⟨(h c).1.trans ?_, (h c).2⟩
    obtain ⟨e0, e1, e2, e3, e4, e5, e6, e7, e8⟩ := hag c
    funext i
    refine (congrArg _ (eq_ix2 i)).trans ((reference_array m' c (i 0) (i 1)).trans ?_)
    simp only [e0, e1, e2, e3, e4, e5, e6, e7]
    rfl

/-- The reference's frame. -/
theorem frame_reference : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

end Cert.FfnMixValue

end
-- ==== Proof.DecodeHeads.lean ====
/-
  The gates of the recurrent layer's call for the sample group, one head of 128 columns at a time, as one definition for
  all ten heads.
-/
module

public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.DecodeHeads

open Idealize.ShloMosaic Idealize.ShloMosaic.TcCoe Idealize.ShloMosaic.Tactic Idealize.SL.Sem
open Cert.Kernel4Ideal Cert.Kernel4Ideal.Gen

variable {F : FTy → Type} [FloatOps F]

theorem slices_tile (e : Fin 10) : S32x1280.Slices ![0, 128 * e.val] S32x128 := by
  revert e; decide +kernel

theorem slices_row (e : Fin 10) : S1x1280.Slices ![0, 128 * e.val] S1x128 := by
  revert e; decide +kernel

theorem inb_weight (e : Fin 10) : ∀ a, (![e.val, 0, 0] : Fin 3 → Nat) a + S1x128x128.size a ≤ S10x128x128.size a := by
  revert e; decide +kernel

theorem inb_bias (e : Fin 10) : ∀ a, (![0, 128 * e.val] : Fin 2 → Nat) a + S1x128.size a ≤ S1x1280.size a := by
  revert e; decide +kernel

/-- The weights of head `e`. -/
abbrev weightOf (e : Fin 10) : Rect S10x128x128 := Rect.unit ![e.val, 0, 0] S1x128x128.size (inb_weight e)

/-- The biases of head `e`. -/
abbrev biasOf (e : Fin 10) : Rect S1x1280 := Rect.unit ![0, 128 * e.val] S1x128.size (inb_bias e)

/-- Head `e`'s columns. -/
def headOf (e : Fin 10) (x : FVec F S32x1280 .f32) : FVec F S32x128 .f32 :=
  extractStridedSlice S32x128 ![0, 128 * e.val] x (slices_tile e)

/-- A gate of head `e`. -/
def headGate (e : Fin 10) (x : FVec F S32x1280 .f32) (w : FVec F S1x128x128 .bf16) (b : FVec F S1x128 .f32) :
    FVec F S32x128 .f32 :=
  logistic (addf (matmul dot_S32x128_S128x128_S32x128_1_0_0_1_n_n none (truncf .bf16 (headOf e x) bitsLt_bf16_f32)
    (shapeCast S128x128 w shapeCasts_S1x128x128_S128x128) (constant S32x128 .f32 0x00000000#32))
    (broadcastTo S32x128 (shapeCast S1x128 b shapeCasts_S1x128_S1x128) broadcasts_S1x128_S32x128))

/-- The decays of head `e`. -/
def headDecay (e : Fin 10) (x : FVec F S32x1280 .f32) (sp : FVec F S1x1280 .f32) (w : FVec F S1x128x128 .bf16)
    (b : FVec F S1x128 .f32) : FVec F S32x128 .f32 :=
  exp (mulf (mulf (broadcast S32x128 (Scalar.ofBits .f32 0xC1000000#32)) (headGate e x w b))
    (broadcastTo S32x128 (extractStridedSlice S1x128 ![0, 128 * e.val] sp (slices_row e)) broadcasts_S1x128_S32x128))

/-- The gated inputs of head `e`. -/
def headInput (e : Fin 10) (x : FVec F S32x1280 .f32) (sp : FVec F S1x1280 .f32) (w w' : FVec F S1x128x128 .bf16)
    (b b' : FVec F S1x128 .f32) : FVec F S32x128 .f32 :=
  mulf (sqrt (subf (broadcast S32x128 (Scalar.ofBits .f32 0x3F800000#32))
    (mulf (headDecay e x sp w b) (headDecay e x sp w b)))) (mulf (headGate e x w' b') (headOf e x))

/-- The decays of the block, head beside head. -/
def decays (x : FVec F S32x1280 .f32) (sp : FVec F S1x1280 .f32) (w : Fin 10 → FVec F S1x128x128 .bf16)
    (b : Fin 10 → FVec F S1x128 .f32) : FVec F S32x1280 .f32 :=
  concatenate S32x1280 1 (List.ofFn fun e : Fin 10 => ⟨S32x128, headDecay e x sp (w e) (b e)⟩)
    concatenates_S32x128_S32x128_S32x128_S32x128_S32x128_S32x128_S32x128_S32x128_S32x128_S32x128_S32x1280_d1

/-- The gated inputs of the block, head beside head. -/
def inputs (x : FVec F S32x1280 .f32) (sp : FVec F S1x1280 .f32) (w w' : Fin 10 → FVec F S1x128x128 .bf16)
    (b b' : Fin 10 → FVec F S1x128 .f32) : FVec F S32x1280 .f32 :=
  concatenate S32x1280 1 (List.ofFn fun e : Fin 10 => ⟨S32x128, headInput e x sp (w e) (w' e) (b e) (b' e)⟩)
    concatenates_S32x128_S32x128_S32x128_S32x128_S32x128_S32x128_S32x128_S32x128_S32x128_S32x128_S32x1280_d1

section Block

variable (x0 : Vec F S32x1024 .f32) (x1 : Vec F S1x1024 .f32) (x2 : Vec F S1024x2560 .bf16) (x3 : Vec F S4x1280 .f32)
  (x4 : Vec F S1x1280 .f32) (x5 : Vec F S10x128x128 .bf16) (x6 : Vec F S1x1280 .f32) (x7 : Vec F S10x128x128 .bf16)
  (x8 : Vec F S1x1280 .f32) (x9 : Vec F S1x1280 .f32) (x10 : Vec F S1280x1024 .bf16) (x11 x12 x13 x14 : Vec F S32x1280 .f32)

/-- The block's convolution, as its heads read it. -/
abbrev conv : FVec F S32x1280 .f32 :=
  k0_pay8 (k0_pay5 (View.ld x0 r0_0) (View.ld x1 r0_1) (View.ld x2 r0_2))
    (k0_pay6 (View.ld x4 r0_4) (View.ld x11 r0_3) (View.ld x3 r0_5)) (k0_pay7 (View.ld x12 r0_3) (View.ld x3 r0_6))
    (View.ld x13 r0_3) (View.ld x3 r0_7) (View.ld x3 r0_8)

theorem block_inputs : k0_pay75 x0 x1 x2 x3 x4 x5 x6 x7 x8 x9 x10 x11 x12 x13 x14
    = inputs (conv x0 x1 x2 x3 x4 x11 x12 x13) (k0_pay9 (View.ld x9 r0_4)) (fun e => View.ld x5 (weightOf e))
        (fun e => View.ld x7 (weightOf e)) (fun e => View.ld x6 (biasOf e)) (fun e => View.ld x8 (biasOf e)) := by
  sl_kernel_rfl

theorem block_decays : k0_pay76 x0 x1 x2 x3 x4 x5 x6 x7 x8 x9 x10 x11 x12 x13 x14
    = mulf (decays (conv x0 x1 x2 x3 x4 x11 x12 x13) (k0_pay9 (View.ld x9 r0_4)) (fun e => View.ld x5 (weightOf e))
        (fun e => View.ld x6 (biasOf e))) (View.ld x14 r0_3) := by
  sl_kernel_rfl

end Block

end Cert.DecodeHeads

end
-- ==== Proof.DecodeRows.lean ====
/-
  The recurrent layer's arithmetic for one further token: the convolution over the three rows kept before it, one step of
  the recurrence from the state kept before it, and the layer's output.
-/
module

public import proofs.«01_k».proof.Proof.LruMath

@[expose] public section

noncomputable section

namespace Cert.DecodeRows

open Idealize.ShloMosaic Cert.Rows Cert.LruMath

variable (p : Weights) (kept : Fin 3 → Fin 1280 → EReal) (h : Fin 1280 → EReal) (x : Fin 1024 → EReal)

/-- The convolution at the token, the rows before it being `kept`. -/
def convToken (j : Fin 1280) : EReal :=
  p.tapBias j + kept 0 j * p.tap 0 j + kept 1 j * p.tap 1 j + kept 2 j * p.tap 2 j + branchRow p x j * p.tap 3 j

/-- The state after the token, the state before it being `h`. -/
def stateToken (j : Fin 1280) : EReal :=
  decayAt p (convToken p kept x) (head j) (lane j) * h j + inputAt p (convToken p kept x) (head j) (lane j)

/-- The layer's output at the token. -/
def outToken (j : Fin 1024) : EReal :=
  x j + ∑ k, gelu (gateRow p x k) * stateToken p kept h x k * p.out k j

end Cert.DecodeRows

end
-- ==== Proof.DecodeBlock.lean ====
/-
  What the recurrent layer's call for the sample group stores: each row of its three blocks as the layer's functions of
  one token, of the three rows kept before it and of the state kept before it.
-/
module

public import proofs.«01_k».proof.Proof.DecodeHeads
public import proofs.«01_k».proof.Proof.DecodeRows
public import Idealize.ShloMosaic.Lib.Pointwise

@[expose] public section

set_option maxRecDepth 16384

noncomputable section

namespace Cert.DecodeBlock

open Idealize.ShloMosaic Idealize.ShloMosaic.TcCoe
open Cert.Kernel4Ideal Cert.Kernel4Ideal.Gen Cert.DecodeHeads Cert.Rows Cert.LruMath Cert.DecodeRows

/-- The block's operands: the parameters, and for each of its rows the token, the rows kept and the state kept. -/
structure Operands (p : Weights) (xs : Fin 32 → Fin 1024 → EReal) (kept : Fin 32 → Fin 3 → Fin 1280 → EReal)
    (hs : Fin 32 → Fin 1280 → EReal) (x0 : Vec Ideal S32x1024 .f32)
    (x1 : Vec Ideal S1x1024 .f32) (x2 : Vec Ideal S1024x2560 .bf16) (x3 : Vec Ideal S4x1280 .f32)
    (x4 : Vec Ideal S1x1280 .f32) (x5 : Vec Ideal S10x128x128 .bf16) (x6 : Vec Ideal S1x1280 .f32)
    (x7 : Vec Ideal S10x128x128 .bf16) (x8 : Vec Ideal S1x1280 .f32) (x9 : Vec Ideal S1x1280 .f32)
    (x10 : Vec Ideal S1280x1024 .bf16) (x11 x12 x13 x14 : Vec Ideal S32x1280 .f32) : Prop where
  rows : ∀ r k, x0 (ix2 r k) = xs r k
  norm : ∀ k, x1 (ix2 0 k) = p.norm k
  proj : ∀ k l, x2 (ix2 k l) = p.proj k l
  tap : ∀ e j, x3 (ix2 e j) = p.tap e j
  tapBias : ∀ j, x4 (ix2 0 j) = p.tapBias j
  decayW : ∀ e k l, x5 (ix3 e k l) = p.decayW e k l
  decayB : ∀ j, x6 (ix2 0 j) = p.decayB j
  inputW : ∀ e k l, x7 (ix3 e k l) = p.inputW e k l
  inputB : ∀ j, x8 (ix2 0 j) = p.inputB j
  lam : ∀ j, x9 (ix2 0 j) = p.lam j
  out : ∀ k l, x10 (ix2 k l) = p.out k l
  first : ∀ r j, x11 (ix2 r j) = kept r 0 j
  second : ∀ r j, x12 (ix2 r j) = kept r 1 j
  third : ∀ r j, x13 (ix2 r j) = kept r 2 j
  state : ∀ r j, x14 (ix2 r j) = hs r j

variable (p : Weights) (xs : Fin 32 → Fin 1024 → EReal) (kept : Fin 32 → Fin 3 → Fin 1280 → EReal)
  (hs : Fin 32 → Fin 1280 → EReal) {x0 : Vec Ideal S32x1024 .f32}
  {x1 : Vec Ideal S1x1024 .f32} {x2 : Vec Ideal S1024x2560 .bf16} {x3 : Vec Ideal S4x1280 .f32}
  {x4 : Vec Ideal S1x1280 .f32} {x5 : Vec Ideal S10x128x128 .bf16} {x6 : Vec Ideal S1x1280 .f32}
  {x7 : Vec Ideal S10x128x128 .bf16} {x8 : Vec Ideal S1x1280 .f32} {x9 : Vec Ideal S1x1280 .f32}
  {x10 : Vec Ideal S1280x1024 .bf16} {x11 x12 x13 x14 : Vec Ideal S32x1280 .f32}
  (o : Operands p xs kept hs x0 x1 x2 x3 x4 x5 x6 x7 x8 x9 x10 x11 x12 x13 x14)

theorem ld_rows (x : Vec Ideal S32x1280 .f32) : View.ld x r0_3 = x := View.ld_unit_lit _ _ (by decide)
theorem ld_row (x : Vec Ideal S1x1280 .f32) : View.ld x r0_4 = x := View.ld_unit_lit _ _ (by decide)
theorem ld_tokens (x : Vec Ideal S32x1024 .f32) : View.ld x r0_0 = x := View.ld_unit_lit _ _ (by decide)
theorem ld_norm (x : Vec Ideal S1x1024 .f32) : View.ld x r0_1 = x := View.ld_unit_lit _ _ (by decide)
theorem ld_proj (x : Vec Ideal S1024x2560 .bf16) : View.ld x r0_2 = x := View.ld_unit_lit _ _ (by decide)
theorem ld_out (x : Vec Ideal S1280x1024 .bf16) : View.ld x r0_29 = x := View.ld_unit_lit _ _ (by decide)

include o in
theorem branch_apply (r : Fin 32) (j : Fin 1280) : k0_pay5 x0 x1 x2 (ix2 r j) = branchRow p (xs r) j := by
  pointwise [k0_pay5, k0_pay3, branchRow, rmsRow, meanSq, vecMat]
  simp only [o.rows, o.norm, o.proj]

include o in
theorem gate_apply (r : Fin 32) (j : Fin 1280) : k0_pay4 x0 x1 x2 (ix2 r j) = gateRow p (xs r) j := by
  pointwise [k0_pay4, k0_pay3, gateRow, rmsRow, meanSq, vecMat]
  simp only [o.rows, o.norm, o.proj]

/-- One row of the convolution's taps. -/
theorem tap_apply (e : Fin 4) (inb) (j : Fin 1280) :
    View.ld x3 (Rect.unit (s := S4x1280) ![e.val, 0] S1x1280.size inb) (ix2 0 j) = x3 (ix2 e j) :=
  View.ld_unit_apply_of x3 _ _ _ _ (ix2 e j) (fun a => by
    fin_cases a
    · rfl
    · exact (Nat.zero_add _).symm)

/-- The convolution of the block, over values. -/
theorem conv_value (u a b c : FVec Ideal S32x1280 .f32) (z w0 w1 w2 w3 : FVec Ideal S1x1280 .f32) (r : Fin 32) (j : Fin 1280) :
    k0_pay8 u (k0_pay6 z a w0) (k0_pay7 b w1) c w2 w3 (ix2 r j)
      = z (ix2 0 j) + a (ix2 r j) * w0 (ix2 0 j) + b (ix2 r j) * w1 (ix2 0 j) + c (ix2 r j) * w2 (ix2 0 j)
        + u (ix2 r j) * w3 (ix2 0 j) := by
  pointwise [k0_pay8, k0_pay6, k0_pay7]

include o in
theorem conv_apply (r : Fin 32) (j : Fin 1280) :
    conv x0 x1 x2 x3 x4 x11 x12 x13 (ix2 r j) = convToken p (kept r) (xs r) j := by
  unfold conv
  refine (conv_value _ _ _ _ _ _ _ _ _ r j).trans ?_
  rw [ld_rows, ld_rows, ld_rows, ld_row, ld_tokens, ld_norm, ld_proj, branch_apply p xs kept hs o]
  unfold convToken
  rw [← o.first, ← o.second, ← o.third, ← o.tapBias]
  refine congr (congrArg HAdd.hAdd (congr (congrArg HAdd.hAdd (congr (congrArg HAdd.hAdd (congrArg (x4 (ix2 0 j) + ·)
    (congrArg (x11 (ix2 r j) * ·) ?_))) (congrArg (x12 (ix2 r j) * ·) ?_))) (congrArg (x13 (ix2 r j) * ·) ?_)))
    (congrArg (branchRow p (xs r) j * ·) ?_)
  · exact (tap_apply 0 _ j).trans (o.tap 0 j)
  · exact (tap_apply 1 _ j).trans (o.tap 1 j)
  · exact (tap_apply 2 _ j).trans (o.tap 2 j)
  · exact (tap_apply 3 _ j).trans (o.tap 3 j)

/-- A gate in one column of a head. -/
theorem headGate_apply (e : Fin 10) (X : FVec Ideal S32x1280 .f32) (w : FVec Ideal S1x128x128 .bf16)
    (b : FVec Ideal S1x128 .f32) (c : Fin 1280 → EReal) (W : Fin 10 → Fin 128 → Fin 128 → EReal) (B : Fin 1280 → EReal)
    (r : Fin 32) (hX : ∀ j, X (ix2 r j) = c j) (hw : ∀ k l, w (ix3 0 k l) = W e k l) (hb : ∀ l, b (ix2 0 l) = B (col e l))
    (l : Fin 128) : headGate e X w b (ix2 r l) = gateAt W B c e l := by
  unfold gateAt
  rw [← hb]
  simp only [← hX, ← hw]
  pointwise [headGate, headOf, col]

/-- One head's weights. -/
theorem weight_apply (x : Vec Ideal S10x128x128 .bf16) (e : Fin 10) (k l : Fin 128) :
    View.ld x (weightOf e) (ix3 0 k l) = x (ix3 e k l) :=
  View.ld_unit_apply_of x _ _ _ _ (ix3 e k l) (fun a => by
    fin_cases a
    · rfl
    · exact (Nat.zero_add _).symm
    · exact (Nat.zero_add _).symm)

/-- One head's biases. -/
theorem bias_apply (x : Vec Ideal S1x1280 .f32) (e : Fin 10) (l : Fin 128) :
    View.ld x (biasOf e) (ix2 0 l) = x (ix2 0 (col e l)) :=
  View.ld_unit_apply_of x _ _ _ _ (ix2 0 (col e l)) (fun a => by fin_cases a <;> rfl)

include o in
theorem softplus_apply (j : Fin 1280) : k0_pay9 x9 (ix2 0 j) = soft (p.lam j) := by
  rw [← o.lam]
  pointwise [k0_pay9, soft]
  rfl

include o in
theorem headDecay_apply (e : Fin 10) (X : FVec Ideal S32x1280 .f32) (c : Fin 1280 → EReal) (r : Fin 32)
    (hX : ∀ j, X (ix2 r j) = c j) (l : Fin 128) :
    headDecay e X (k0_pay9 x9) (View.ld x5 (weightOf e)) (View.ld x6 (biasOf e)) (ix2 r l) = decayAt p c e l := by
  unfold decayAt rateAt
  rw [← headGate_apply e X _ _ c p.decayW p.decayB r hX (fun k l => (weight_apply x5 e k l).trans (o.decayW e k l))
    (fun l => (bias_apply x6 e l).trans (o.decayB _)), ← softplus_apply p xs kept hs o]
  generalize k0_pay9 x9 = sp
  generalize View.ld x5 (weightOf e) = w
  generalize View.ld x6 (biasOf e) = b
  generalize hg : headGate e X w b = g
  unfold headDecay
  rw [hg]
  pointwise [col]

include o in
theorem headInput_apply (e : Fin 10) (X : FVec Ideal S32x1280 .f32) (c : Fin 1280 → EReal) (r : Fin 32)
    (hX : ∀ j, X (ix2 r j) = c j) (l : Fin 128) :
    headInput e X (k0_pay9 x9) (View.ld x5 (weightOf e)) (View.ld x7 (weightOf e)) (View.ld x6 (biasOf e))
      (View.ld x8 (biasOf e)) (ix2 r l) = inputAt p c e l := by
  unfold inputAt
  rw [← headGate_apply e X _ _ c p.inputW p.inputB r hX (fun k l => (weight_apply x7 e k l).trans (o.inputW e k l))
    (fun l => (bias_apply x8 e l).trans (o.inputB _)), ← headDecay_apply p xs kept hs o e X c r hX, ← hX]
  generalize hd : headDecay e X (k0_pay9 x9) (View.ld x5 (weightOf e)) (View.ld x6 (biasOf e)) = d
  generalize hg : headGate e X (View.ld x7 (weightOf e)) (View.ld x8 (biasOf e)) = g
  unfold headInput
  rw [hd, hg]
  pointwise [headOf, col]

/-- A column of the block in its head. -/
theorem heads_apply (f : Fin 10 → FVec Ideal S32x128 .f32) (h) (r : Fin 32) (j : Fin 1280) :
    concatenate (α := EReal) S32x1280 1 (List.ofFn fun e : Fin 10 => ⟨S32x128, f e⟩) h (ix2 r j)
      = f (head j) (ix2 r (lane j)) :=
  concatenate_ofFn_apply (s₁ := S32x128) (1 : Fin S32x1280.rank) f h rfl 128 rfl (ix2 r j) (head j) rfl (ix2 r (lane j)) rfl
    (fun b hb => by
      fin_cases b
      · rfl
      · exact absurd rfl hb)

include o in
/-- The block's new states. -/
theorem state_apply (r : Fin 32) (j : Fin 1280) :
    k0_pay1 (k0_pay75 x0 x1 x2 x3 x4 x5 x6 x7 x8 x9 x10 x11 x12 x13 x14)
      (k0_pay76 x0 x1 x2 x3 x4 x5 x6 x7 x8 x9 x10 x11 x12 x13 x14) (ix2 r j) = stateToken p (kept r) (hs r) (xs r) j := by
  rw [block_inputs, block_decays, ld_rows, ld_row]
  have hX := conv_apply p xs kept hs o r
  generalize conv x0 x1 x2 x3 x4 x11 x12 x13 = X at hX
  have hd : decays X (k0_pay9 x9) (fun e => View.ld x5 (weightOf e)) (fun e => View.ld x6 (biasOf e)) (ix2 r j)
      = decayAt p (convToken p (kept r) (xs r)) (head j) (lane j) :=
    (heads_apply _ _ r j).trans (headDecay_apply p xs kept hs o _ X _ r hX _)
  have hi : inputs X (k0_pay9 x9) (fun e => View.ld x5 (weightOf e)) (fun e => View.ld x7 (weightOf e))
      (fun e => View.ld x6 (biasOf e)) (fun e => View.ld x8 (biasOf e)) (ix2 r j)
      = inputAt p (convToken p (kept r) (xs r)) (head j) (lane j) :=
    (heads_apply _ _ r j).trans (headInput_apply p xs kept hs o _ X _ r hX _)
  unfold stateToken
  rw [← hd, ← hi, ← o.state]
  rfl

/-- The output over values. -/
theorem output_value (x : FVec Ideal S32x1024 .f32) (g a b : FVec Ideal S32x1280 .f32) (w : FVec Ideal S1280x1024 .bf16)
    (r : Fin 32) (j : Fin 1024) :
    k0_pay2 x g a b w (ix2 r j) = x (ix2 r j) + ∑ k, gelu (g (ix2 r k)) * k0_pay1 a b (ix2 r k) * w (ix2 k j) := by
  pointwise [k0_pay2, k0_pay1, gelu]

/-- The first block stored: the layer's output. -/
theorem out_rows : out0_15 x0 x1 x2 x3 x4 x5 x6 x7 x8 x9 x10 x11 x12 x13 x14
    = k0_pay2 x0 (k0_pay4 x0 x1 x2) (k0_pay75 x0 x1 x2 x3 x4 x5 x6 x7 x8 x9 x10 x11 x12 x13 x14)
        (k0_pay76 x0 x1 x2 x3 x4 x5 x6 x7 x8 x9 x10 x11 x12 x13 x14) x10 := by
  unfold out0_15
  refine (View.canon_cons_unit_lit _ _ [] (by decide)).trans ?_
  rw [ld_tokens, ld_norm, ld_proj, ld_out]

/-- The second: the states. -/
theorem out_states : out0_16 x0 x1 x2 x3 x4 x5 x6 x7 x8 x9 x10 x11 x12 x13 x14
    = k0_pay1 (k0_pay75 x0 x1 x2 x3 x4 x5 x6 x7 x8 x9 x10 x11 x12 x13 x14)
        (k0_pay76 x0 x1 x2 x3 x4 x5 x6 x7 x8 x9 x10 x11 x12 x13 x14) := by
  unfold out0_16
  exact View.canon_cons_unit_lit _ _ [] (by decide)

/-- The third: the rows before the convolution. -/
theorem out_branch : out0_17 x0 x1 x2 x3 x4 x5 x6 x7 x8 x9 x10 x11 x12 x13 x14 = k0_pay5 x0 x1 x2 := by
  unfold out0_17
  refine (View.canon_cons_unit_lit _ _ [] (by decide)).trans ?_
  rw [ld_tokens, ld_norm, ld_proj]

include o in
theorem out_rows_apply (r : Fin 32) (j : Fin 1024) :
    out0_15 x0 x1 x2 x3 x4 x5 x6 x7 x8 x9 x10 x11 x12 x13 x14 (ix2 r j) = outToken p (kept r) (hs r) (xs r) j := by
  rw [out_rows]
  refine (output_value _ _ _ _ _ r j).trans ?_
  unfold outToken
  simp only [gate_apply p xs kept hs o, state_apply p xs kept hs o, o.rows, o.out]

include o in
theorem out_states_apply (r : Fin 32) (j : Fin 1280) :
    out0_16 x0 x1 x2 x3 x4 x5 x6 x7 x8 x9 x10 x11 x12 x13 x14 (ix2 r j) = stateToken p (kept r) (hs r) (xs r) j := by
  rw [out_states]
  exact state_apply p xs kept hs o r j

include o in
theorem out_branch_apply (r : Fin 32) (j : Fin 1280) :
    out0_17 x0 x1 x2 x3 x4 x5 x6 x7 x8 x9 x10 x11 x12 x13 x14 (ix2 r j) = branchRow p (xs r) j := by
  rw [out_branch]
  exact branch_apply p xs kept hs o r j

end Cert.DecodeBlock

end
-- ==== Proof.DecodeKernel.lean ====
/-
  The recurrent layer's call for the sample group: what its three result arrays hold after the run, as the layer's
  functions of one token over the argument arrays.
-/
module

public import proofs.«01_k».proof.Proof.DecodeBlock
public import proofs.«01_k».proof.Proof.Gen.Kernel4Ideal.Value

@[expose] public section

set_option maxRecDepth 16384

noncomputable section

namespace Cert.DecodeKernel

open Idealize.ShloMosaic Idealize.ShloMosaic.TcCoe Idealize.SL.Sem
open Idealize.ShloMosaic.Pipeline (Dat)
open Cert.Kernel4Ideal Cert.Kernel4Ideal.Gen Cert.Rows Cert.LruMath Cert.DecodeRows Cert.DecodeBlock

variable (m : (ℓ : Loc nD τ sig) → Buf (Elt Ideal) ℓ) (c : Dev nD)

/-- The layer's parameters in the argument arrays. -/
def weights : Weights where
  norm k := m ((c.tc : Thread nD τ).loc main_arg1) (ix1 k)
  proj k l := m ((c.tc : Thread nD τ).loc main_arg2) (ix2 k l)
  tap e j := m ((c.tc : Thread nD τ).loc main_arg3) (ix2 e j)
  tapBias j := m ((c.tc : Thread nD τ).loc main_arg4) (ix1 j)
  decayW e k l := m ((c.tc : Thread nD τ).loc main_arg5) (ix3 e k l)
  decayB j := m ((c.tc : Thread nD τ).loc main_arg6) (ix1 j)
  inputW e k l := m ((c.tc : Thread nD τ).loc main_arg7) (ix3 e k l)
  inputB j := m ((c.tc : Thread nD τ).loc main_arg8) (ix1 j)
  lam j := m ((c.tc : Thread nD τ).loc main_arg9) (ix1 j)
  out k l := m ((c.tc : Thread nD τ).loc main_arg10) (ix2 k l)

/-- The tokens. -/
def tokens (r : Fin 32) (k : Fin 1024) : EReal := m ((c.tc : Thread nD τ).loc main_arg0) (ix2 r k)

/-- The three rows kept before each token. -/
def kept (r : Fin 32) (e : Fin 3) (j : Fin 1280) : EReal := m ((c.tc : Thread nD τ).loc main_arg11) (ix3 r e j)

/-- The state kept before each token. -/
def states (r : Fin 32) (j : Fin 1280) : EReal := m ((c.tc : Thread nD τ).loc main_arg12) (ix2 r j)

/-- Where the windows' blocks lie: the one point reads and writes everything. -/
theorem idx : ∀ t : Fin grid0.N, (win0_0.index t 0 = 0 ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0)
    ∧ (win0_13.index t 0 = 0 ∧ win0_13.index t 1 = 0) ∧ (win0_14.index t 0 = 0 ∧ win0_14.index t 1 = 0)
    ∧ (win0_15.index t 0 = 0 ∧ win0_15.index t 1 = 0) ∧ (win0_16.index t 0 = 0 ∧ win0_16.index t 1 = 0)
    ∧ (win0_17.index t 0 = 0 ∧ win0_17.index t 1 = 0) := by
  decide +kernel

set_option maxHeartbeats 1600000 in
/-- The operands of the one grid point. -/
theorem operands (t : Fin cfg0.N) : Operands (weights m c) (tokens m c) (kept m c) (states m c) (iblk m c 0 t)
    (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) where
  rows r k := by unfold tokens; blk_ext [iblk, V, idx t]
  norm k := by blk_ext! [iblk, V, idx t]
  proj k l := by blk_ext! [iblk, V, idx t]
  tap e j := by blk_ext! [iblk, V, idx t]
  tapBias j := by blk_ext! [iblk, V, idx t]
  decayW e k l := by blk_ext! [iblk, V, idx t]
  decayB j := by blk_ext! [iblk, V, idx t]
  inputW e k l := by blk_ext! [iblk, V, idx t]
  inputB j := by blk_ext! [iblk, V, idx t]
  lam j := by blk_ext! [iblk, V, idx t]
  out k l := by blk_ext! [iblk, V, idx t]
  first r j := by unfold kept; blk_ext! [iblk, V, idx t]
  second r j := by unfold kept; blk_ext! [iblk, V, idx t]
  third r j := by unfold kept; blk_ext! [iblk, V, idx t]
  state r j := by unfold states; blk_ext! [iblk, V, idx t]

/-- The layer's output in the kernel's result array. -/
def outputs (i : S32x1024.Idx) : EReal :=
  outToken (weights m c) (kept m c (i 0)) (states m c (i 0)) (tokens m c (i 0)) (i 1)

/-- The new states in the kernel's result array. -/
def lasts (i : S32x1280.Idx) : EReal :=
  stateToken (weights m c) (kept m c (i 0)) (states m c (i 0)) (tokens m c (i 0)) (i 1)

/-- The new rows before the convolution in the kernel's result array. -/
def branches (i : S32x1280.Idx) : EReal := branchRow (weights m c) (tokens m c (i 0)) (i 1)

theorem outputs_array : (dats m 0 c).arrAt 15 cfg0.N = outputs m c := by
  refine (dats m 0 c).arrAt_eq_of_covers 15 _ (by decide +kernel) fun t hf y => ?_
  blk_simp
  rw [after0_15]
  obtain ⟨r, j, rfl⟩ : ∃ (r : Fin 32) (j : Fin 1024), y = ix2 r j := ⟨y 0, y 1, eq_ix2 y⟩
  refine (out_rows_apply _ _ _ _ (operands m c t) r j).trans ?_
  have e : ((View.whole main_v15_0).slice (win0_15.rect t)).emb (ix2 r j) = ix2 r j := by
    funext a
    apply Fin.ext
    fin_cases a <;> blk_simp [idx t]
  rw [e]
  rfl

theorem lasts_array : (dats m 0 c).arrAt 16 cfg0.N = lasts m c := by
  refine (dats m 0 c).arrAt_eq_of_covers 16 _ (by decide +kernel) fun t hf y => ?_
  blk_simp
  rw [after0_16]
  obtain ⟨r, j, rfl⟩ : ∃ (r : Fin 32) (j : Fin 1280), y = ix2 r j := ⟨y 0, y 1, eq_ix2 y⟩
  refine (out_states_apply _ _ _ _ (operands m c t) r j).trans ?_
  have e : ((View.whole main_v15_1).slice (win0_16.rect t)).emb (ix2 r j) = ix2 r j := by
    funext a
    apply Fin.ext
    fin_cases a <;> blk_simp [idx t]
  rw [e]
  rfl

theorem branches_array : (dats m 0 c).arrAt 17 cfg0.N = branches m c := by
  refine (dats m 0 c).arrAt_eq_of_covers 17 _ (by decide +kernel) fun t hf y => ?_
  blk_simp
  rw [after0_17]
  obtain ⟨r, j, rfl⟩ : ∃ (r : Fin 32) (j : Fin 1280), y = ix2 r j := ⟨y 0, y 1, eq_ix2 y⟩
  refine (out_branch_apply _ _ _ _ (operands m c t) r j).trans ?_
  have e : ((View.whole main_v15_2).slice (win0_17.rect t)).emb (ix2 r j) = ix2 r j := by
    funext a
    apply Fin.ext
    fin_cases a <;> blk_simp [idx t]
  rw [e]
  rfl

end Cert.DecodeKernel

end
-- ==== Proof.DecodeReference.lean ====
/-
  The reference of the recurrent layer's call for the sample group, read entry by entry as the layer's functions of one
  token.
-/
module

public import proofs.«01_k».proof.Proof.DecodeRows
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.DecodeReference

open Idealize.ShloMosaic Idealize.ShloMosaic.TcCoe
open Cert.Reference4Ideal Cert.Reference4Ideal.Gen Cert.Reference4Ideal.Value
open Cert.Rows Cert.LruMath Cert.DecodeRows

/-- The projected rows. -/
def projected (x : FVec Ideal S32x1024 .f32) (nw : FVec Ideal S1024 .f32) (w : FVec Ideal S1024x2560 .f32) :
    FVec Ideal S32x1x2560 .f32 :=
  Host.dotGeneral dot_S32x1x1024_S1024x2560_S32x1x2560_2_0_01_1_n_n none (mulf (mulf (shapeCast _ x shapeCasts_S32x1024_S32x1x1024) (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf (shapeCast _ x shapeCasts_S32x1024_S32x1x1024) (shapeCast _ x shapeCasts_S32x1024_S32x1x1024)) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 nw))) w

/-- The gating columns. -/
def gating (q : FVec Ideal S32x1x2560 .f32) : FVec Ideal S32x1x1280 .f32 :=
  extractStridedSlice S32x1x1280 ![0, 0, 0] q slices_S32x1x2560_S32x1x1280_0_0_0

/-- The recurrent columns. -/
def branch (q : FVec Ideal S32x1x2560 .f32) : FVec Ideal S32x1x1280 .f32 :=
  extractStridedSlice S32x1x1280 ![0, 0, 1280] q slices_S32x1x2560_S32x1x1280_0_0_1280

/-- One row of 1280 values for every token. -/
def spread (z : FVec Ideal S1280 .f32) : FVec Ideal S32x1x1280 .f32 :=
  broadcastInDim S32x1x1280 ![0, 1, 2] bcast_S1x1x1280_S32x1x1280_0_1_2 (broadcastInDim S1x1x1280 ![2] bcast_S1280_S1x1x1280_2 z)

/-- The rows kept, then the token's own. -/
def window (y : FVec Ideal S32x3x1280 .f32) (u : FVec Ideal S32x1x1280 .f32) : FVec Ideal S32x4x1280 .f32 :=
  concatenate S32x4x1280 1 [⟨S32x3x1280, y⟩, ⟨S32x1x1280, u⟩] concatenates_S32x3x1280_S32x1x1280_S32x4x1280_d1

/-- The convolution. -/
def convolved (v : FVec Ideal S32x4x1280 .f32) (w : FVec Ideal S4x1280 .f32) (z : FVec Ideal S1280 .f32) :
    FVec Ideal S32x1x1280 .f32 :=
  addf (addf (addf (addf
    (mulf (extractStridedSlice S32x1x1280 ![0, 0, 0] v slices_S32x4x1280_S32x1x1280_0_0_0)
      (spread (shapeCast _ (extractStridedSlice S1x1280 ![0, 0] w slices_S4x1280_S1x1280_0_0) shapeCasts_S1x1280_S1280)))
    (mulf (extractStridedSlice S32x1x1280 ![0, 1, 0] v slices_S32x4x1280_S32x1x1280_0_1_0)
      (spread (shapeCast _ (extractStridedSlice S1x1280 ![1, 0] w slices_S4x1280_S1x1280_1_0) shapeCasts_S1x1280_S1280))))
    (mulf (extractStridedSlice S32x1x1280 ![0, 2, 0] v slices_S32x4x1280_S32x1x1280_0_2_0)
      (spread (shapeCast _ (extractStridedSlice S1x1280 ![2, 0] w slices_S4x1280_S1x1280_2_0) shapeCasts_S1x1280_S1280))))
    (mulf (extractStridedSlice S32x1x1280 ![0, 3, 0] v slices_S32x4x1280_S32x1x1280_0_3_0)
      (spread (shapeCast _ (extractStridedSlice S1x1280 ![3, 0] w slices_S4x1280_S1x1280_3_0) shapeCasts_S1x1280_S1280))))
    (spread z)

/-- One value everywhere. -/
def all (b : BitVec 32) : FVec Ideal S32x1x1280 .f32 :=
  broadcastInDim S32x1x1280 ![] bcast_S_S32x1x1280 (constant (F := Ideal) S_ .f32 b)

/-- A gate: the rows cut into heads, each head through its own weights, and the logistic function. -/
def gateOf (x : FVec Ideal S32x1x1280 .f32) (w : FVec Ideal S10x128x128 .f32) (z : FVec Ideal S1280 .f32) :
    FVec Ideal S32x1x1280 .f32 :=
  Host.divf (all 0x3F800000#32) (addf (all 0x3F800000#32) (Host.exp (Host.negf (addf
    (shapeCast S32x1x1280 (transpose S32x1x10x128 [2, 3, 0, 1]
      (Host.dotGeneral dot_S10x128x128_S32x1x10x128_S10x128x32x1_1_3_2_01_0_2 none w
        (shapeCast S32x1x10x128 x shapeCasts_S32x1x1280_S32x1x10x128))
      transposes_S10x128x32x1_S32x1x10x128_2_3_0_1) shapeCasts_S32x1x10x128_S32x1x1280)
    (spread z)))))

/-- The softplus that the reference computes: the larger of zero and `x`, and the logarithm's part. -/
def softplus (x : FVec Ideal S1280 .f32) : FVec Ideal S1280 .f32 :=
  let z := broadcastInDim S1280 ![] bcast_S_S1280 (constant (F := Ideal) S_ .f32 0x00000000#32)
  select (cmpf .une (subf x z) (subf x z)) (addf x z)
    (addf (maximumf x z) (Host.log1p (Host.exp (Host.negf (Host.absf (subf x z))))))

/-- The decay's exponent. -/
def rate (g : FVec Ideal S32x1x1280 .f32) (l : FVec Ideal S1280 .f32) : FVec Ideal S32x1x1280 .f32 :=
  mulf (mulf (all 0xC1000000#32) g) (spread (softplus (Host.negf l)))

/-- The new state. -/
def stepped (ra i x : FVec Ideal S32x1x1280 .f32) (h : FVec Ideal S32x1280 .f32) : FVec Ideal S32x1x1280 .f32 :=
  addf (mulf (Host.exp ra) (broadcastInDim S32x1x1280 ![0, 2] bcast_S32x1280_S32x1x1280_0_2 h))
    (mulf (Host.sqrt (Host.negf (Host.expm1 (mulf (all 0x40000000#32) ra)))) (mulf i x))

/-- The smooth gate. -/
def smooth (g : FVec Ideal S32x1x1280 .f32) : FVec Ideal S32x1x1280 .f32 :=
  mulf g (mulf (all 0x3F000000#32) (addf (all 0x3F800000#32) (Host.tanh (mulf (all 0x3F4C422A#32)
    (addf g (mulf (all 0x3D372713#32) (mulf (mulf g g) g)))))))

/-- The layer's output. -/
def leaving (x : FVec Ideal S32x1024 .f32) (g h : FVec Ideal S32x1x1280 .f32) (w : FVec Ideal S1280x1024 .f32) :
    FVec Ideal S32x1024 .f32 :=
  shapeCast _ (addf (shapeCast _ x shapeCasts_S32x1024_S32x1x1024)
    (Host.dotGeneral dot_S32x1x1280_S1280x1024_S32x1x1024_2_0_01_1_n_n none (mulf (smooth g) h) w)) shapeCasts_S32x1x1024_S32x1024

variable (m : (ℓ : Loc nD τ sig) → Buf (Elt Ideal) ℓ) (c : Dev nD)

/-- The layer's parameters in the argument arrays. -/
def weights : Weights where
  norm k := m ((c.tc : Thread nD τ).loc main_arg1) (ix1 k)
  proj k l := m ((c.tc : Thread nD τ).loc main_arg2) (ix2 k l)
  tap e j := m ((c.tc : Thread nD τ).loc main_arg3) (ix2 e j)
  tapBias j := m ((c.tc : Thread nD τ).loc main_arg4) (ix1 j)
  decayW e k l := m ((c.tc : Thread nD τ).loc main_arg5) (ix3 e k l)
  decayB j := m ((c.tc : Thread nD τ).loc main_arg6) (ix1 j)
  inputW e k l := m ((c.tc : Thread nD τ).loc main_arg7) (ix3 e k l)
  inputB j := m ((c.tc : Thread nD τ).loc main_arg8) (ix1 j)
  lam j := m ((c.tc : Thread nD τ).loc main_arg9) (ix1 j)
  out k l := m ((c.tc : Thread nD τ).loc main_arg10) (ix2 k l)

/-- The tokens. -/
def tokens (r : Fin 32) (k : Fin 1024) : EReal := m ((c.tc : Thread nD τ).loc main_arg0) (ix2 r k)

/-- The three rows kept before each token. -/
def kept (r : Fin 32) (e : Fin 3) (j : Fin 1280) : EReal := m ((c.tc : Thread nD τ).loc main_arg11) (ix3 r e j)

/-- The state kept before each token. -/
def states (r : Fin 32) (j : Fin 1280) : EReal := m ((c.tc : Thread nD τ).loc main_arg12) (ix2 r j)

/-- The reference's projected rows. -/
def projection : FVec Ideal S32x1x2560 .f32 :=
  projected (m ((c.tc : Thread nD τ).loc main_arg0)) (m ((c.tc : Thread nD τ).loc main_arg1)) (m ((c.tc : Thread nD τ).loc main_arg2))

/-- The reference's convolution. -/
def convolution : FVec Ideal S32x1x1280 .f32 :=
  convolved (window (m ((c.tc : Thread nD τ).loc main_arg11)) (branch (projection m c)))
    (m ((c.tc : Thread nD τ).loc main_arg3)) (m ((c.tc : Thread nD τ).loc main_arg4))

/-- The reference's new state. -/
def newState : FVec Ideal S32x1x1280 .f32 :=
  stepped (rate (gateOf (convolution m c) (m ((c.tc : Thread nD τ).loc main_arg5)) (m ((c.tc : Thread nD τ).loc main_arg6)))
      (m ((c.tc : Thread nD τ).loc main_arg9)))
    (gateOf (convolution m c) (m ((c.tc : Thread nD τ).loc main_arg7)) (m ((c.tc : Thread nD τ).loc main_arg8)))
    (convolution m c) (m ((c.tc : Thread nD τ).loc main_arg12))

/-- The results as these values. -/
theorem state_result : res_main_v108 m c = shapeCast _ (newState m c) shapeCasts_S32x1x1280_S32x1280 := by
  unfold res_main_v108 newState stepped rate gateOf convolution convolved window branch projection projected softplus all spread
  rfl

theorem output_result : res_main_v107 m c
    = leaving (m ((c.tc : Thread nD τ).loc main_arg0)) (gating (projection m c)) (newState m c)
        (m ((c.tc : Thread nD τ).loc main_arg10)) := by
  unfold res_main_v107 leaving smooth gating newState stepped rate gateOf convolution convolved window branch projection
    projected softplus all spread
  rfl

theorem projected_apply (x : FVec Ideal S32x1024 .f32) (nw : FVec Ideal S1024 .f32) (w : FVec Ideal S1024x2560 .f32)
    (r : Fin 32) (j : Fin 2560) :
    projected x nw w (ix3 r 0 j) = vecMat (rmsRow (fun k => x (ix2 r k)) (fun k => nw (ix1 k))) (fun k l => w (ix2 k l)) j := by
  pointwise [projected, rmsRow, meanSq, vecMat]

theorem gating_apply (r : Fin 32) (j : Fin 1280) :
    gating (projection m c) (ix3 r 0 j) = gateRow (weights m c) (tokens m c r) j := by
  refine Eq.trans ?_ (projected_apply (m ((c.tc : Thread nD τ).loc main_arg0)) (m ((c.tc : Thread nD τ).loc main_arg1))
    (m ((c.tc : Thread nD τ).loc main_arg2)) r ⟨j.val, by omega⟩)
  unfold projection
  generalize projected _ _ _ = q
  pointwise [gating]

theorem branch_apply (r : Fin 32) (j : Fin 1280) :
    branch (projection m c) (ix3 r 0 j) = branchRow (weights m c) (tokens m c r) j := by
  refine Eq.trans ?_ (projected_apply (m ((c.tc : Thread nD τ).loc main_arg0)) (m ((c.tc : Thread nD τ).loc main_arg1))
    (m ((c.tc : Thread nD τ).loc main_arg2)) r ⟨1280 + j.val, by omega⟩)
  unfold projection
  generalize projected _ _ _ = q
  pointwise [branch]

theorem convolved_apply (y : FVec Ideal S32x3x1280 .f32) (u : FVec Ideal S32x1x1280 .f32) (w : FVec Ideal S4x1280 .f32)
    (z : FVec Ideal S1280 .f32) (r : Fin 32) (j : Fin 1280) :
    convolved (window y u) w z (ix3 r 0 j)
      = y (ix3 r 0 j) * w (ix2 0 j) + y (ix3 r 1 j) * w (ix2 1 j) + y (ix3 r 2 j) * w (ix2 2 j)
        + u (ix3 r 0 j) * w (ix2 3 j) + z (ix1 j) := by
  pointwise [convolved, window, spread]

theorem convolution_apply (r : Fin 32) (j : Fin 1280) :
    convolution m c (ix3 r 0 j) = convToken (weights m c) (kept m c r) (tokens m c r) j := by
  unfold convolution
  refine (convolved_apply _ _ _ _ r j).trans ?_
  rw [branch_apply]
  unfold convToken
  rw [add_comm]
  simp only [← add_assoc]
  rfl

theorem gateOf_apply (x : FVec Ideal S32x1x1280 .f32) (w : FVec Ideal S10x128x128 .f32) (z : FVec Ideal S1280 .f32)
    (r : Fin 32) (j : Fin 1280) :
    gateOf x w z (ix3 r 0 j)
      = Ideal.logistic (∑ k, x (ix3 r 0 (col (head j) k)) * w (ix3 (head j) k (lane j)) + z (ix1 j)) := by
  have hh : ∀ (e : Fin 10) (l : Fin 128),
      shapeCast S32x1x10x128 x shapeCasts_S32x1x1280_S32x1x10x128 (ix4 r 0 e l) = x (ix3 r 0 (col e l)) := fun e l => by
    have h : col e l = ⟨e.val * 128 + l.val, by omega⟩ := Fin.ext (by show 128 * e.val + l.val = e.val * 128 + l.val; omega)
    rw [h]
    pointwise
  simp only [← hh, mul_comm _ (w _)]
  unfold gateOf
  generalize shapeCast S32x1x10x128 x shapeCasts_S32x1x1280_S32x1x10x128 = y
  pointwise [all, spread, head, lane, Ideal.logistic]

theorem softplus_apply (x : FVec Ideal S1280 .f32) (j : Fin 1280) (l : EReal) (h : x (ix1 j) = 0 - l) :
    softplus x (ix1 j) = soft l := by
  unfold soft
  rw [← h, zero_sub]
  have : ∀ y : EReal, (FloatOps.absf (F := Ideal) (φ := .f32) y : EReal) = max y (-y) := fun _ => rfl
  pointwise [softplus, this]
  exact if_neg (fun h => h rfl)

theorem rate_apply (g : FVec Ideal S32x1x1280 .f32) (l : FVec Ideal S1280 .f32) (r : Fin 32) (j : Fin 1280) :
    rate g l (ix3 r 0 j) = Ideal.ofBits .f32 0xC1000000#32 * g (ix3 r 0 j) * soft (l (ix1 j)) := by
  have h := softplus_apply (Host.negf l) j (l (ix1 j)) (by rw [zero_sub]; pointwise)
  rw [← h]
  unfold rate
  generalize softplus _ = s
  pointwise [all, spread]

theorem stepped_apply (ra i x : FVec Ideal S32x1x1280 .f32) (h : FVec Ideal S32x1280 .f32) (r : Fin 32) (j : Fin 1280) :
    stepped ra i x h (ix3 r 0 j) = Ideal.exp (ra (ix3 r 0 j)) * h (ix2 r j)
      + Ideal.sqrt (-(Ideal.exp (Ideal.ofBits .f32 0x40000000#32 * ra (ix3 r 0 j)) - 1)) * (i (ix3 r 0 j) * x (ix3 r 0 j)) := by
  pointwise [stepped, all, Ideal.expm1]

/-- A gate of the reference over its convolution. -/
theorem gates (w : FVec Ideal S10x128x128 .f32) (z : FVec Ideal S1280 .f32) (r : Fin 32) (j : Fin 1280) :
    gateOf (convolution m c) w z (ix3 r 0 j)
      = gateAt (fun e k l => w (ix3 e k l)) (fun j => z (ix1 j)) (convToken (weights m c) (kept m c r) (tokens m c r))
          (head j) (lane j) := by
  refine (gateOf_apply _ w z r j).trans ?_
  unfold gateAt
  simp only [convolution_apply, col_head_lane]

theorem rates (r : Fin 32) (j : Fin 1280) :
    rate (gateOf (convolution m c) (m ((c.tc : Thread nD τ).loc main_arg5)) (m ((c.tc : Thread nD τ).loc main_arg6)))
      (m ((c.tc : Thread nD τ).loc main_arg9)) (ix3 r 0 j)
      = rateAt (weights m c) (convToken (weights m c) (kept m c r) (tokens m c r)) (head j) (lane j) := by
  refine (rate_apply _ _ r j).trans ?_
  unfold rateAt
  rw [gates, col_head_lane]
  rfl

theorem newState_apply (r : Fin 32) (j : Fin 1280) :
    newState m c (ix3 r 0 j) = stateToken (weights m c) (kept m c r) (states m c r) (tokens m c r) j := by
  unfold newState
  refine (stepped_apply _ _ _ _ r j).trans ?_
  rw [rates, gates, convolution_apply]
  unfold stateToken
  rw [inputAt_eq, col_head_lane]
  rfl

theorem state_final (r : Fin 32) (j : Fin 1280) :
    res_main_v108 m c (ix2 r j) = stateToken (weights m c) (kept m c r) (states m c r) (tokens m c r) j := by
  rw [state_result, ← newState_apply]
  generalize newState m c = y
  pointwise

theorem leaving_apply (x : FVec Ideal S32x1024 .f32) (g h : FVec Ideal S32x1x1280 .f32) (w : FVec Ideal S1280x1024 .f32)
    (r : Fin 32) (j : Fin 1024) :
    leaving x g h w (ix2 r j) = x (ix2 r j) + ∑ k, gelu (g (ix3 r 0 k)) * h (ix3 r 0 k) * w (ix2 k j) := by
  have cube : ∀ y : EReal, y * (y * y) = y * y * y := fun y => (mul_assoc y y y).symm
  pointwise [leaving, smooth, all, gelu, cube]

theorem output_final (r : Fin 32) (j : Fin 1024) :
    res_main_v107 m c (ix2 r j) = outToken (weights m c) (kept m c r) (states m c r) (tokens m c r) j := by
  rw [output_result]
  refine (leaving_apply _ _ _ _ r j).trans ?_
  unfold outToken
  simp only [gating_apply, newState_apply]
  rfl

theorem branch_final (r : Fin 32) (j : Fin 1280) :
    shapeCast S32x1280 (branch (projection m c)) shapeCasts_S32x1x1280_S32x1280 (ix2 r j)
      = branchRow (weights m c) (tokens m c r) j := by
  rw [← branch_apply]
  generalize branch (projection m c) = y
  pointwise

end Cert.DecodeReference

end
-- ==== Proof.DecodeValue.lean ====
/-
  The value claim of the recurrent layer's call for the sample group: the kernel's output, new state and new row before
  the convolution are, token by token, the reference's.
-/
module

public import proofs.«01_k».proof.Defs
public import proofs.«01_k».proof.Proof.DecodeKernel
public import proofs.«01_k».proof.Proof.DecodeReference
public import proofs.«01_k».proof.Proof.Gen.Reference4Ideal

@[expose] public section

set_option maxRecDepth 16384

noncomputable section

namespace Cert.DecodeValue

open Idealize.ShloMosaic Idealize.ShloMosaic.TcCoe Idealize.SL.Sem
open Cert.Rows Cert.LruMath Cert.DecodeRows

/-- The recurrent layer's call for the sample group computes the reference. -/
theorem algebraic : algebraic_Kernel4Ideal_Reference4Ideal := by
  intro m g m' g' _ hag
  refine ⟨fun c => DecodeKernel.outputs m c, fun c => DecodeKernel.lasts m c, fun c => DecodeKernel.branches m c, ?_, ?_⟩
  · refine (θ_run _ _ _).mono (fun r h c => ?_) (Kernel4Ideal.Value.run_blocks m g)
    have := h c
    rw [DecodeKernel.outputs_array, DecodeKernel.lasts_array, DecodeKernel.branches_array] at this
    exact this
  · refine (θ_run _ _ _).mono (fun r h c => ?_) (Reference4Ideal.Value.run m' g')
    obtain ⟨h0, h1, h2, rest⟩ := h c
    obtain ⟨e0, e1, e2, e3, e4, e5, e6, e7, e8, e9, e10, e11, e12⟩ := hag c
    have hw : DecodeReference.weights m' c = DecodeKernel.weights m c := by
      unfold DecodeReference.weights DecodeKernel.weights
      rw [e1, e2, e3, e4, e5, e6, e7, e8, e9, e10]
    have ht : DecodeReference.tokens m' c = DecodeKernel.tokens m c := by
      unfold DecodeReference.tokens DecodeKernel.tokens
      rw [e0]
    have hk : DecodeReference.kept m' c = DecodeKernel.kept m c := by
      unfold DecodeReference.kept DecodeKernel.kept
      rw [e11]
    have hs : DecodeReference.states m' c = DecodeKernel.states m c := by
      unfold DecodeReference.states DecodeKernel.states
      rw [e12]
    refine ⟨h0.trans (funext fun i => ?_), h1.trans (funext fun i => ?_), h2.trans (funext fun i => ?_), rest⟩
    · refine (congrArg _ (eq_ix2 i)).trans ((DecodeReference.output_final m' c (i 0) (i 1)).trans ?_)
      rw [hw, ht, hk, hs]
      rfl
    · refine (congrArg _ (eq_ix2 i)).trans ((DecodeReference.state_final m' c (i 0) (i 1)).trans ?_)
      rw [hw, ht, hk, hs]
      rfl
    · refine (congrArg _ (eq_ix2 i)).trans ((DecodeReference.branch_final m' c (i 0) (i 1)).trans ?_)
      rw [hw, ht]
      rfl

/-- The reference's frame. -/
theorem frame_reference : Cert.quiescent_Reference4Ideal := fun m ρ _ =>
  (θ_run Cert.Reference4Ideal.defs _ _).mono (fun r h => ⟨fun c => (h c).2.2.2,
    Idealize.ShloMosaic.sem_eq_zero_of_no_sems (by decide) r.2⟩) (Cert.Reference4Ideal.Value.run (F := Ideal) m ρ)

end Cert.DecodeValue

end
-- ==== Proof.FfnSampleValue.lean ====
/-
  The value claim of the last feed-forward call for the sample group: the one block of 32 rows that the kernel writes
  holds, row by row, the norm of the feed-forward step of the same row of its input, and so does the reference's result.
  The row functions are those of the prompt group's call.
-/
module

public import proofs.«01_k».proof.Defs
public import proofs.«01_k».proof.Proof.Rows
public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.FfnSampleValue

open Idealize.ShloMosaic Idealize.ShloMosaic.TcCoe Idealize.SL.Sem
open Idealize.ShloMosaic.Pipeline (Dat)
open Cert.Rows

section Kernel
open Cert.Kernel5Ideal Cert.Kernel5Ideal.Gen

/-- The kernel's residual value in row `r` of its block is the feed-forward step of that row. -/
theorem residual_row (x : Vec Ideal S32x1024 .f32) (nw : Vec Ideal S1x1024 .f32)
    (wg wu : Vec Ideal S1024x2816 .bf16) (wd : Vec Ideal S2816x1024 .bf16) (r : Fin 32) (j : Fin 1024) :
    k0_pay2 x nw wg wu wd (ix2 r j)
      = ffnRow (fun k => x (ix2 r k)) (fun k => nw (ix2 0 k)) (fun k l => wg (ix2 k l)) (fun k l => wu (ix2 k l))
          (fun k l => wd (ix2 k l)) j := by
  pointwise [k0_pay2, ffnRow, gatedRow, rmsRow, meanSq, vecMat]

/-- The block that the kernel stores, row by row. -/
theorem block_row (x : Vec Ideal S32x1024 .f32) (nw : Vec Ideal S1x1024 .f32)
    (wg wu : Vec Ideal S1024x2816 .bf16) (wd : Vec Ideal S2816x1024 .bf16) (nf : Vec Ideal S1x1024 .f32)
    (r : Fin 32) (j : Fin 1024) :
    k0_pay1 (k0_pay2 x nw wg wu wd) (k0_pay3 nf) (k0_pay4 x nw wg wu wd) (k0_pay5 (F := Ideal)) (ix2 r j)
      = rmsRow (ffnRow (fun k => x (ix2 r k)) (fun k => nw (ix2 0 k)) (fun k l => wg (ix2 k l))
          (fun k l => wu (ix2 k l)) (fun k l => wd (ix2 k l))) (fun k => nf (ix2 0 k)) j := by
  have h := residual_row x nw wg wu wd r
  unfold k0_pay4
  generalize k0_pay2 x nw wg wu wd = y at h
  pointwise [k0_pay1, k0_pay3, k0_pay5, rmsRow, meanSq]
  simp only [h]

/-- What the launch memory gives the row functions: the argument arrays of the kernel's program. -/
def result (m : (ℓ : Loc nD τ sig) → Buf (Elt Ideal) ℓ) (c : Dev nD) (i : S32x1024.Idx) : EReal :=
  rmsRow (ffnRow (fun k => m ((c.tc : Thread nD τ).loc main_arg0) (ix2 (i 0) k))
      (fun k => m ((c.tc : Thread nD τ).loc main_arg1) (ix1 k))
      (fun k l => m ((c.tc : Thread nD τ).loc main_arg2) (ix2 k l))
      (fun k l => m ((c.tc : Thread nD τ).loc main_arg3) (ix2 k l))
      (fun k l => m ((c.tc : Thread nD τ).loc main_arg4) (ix2 k l)))
    (fun k => m ((c.tc : Thread nD τ).loc main_arg5) (ix1 k)) (i 1)

/-- Where the windows' blocks lie: the one point reads and writes everything. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) := by
  decide +kernel

/-- The result array after the run. -/
theorem result_array (m : (ℓ : Loc nD τ sig) → Buf (Elt Ideal) ℓ) (c : Dev nD) :
    (dats m 0 c).arrAt 6 cfg0.N = result m c := by
  refine (dats m 0 c).arrAt_eq_of_covers 6 _ (by decide +kernel) fun t hf y => ?_
  blk_simp
  rw [after0_6]
  frame_out
  obtain ⟨r, j, rfl⟩ : ∃ (r : Fin 32) (j : Fin 1024), y = ix2 r j := ⟨y 0, y 1, eq_ix2 y⟩
  rw [block_row]
  have hj : (((View.whole main_v5).slice (win0_6.rect t)).emb (ix2 r j)) 1 = j := by
    apply Fin.ext
    blk_simp [idx t]
  have h0 : ∀ k, iblk m c 0 t (ix2 r k) = m ((c.tc : Thread nD τ).loc main_arg0)
      (ix2 ((((View.whole main_v5).slice (win0_6.rect t)).emb (ix2 r j)) 0) k) := fun k => by
    blk_ext [iblk, V, idx t]
  have h1 : ∀ k, iblk m c 1 t (ix2 0 k) = m ((c.tc : Thread nD τ).loc main_arg1) (ix1 k) := fun k => by
    blk_ext! [iblk, V, idx t]
  have h2 : ∀ k l, iblk m c 2 t (ix2 k l) = m ((c.tc : Thread nD τ).loc main_arg2) (ix2 k l) := fun k l => by
    blk_ext! [iblk, V, idx t]
  have h3 : ∀ k l, iblk m c 3 t (ix2 k l) = m ((c.tc : Thread nD τ).loc main_arg3) (ix2 k l) := fun k l => by
    blk_ext! [iblk, V, idx t]
  have h4 : ∀ k l, iblk m c 4 t (ix2 k l) = m ((c.tc : Thread nD τ).loc main_arg4) (ix2 k l) := fun k l => by
    blk_ext! [iblk, V, idx t]
  have h5 : ∀ k, iblk m c 5 t (ix2 0 k) = m ((c.tc : Thread nD τ).loc main_arg5) (ix1 k) := fun k => by
    blk_ext! [iblk, V, idx t]
  unfold result
  simp only [h0, h1, h2, h3, h4, h5, hj]

end Kernel

section Reference
open Cert.Reference5Ideal Cert.Reference5Ideal.Value

/-- The reference's result as the same row functions of its own arguments. -/
theorem reference_array (m : (ℓ : Loc nD τ sig) → Buf (Elt Ideal) ℓ) (c : Dev nD) (i : Fin 32) (j : Fin 1024) :
    res_out0 m c (ix2 i j) = rmsRow (ffnRow (fun k => m ((c.tc : Thread nD τ).loc main_arg0) (ix2 i k))
      (fun k => m ((c.tc : Thread nD τ).loc main_arg1) (ix1 k))
      (fun k l => m ((c.tc : Thread nD τ).loc main_arg2) (ix2 k l))
      (fun k l => m ((c.tc : Thread nD τ).loc main_arg3) (ix2 k l))
      (fun k l => m ((c.tc : Thread nD τ).loc main_arg4) (ix2 k l)))
    (fun k => m ((c.tc : Thread nD τ).loc main_arg5) (ix1 k)) j := by
  unfold res_out0 res_main_v31
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  pointwise [rmsRow, ffnRow, gatedRow, meanSq, vecMat, Ideal.logistic]

end Reference

/-- The last feed-forward call of the sample group computes the reference. -/
theorem algebraic : algebraic_Kernel5Ideal_Reference5Ideal := by
  intro m g m' g' _ hag
  refine ⟨fun c => result m c, ?_, ?_⟩
  · refine (θ_run _ _ _).mono (fun r h c => ?_) (Kernel5Ideal.Value.run_blocks m g)
    have := h c
    rw [result_array] at this
    exact this
  · refine (θ_run _ _ _).mono (fun r h c => ?_) (Reference5Ideal.Value.run m' g')
    refine ⟨(h c).1.trans ?_, (h c).2⟩
    obtain ⟨e0, e1, e2, e3, e4, e5⟩ := hag c
    funext i
    refine (congrArg _ (eq_ix2 i)).trans ((reference_array m' c (i 0) (i 1)).trans ?_)
    simp only [e0, e1, e2, e3, e4, e5]
    rfl

/-- The reference's frame. -/
theorem frame_reference : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

end Cert.FfnSampleValue

end
-- ==== Proof.InprojRows.lean ====
/-
  The arithmetic of layer 0's projection on one token's row: the columns of the projected row, and the turning of the
  columns of a head by the angles of the token's position. Both programs of the claim are read as these functions.
-/
module

public import proofs.«01_k».proof.Proof.Rows

@[expose] public section

noncomputable section

namespace Cert.InprojRows

open Idealize.ShloMosaic Cert.Rows

/-- The other column of a column's pair: heads have 64 columns, and column `e` of the first half pairs with `e + 32`. -/
def partner {n : ℕ} (j : Fin n) : Fin n :=
  if j.val % 64 < 32 then ⟨min (j.val + 32) (n - 1), by omega⟩ else ⟨j.val - 32, by omega⟩

theorem partner_val {n : ℕ} (j : Fin n) :
    (partner j).val = if j.val % 64 < 32 then min (j.val + 32) (n - 1) else j.val - 32 := by
  unfold partner
  split_ifs <;> rfl

theorem partner_lo {n : ℕ} (j : Fin n) (h : j.val % 64 < 32) (hn : n % 64 = 0) : (partner j).val = j.val + 32 := by
  have := j.isLt
  unfold partner
  rw [if_pos h]
  show min (j.val + 32) (n - 1) = _
  omega

theorem partner_hi {n : ℕ} (j : Fin n) (h : ¬ j.val % 64 < 32) : (partner j).val = j.val - 32 := by
  unfold partner
  rw [if_neg h]

/-- Pairs lie within a head, so cutting whole heads out keeps them. -/
theorem partner_add {n N : ℕ} (off : ℕ) (h64 : off % 64 = 0) (hn : n % 64 = 0) (h : off + n ≤ N) (f : Fin n) :
    partner (⟨off + f.val, by omega⟩ : Fin N) = ⟨off + (partner f).val, by omega⟩ := by
  have hf := f.isLt
  apply Fin.ext
  show (partner (⟨off + f.val, by omega⟩ : Fin N)).val = off + (partner f).val
  rw [partner_val, partner_val]
  show (if (off + f.val) % 64 < 32 then min (off + f.val + 32) (N - 1) else off + f.val - 32) = _
  split_ifs <;> omega

/-- Which of the 32 angles a column is turned by. -/
def angleOf {n : ℕ} (j : Fin n) : Fin 32 := ⟨j.val % 32, by omega⟩

/-- The angle number `i` at position `p`: the position times a power of 10000. -/
def angle (p : ℕ) (i : Fin 32) : EReal :=
  FloatOps.sitofp (F := Ideal) .f32 (BitVec.ofNat 32 p) * Ideal.pow (Ideal.ofBits .f32 0x461C4000#32)
    (Ideal.div (-(FloatOps.sitofp (F := Ideal) .f32 (BitVec.ofNat 32 i.val) : EReal)) (Ideal.ofBits .f32 0x42000000#32))

def cosAt (p : ℕ) (i : Fin 32) : EReal := Ideal.cos (angle p i)

def sinAt (p : ℕ) (i : Fin 32) : EReal := Ideal.sin (angle p i)

/-- A row of columns with each pair turned by its angle. -/
def turn (p : ℕ) (v : Fin 2848 → EReal) (j : Fin 2848) : EReal :=
  if j.val % 64 < 32 then v j * cosAt p (angleOf j) - v (partner j) * sinAt p (angleOf j)
  else v j * cosAt p (angleOf j) + v (partner j) * sinAt p (angleOf j)

/-- The number of token `t` of sequence `b` among all rows. -/
def rowOf (b : Fin 8) (t : Fin 2048) : Fin 16384 := ⟨b.val * 2048 + t.val, by omega⟩

/-- Columns `off ..` of a row, the first 128 of them turned, the others as they are: what is kept of keys and values. -/
def keyValue (p : ℕ) (v : Fin 2848 → EReal) (off : ℕ) (h : off + 256 ≤ 2848) (f : Fin 256) : EReal :=
  if f.val < 128 then turn p v ⟨off + f.val, by omega⟩ else v ⟨off + f.val, by omega⟩

/-- The attention's gates and the recurrent branch's steps, filled up with zeros. -/
def small (v : Fin 2848 → EReal) (f : Fin 128) : EReal :=
  if f.val < 24 then v ⟨1280 + f.val, by omega⟩ else if h : f.val < 32 then v ⟨2816 + f.val, by omega⟩ else 0

/-- A group of whole heads turned by a position's angles. -/
def turnGroup {n : ℕ} (p : ℕ) (v : Fin n → EReal) (j : Fin n) : EReal :=
  if j.val % 64 < 32 then v j * cosAt p (angleOf j) - v (partner j) * sinAt p (angleOf j)
  else v j * cosAt p (angleOf j) + v (partner j) * sinAt p (angleOf j)

theorem lower {n : ℕ} (p : ℕ) (v : Fin n → EReal) (f : Fin n) (h : f.val % 64 < 32) (hn : n % 64 = 0)
    (a : Fin 32) (ha : a.val = f.val % 32) (g : Fin n) (hg : g.val = f.val + 32) :
    v f * cosAt p a - v g * sinAt p a = turnGroup p v f := by
  obtain rfl : a = angleOf f := Fin.ext ha
  obtain rfl : g = partner f := Fin.ext (hg.trans (partner_lo f h hn).symm)
  unfold turnGroup
  rw [if_pos h]

theorem upper {n : ℕ} (p : ℕ) (v : Fin n → EReal) (f : Fin n) (h : ¬ f.val % 64 < 32)
    (a : Fin 32) (ha : a.val = f.val % 32) (e : Fin n) (he : e.val = f.val) (g : Fin n) (hg : g.val = f.val - 32) :
    v e * cosAt p a + v g * sinAt p a = turnGroup p v f := by
  obtain rfl : a = angleOf f := Fin.ext ha
  obtain rfl : e = f := Fin.ext he
  obtain rfl : g = partner e := Fin.ext (hg.trans (partner_hi e h).symm)
  unfold turnGroup
  rw [if_neg h]

/-- Turning a group cut out of a row is turning the row. -/
theorem turnGroup_add {n : ℕ} (off : ℕ) (h64 : off % 64 = 0) (hn : n % 64 = 0) (h : off + n ≤ 2848) (p : ℕ)
    (v : Fin 2848 → EReal) (f : Fin n) :
    turnGroup p (fun f : Fin n => v ⟨off + f.val, by omega⟩) f = turn p v ⟨off + f.val, by omega⟩ := by
  have hp := partner_add off (N := 2848) h64 hn h f
  have ha : angleOf (⟨off + f.val, by omega⟩ : Fin 2848) = angleOf f := Fin.ext (by simp [angleOf]; omega)
  have hm : (off + f.val) % 64 = f.val % 64 := by omega
  unfold turnGroup turn
  rw [hp, ha]
  simp only [hm]

/-! ## The columns of the wide weights -/

/-- The column of the weights that a column of the wide weights is. -/
def source (j : Fin 2816) : Fin 2848 := if j.val < 1280 then ⟨j.val, by omega⟩ else ⟨j.val + 24, by omega⟩

theorem source_lo (j : Fin 2816) (h : j.val < 1280) : source j = ⟨j.val, by omega⟩ := if_pos h

theorem source_hi (j : Fin 2816) (h : 1280 ≤ j.val) : source j = ⟨j.val + 24, by omega⟩ := if_neg (by omega)

/-- The place of a column in its group of 128. -/
def lane (j : Fin 2816) : Fin 128 := ⟨j.val % 128, by omega⟩

/-- Turning by the tables' entries, the sine signed by the half of the head, is turning by the angles. -/
theorem turn_by_tables (p : ℕ) (v : Fin 2848 → EReal) (j : Fin 2816) (hj : j.val < 1280) :
    v (source j) * cosAt p (angleOf (lane j))
      + v (source (partner j)) * (if (lane j).val % 64 < 32 then -sinAt p (angleOf (lane j)) else sinAt p (angleOf (lane j)))
      = turn p v ⟨j.val, by omega⟩ := by
  have ep : source (partner j) = partner (⟨j.val, by omega⟩ : Fin 2848) := by
    have h1 := partner_val j
    have h2 := partner_val (⟨j.val, by omega⟩ : Fin 2848)
    apply Fin.ext
    rw [h2]
    unfold source
    rw [if_pos (by rw [h1]; split_ifs <;> omega)]
    show (partner j).val = _
    rw [h1]
    show _ = if j.val % 64 < 32 then min (j.val + 32) (2848 - 1) else j.val - 32
    split_ifs <;> omega
  have ea : angleOf (lane j) = angleOf (⟨j.val, by omega⟩ : Fin 2848) :=
    Fin.ext (by show j.val % 128 % 32 = j.val % 32; omega)
  have em : (lane j).val % 64 = j.val % 64 := by show j.val % 128 % 64 = _; omega
  unfold turn
  rw [source_lo j hj, ep, ea, em]
  show _ = if j.val % 64 < 32 then _ else _
  by_cases h : j.val % 64 < 32
  · rw [if_pos h, if_pos h, mul_neg, sub_eq_add_neg]
  · rw [if_neg h, if_neg h]

/-- The product with the filled up gates' and steps' columns. -/
theorem small_product (u : Fin 1024 → EReal) (w : Fin 1024 → Fin 2848 → EReal) (f : Fin 128) :
    vecMat u (fun k l => small (w k) l) f = small (vecMat u w) f := by
  unfold small vecMat
  by_cases h24 : f.val < 24
  · simp only [if_pos h24]
  · by_cases h32 : f.val < 32
    · simp only [if_neg h24, dif_pos h32]
    · simp only [if_neg h24, dif_neg h32, mul_zero, Finset.sum_const_zero]

end Cert.InprojRows

end
-- ==== Proof.InprojBlock.lean ====
/-
  What one grid point of layer 0's projection writes, in terms of the blocks it reads: the columns of each of its 512
  rows, plain or turned.
-/
module

public import proofs.«01_k».proof.Proof.InprojRows
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.InprojBlock

open Idealize.ShloMosaic Idealize.ShloMosaic.TcCoe
open Cert.Kernel6Ideal Cert.Kernel6Ideal.Gen Cert.Rows Cert.InprojRows

/-- The kernel's normed rows. -/
theorem normed (x0 : Vec Ideal S512x1024 .f32) (x1 : Vec Ideal S1x1024 .f32) (r : Fin 512) (k : Fin 1024) :
    k0_pay5 x0 x1 (ix2 r k) = rmsRow (fun k => x0 (ix2 r k)) (fun k => x1 (ix2 0 k)) k := by
  pointwise [k0_pay5, rmsRow, meanSq]

theorem dot512 (v : FVec Ideal S512x1024 .bf16) (w : Vec Ideal S1024x512 .bf16) (r : Fin 512) (j : Fin 512) :
    k0_pay9 v w (ix2 r j) = vecMat (fun k => v (ix2 r k)) (fun k l => w (ix2 k l)) j := by
  pointwise [k0_pay9, vecMat]

theorem dot256 (v : FVec Ideal S512x1024 .bf16) (w : Vec Ideal S1024x256 .bf16) (r : Fin 512) (j : Fin 256) :
    k0_pay19 v w (ix2 r j) = vecMat (fun k => v (ix2 r k)) (fun k l => w (ix2 k l)) j := by
  pointwise [k0_pay19, vecMat]

theorem dot1536 (v : FVec Ideal S512x1024 .bf16) (w : Vec Ideal S1024x1536 .bf16) (r : Fin 512) (j : Fin 1536) :
    k0_pay3 v w (ix2 r j) = vecMat (fun k => v (ix2 r k)) (fun k l => w (ix2 k l)) j := by
  pointwise [k0_pay3, vecMat]

theorem dot128 (v : FVec Ideal S512x1024 .bf16) (w : Vec Ideal S1024x128 .bf16) (r : Fin 512) (j : Fin 128) :
    k0_pay4 v w (ix2 r j) = vecMat (fun k => v (ix2 r k)) (fun k l => w (ix2 k l)) j := by
  pointwise [k0_pay4, vecMat]

/-- The lanes of the first halves of the two heads of a group. -/
theorem mask (r : Fin 512) (l : Fin 128) : k0_pay8 (ix2 r l) = if l.val % 64 < 32 then 1#1 else 0#1 := by
  have h : ∀ l : Fin 128, k0_pay8 (ix2 0 l) = if l.val % 64 < 32 then 1#1 else 0#1 := by decide +kernel
  exact h l

/-- A group of 128 columns laid features-first. -/
def upright (u : FVec Ideal S512x128 .f32) : FVec Ideal S1x128x512 .f32 :=
  shapeCast S1x128x512 (transpose S128x512 [1, 0] u transposes_S512x128_p1_0_S128x512) shapeCasts_S128x512_S1x128x512

theorem upright_apply (u : FVec Ideal S512x128 .f32) (f : Fin 128) (r : Fin 512) : upright u (ix3 0 f r) = u (ix2 r f) := by
  pointwise [upright]

/-- A group of 128 columns turned, laid features-first. -/
def turned (c s u : FVec Ideal S512x128 .f32) : FVec Ideal S1x128x512 .f32 :=
  k0_pay1 c s k0_pay8 u (dynamicRotate 1 96#32 none u rotates_S512x128_d1)
    (dynamicRotate 1 32#32 none u rotates_S512x128_d1)

theorem ahead (u : FVec Ideal S512x128 .f32) (r : Fin 512) (l : Fin 128) (h : l.val % 64 < 32) :
    dynamicRotate 1 96#32 none u rotates_S512x128_d1 (ix2 r l) = u (ix2 r (partner l)) := by
  pointwise
  exact congrArg (fun z => u (ix2 r z)) (Fin.ext ((by have := partner_lo l h (by norm_num); show (l.val + 128 - 96) % 128 = _; omega)))

theorem behind (u : FVec Ideal S512x128 .f32) (r : Fin 512) (l : Fin 128) (h : ¬ l.val % 64 < 32) :
    dynamicRotate 1 32#32 none u rotates_S512x128_d1 (ix2 r l) = u (ix2 r (partner l)) := by
  pointwise
  exact congrArg (fun z => u (ix2 r z)) (Fin.ext ((by have := partner_hi l h; show (l.val + 128 - 32) % 128 = _; omega)))

theorem turned_apply (c s u : FVec Ideal S512x128 .f32) (f : Fin 128) (r : Fin 512) :
    turned c s u (ix3 0 f r) = u (ix2 r f) * c (ix2 r f) + u (ix2 r (partner f)) * s (ix2 r f) := by
  unfold turned
  have hm := mask r f
  by_cases h : f.val % 64 < 32
  · rw [if_pos h] at hm
    have ha := ahead u r f h
    generalize dynamicRotate 1 96#32 none u rotates_S512x128_d1 = a at ha ⊢
    generalize dynamicRotate 1 32#32 none u rotates_S512x128_d1 = b
    generalize k0_pay8 = k at hm ⊢
    pointwise [k0_pay1]
    simp only [hm, ha]
    rfl
  · rw [if_neg h] at hm
    have ha := behind u r f h
    generalize dynamicRotate 1 96#32 none u rotates_S512x128_d1 = a
    generalize dynamicRotate 1 32#32 none u rotates_S512x128_d1 = b at ha ⊢
    generalize k0_pay8 = k at hm ⊢
    pointwise [k0_pay1]
    simp only [hm, ha]
    rfl

/-! ## The columns of a point's rows -/

section Point

variable (x0 : Vec Ideal S512x1024 .f32) (x1 : Vec Ideal S1x1024 .f32) (x2 : Vec Ideal S1024x2816 .bf16)
  (x3 : Vec Ideal S1024x128 .bf16) (x4 x5 : Vec Ideal S512x128 .f32)

/-- Column `j` of row `r`. -/
def column (r : Fin 512) (j : Fin 2816) : EReal :=
  vecMat (rmsRow (fun k => x0 (ix2 r k)) (fun k => x1 (ix2 0 k))) (fun k l => x2 (ix2 k l)) j

/-- Column `j` of row `r` turned by the tables' blocks. -/
def turnedColumn (r : Fin 512) (j : Fin 2816) : EReal :=
  column x0 x1 x2 r j * x4 (ix2 r (lane j)) + column x0 x1 x2 r (partner j) * x5 (ix2 r (lane j))

/-- Some columns of the weights, loaded. -/
theorem ld_cols {n : ℕ} (off : ℕ) (inb : ∀ a, (![0, off] : Fin 2 → ℕ) a + (⟨2, ![1024, n]⟩ : Shape).size a ≤ S1024x2816.size a)
    (k : Fin 1024) (l : Fin n) (h : off + l.val < 2816) :
    View.ld x2 (Rect.unit (s := S1024x2816) ![0, off] (⟨2, ![1024, n]⟩ : Shape).size inb) (ix2 k l) = x2 (ix2 k ⟨off + l.val, h⟩) :=
  View.ld_unit_apply_of x2 _ _ _ _ (ix2 k ⟨off + l.val, h⟩) (fun a => by fin_cases a <;> simp [ix2])

/-- The rows the products start from. -/
theorem rows (r : Fin 512) : (fun k => k0_pay30 x0 x1 x2 x3 x4 x5 (ix2 r k)) = rmsRow (fun k => x0 (ix2 r k)) (fun k => x1 (ix2 0 k)) := by
  funext k
  unfold k0_pay30
  rw [View.ld_unit_lit _ _ (by decide), View.ld_unit_lit _ _ (by decide)]
  exact normed x0 x1 r k

theorem cosines (r : Fin 512) (l : Fin 128) : k0_pay31 x0 x1 x2 x3 x4 x5 (ix2 r l) = x4 (ix2 r l) := by
  unfold k0_pay31
  rw [View.ld_unit_lit _ _ (by decide)]
  pointwise [k0_pay6]

theorem sines (r : Fin 512) (l : Fin 128) : k0_pay32 x0 x1 x2 x3 x4 x5 (ix2 r l) = x5 (ix2 r l) := by
  unfold k0_pay32
  rw [View.ld_unit_lit _ _ (by decide)]
  pointwise [k0_pay7]

/-- The product with the first 512 columns. -/
theorem product512 (r : Fin 512) (j : Fin 512) :
    k0_pay34 x0 x1 x2 x3 x4 x5 (ix2 r j) = column x0 x1 x2 r ⟨0 + j.val, by omega⟩ := by
  unfold k0_pay34 column
  rw [dot512, rows]
  exact Finset.sum_congr rfl fun k _ => congrArg (_ * ·) (ld_cols x2 0 _ k j (by omega))

/-- The product with the 256 columns from `off` on. -/
theorem product256 (off : ℕ) (h : off + 256 ≤ 2816)
    (inb : ∀ a, (![0, off] : Fin 2 → ℕ) a + S1024x256.size a ≤ S1024x2816.size a) (r : Fin 512) (j : Fin 256) :
    k0_pay19 (k0_pay30 x0 x1 x2 x3 x4 x5) (View.ld x2 (Rect.unit (s := S1024x2816) ![0, off] S1024x256.size inb)) (ix2 r j)
      = column x0 x1 x2 r ⟨off + j.val, by omega⟩ := by
  unfold column
  rw [dot256, rows]
  exact Finset.sum_congr rfl fun k _ => congrArg (_ * ·) (ld_cols x2 off _ k j (by omega))

/-- A group of columns laid features-first. -/
theorem upright_group (u : FVec Ideal S512x128 .f32) (off : ℕ) (h : off + 128 ≤ 2816)
    (hu : ∀ r (l : Fin 128), u (ix2 r l) = column x0 x1 x2 r ⟨off + l.val, by omega⟩) (f : Fin 128) (r : Fin 512) :
    upright u (ix3 0 f r) = column x0 x1 x2 r ⟨off + f.val, by omega⟩ :=
  (upright_apply u f r).trans (hu r f)

/-- A group of columns turned, laid features-first. -/
theorem turned_group (u : FVec Ideal S512x128 .f32) (off : ℕ) (h128 : off % 128 = 0) (h : off + 128 ≤ 2816)
    (hu : ∀ r (l : Fin 128), u (ix2 r l) = column x0 x1 x2 r ⟨off + l.val, by omega⟩) (f : Fin 128) (r : Fin 512) :
    turned (k0_pay31 x0 x1 x2 x3 x4 x5) (k0_pay32 x0 x1 x2 x3 x4 x5) u (ix3 0 f r)
      = turnedColumn x0 x1 x2 x4 x5 r ⟨off + f.val, by omega⟩ := by
  have hp := partner_add off (N := 2816) (by omega) (by norm_num) h f
  have hl : lane ⟨off + f.val, by omega⟩ = f := Fin.ext (by simp [lane]; omega)
  rw [turned_apply, hu, hu, cosines, sines]
  unfold turnedColumn
  rw [hl, hp]

/-- Columns of a product, cut out. -/
theorem cut512 (off : ℕ) (hs : S512x512.Slices ![0, off] S512x128) (h : off + 128 ≤ 512) (r : Fin 512) (l : Fin 128) :
    extractStridedSlice S512x128 ![0, off] (k0_pay34 x0 x1 x2 x3 x4 x5) hs (ix2 r l)
      = column x0 x1 x2 r ⟨off + l.val, by omega⟩ := by
  have e := product512 x0 x1 x2 x3 x4 x5 r ⟨off + l.val, by omega⟩
  generalize k0_pay34 x0 x1 x2 x3 x4 x5 = p at e ⊢
  refine Eq.trans ?_ (e.trans ?_)
  · pointwise
  · exact congrArg _ (Fin.ext (by simp))

theorem cut256 (p : FVec Ideal S512x256 .f32) (base off : ℕ) (hb : base + 256 ≤ 2816)
    (hp : ∀ r (j : Fin 256), p (ix2 r j) = column x0 x1 x2 r ⟨base + j.val, by omega⟩)
    (hs : S512x256.Slices ![0, off] S512x128) (h : off + 128 ≤ 256) (r : Fin 512) (l : Fin 128) :
    extractStridedSlice S512x128 ![0, off] p hs (ix2 r l) = column x0 x1 x2 r ⟨base + off + l.val, by omega⟩ := by
  refine Eq.trans ?_ ((hp r ⟨off + l.val, by omega⟩).trans ?_)
  · pointwise
  · exact congrArg _ (Fin.ext (by simp; omega))

/-! ## The blocks written -/

theorem first_axis {n : ℕ} (x : (⟨3, ![1, n, 512]⟩ : Shape).Idx) : ∃ (f : Fin n) (r : Fin 512), x = ix3 0 f r :=
  ⟨x 1, x 2, (eq_ix3 x).trans (congrArg (fun z => ix3 z (x 1) (x 2)) (Subsingleton.elim _ _))⟩

/-- A group of the first product laid features-first, at its place among the columns. -/
theorem plain_piece (off : ℕ) (hs : S512x512.Slices ![0, off] S512x128) (h : off + 128 ≤ 512) (f : Fin 128) (r : Fin 512)
    (j : Fin 2816) (hj : j.val = off + f.val) :
    upright (extractStridedSlice S512x128 ![0, off] (k0_pay34 x0 x1 x2 x3 x4 x5) hs) (ix3 0 f r) = column x0 x1 x2 r j :=
  (upright_group x0 x1 x2 _ off (by omega) (fun r l => cut512 x0 x1 x2 x3 x4 x5 off hs h r l) f r).trans
    (congrArg _ (Fin.ext hj.symm))

/-- The same turned. -/
theorem turned_piece (off : ℕ) (hs : S512x512.Slices ![0, off] S512x128) (h128 : off % 128 = 0) (h : off + 128 ≤ 512)
    (f : Fin 128) (r : Fin 512) (j : Fin 2816) (hj : j.val = off + f.val) :
    turned (k0_pay31 x0 x1 x2 x3 x4 x5) (k0_pay32 x0 x1 x2 x3 x4 x5)
      (extractStridedSlice S512x128 ![0, off] (k0_pay34 x0 x1 x2 x3 x4 x5) hs) (ix3 0 f r) = turnedColumn x0 x1 x2 x4 x5 r j :=
  (turned_group x0 x1 x2 x3 x4 x5 _ off h128 (by omega) (fun r l => cut512 x0 x1 x2 x3 x4 x5 off hs h r l) f r).trans
    (congrArg _ (Fin.ext hj.symm))

/-- A product with 256 columns from `base` on. -/
def product (base : ℕ) (inb : ∀ a, (![0, base] : Fin 2 → ℕ) a + S1024x256.size a ≤ S1024x2816.size a) : FVec Ideal S512x256 .f32 :=
  k0_pay19 (k0_pay30 x0 x1 x2 x3 x4 x5) (View.ld x2 (Rect.unit (s := S1024x2816) ![0, base] S1024x256.size inb))

theorem plain_half (base off : ℕ) (inb : ∀ a, (![0, base] : Fin 2 → ℕ) a + S1024x256.size a ≤ S1024x2816.size a)
    (hb : base + 256 ≤ 2816) (hs : S512x256.Slices ![0, off] S512x128) (h : off + 128 ≤ 256) (f : Fin 128) (r : Fin 512)
    (j : Fin 2816) (hj : j.val = base + off + f.val) :
    upright (extractStridedSlice S512x128 ![0, off] (product x0 x1 x2 x3 x4 x5 base inb) hs) (ix3 0 f r) = column x0 x1 x2 r j :=
  (upright_group x0 x1 x2 _ (base + off) (by omega) (fun r l => cut256 x0 x1 x2 _ base off hb
    (product256 x0 x1 x2 x3 x4 x5 base hb inb) hs h r l) f r).trans (congrArg _ (Fin.ext hj.symm))

theorem turned_half (base off : ℕ) (inb : ∀ a, (![0, base] : Fin 2 → ℕ) a + S1024x256.size a ≤ S1024x2816.size a)
    (hb : base + 256 ≤ 2816) (h128 : (base + off) % 128 = 0) (hs : S512x256.Slices ![0, off] S512x128) (h : off + 128 ≤ 256)
    (f : Fin 128) (r : Fin 512) (j : Fin 2816) (hj : j.val = base + off + f.val) :
    turned (k0_pay31 x0 x1 x2 x3 x4 x5) (k0_pay32 x0 x1 x2 x3 x4 x5)
      (extractStridedSlice S512x128 ![0, off] (product x0 x1 x2 x3 x4 x5 base inb) hs) (ix3 0 f r)
      = turnedColumn x0 x1 x2 x4 x5 r j :=
  (turned_group x0 x1 x2 x3 x4 x5 _ (base + off) h128 (by omega) (fun r l => cut256 x0 x1 x2 _ base off hb
    (product256 x0 x1 x2 x3 x4 x5 base hb inb) hs h r l) f r).trans (congrArg _ (Fin.ext hj.symm))

/-- The queries' block. -/
theorem queries (f r : Fin 512) :
    out0_6 x0 x1 x2 x3 x4 x5 (ix3 0 f r) = column x0 x1 x2 r ⟨0 + f.val, by omega⟩ := by
  canon_tiles x h
  all_goals
    obtain ⟨g, s, rfl⟩ := first_axis x
    obtain rfl : r = s := Fin.ext h2
  · exact plain_piece x0 x1 x2 x3 x4 x5 384 slices_S512x512_o0_384_S512x128 (by norm_num) g r _ ((Nat.zero_add _).trans h1)
  · exact plain_piece x0 x1 x2 x3 x4 x5 256 slices_S512x512_o0_256_S512x128 (by norm_num) g r _ ((Nat.zero_add _).trans h1)
  · exact plain_piece x0 x1 x2 x3 x4 x5 128 slices_S512x512_o0_128_S512x128 (by norm_num) g r _ ((Nat.zero_add _).trans h1)
  · exact plain_piece x0 x1 x2 x3 x4 x5 0 slices_S512x512_o0_0_S512x128 (by norm_num) g r _ (congrArg (0 + ·) h1)

/-- The turned queries' block. -/
theorem turnedQueries (f r : Fin 512) :
    out0_7 x0 x1 x2 x3 x4 x5 (ix3 0 f r) = turnedColumn x0 x1 x2 x4 x5 r ⟨0 + f.val, by omega⟩ := by
  canon_tiles x h
  all_goals
    obtain ⟨g, s, rfl⟩ := first_axis x
    obtain rfl : r = s := Fin.ext h2
  · exact turned_piece x0 x1 x2 x3 x4 x5 384 slices_S512x512_o0_384_S512x128 (by norm_num) (by norm_num) g r _ ((Nat.zero_add _).trans h1)
  · exact turned_piece x0 x1 x2 x3 x4 x5 256 slices_S512x512_o0_256_S512x128 (by norm_num) (by norm_num) g r _ ((Nat.zero_add _).trans h1)
  · exact turned_piece x0 x1 x2 x3 x4 x5 128 slices_S512x512_o0_128_S512x128 (by norm_num) (by norm_num) g r _ ((Nat.zero_add _).trans h1)
  · exact turned_piece x0 x1 x2 x3 x4 x5 0 slices_S512x512_o0_0_S512x128 (by norm_num) (by norm_num) g r _ (congrArg (0 + ·) h1)

/-- The compression branch's columns, a token a row. -/
theorem keysPlain (r : Fin 512) (f : Fin 256) :
    out0_8 x0 x1 x2 x3 x4 x5 (ix2 r f) = column x0 x1 x2 r ⟨512 + f.val, by omega⟩ := by
  unfold out0_8
  frame_out
  exact product256 x0 x1 x2 x3 x4 x5 512 (by norm_num) _ r f

/-- The selection branch's block: the keys' half turned, the values' half plain. -/
theorem keysKept (f : Fin 256) (r : Fin 512) :
    out0_9 x0 x1 x2 x3 x4 x5 (ix3 0 f r) = if f.val < 128 then turnedColumn x0 x1 x2 x4 x5 r ⟨768 + f.val, by omega⟩
      else column x0 x1 x2 r ⟨768 + f.val, by omega⟩ := by
  canon_tiles x h
  all_goals
    obtain ⟨g, s, rfl⟩ := first_axis x
    obtain rfl : r = s := Fin.ext h2
    have hg := g.isLt
  · rw [if_neg (by have : f.val = 128 + g.val := h1; omega)]
    exact plain_half x0 x1 x2 x3 x4 x5 768 128 _ (by norm_num) slices_S512x256_o0_128_S512x128 (by norm_num) g r _
      ((congrArg (768 + ·) h1).trans (Nat.add_assoc _ _ _).symm)
  · rw [if_pos (by have : f.val = g.val := h1; omega)]
    exact turned_half x0 x1 x2 x3 x4 x5 768 0 _ (by norm_num) (by norm_num) slices_S512x256_o0_0_S512x128 (by norm_num) g r _
      (congrArg (768 + ·) h1)

/-- The window branch's block, likewise. -/
theorem valuesKept (f : Fin 256) (r : Fin 512) :
    out0_10 x0 x1 x2 x3 x4 x5 (ix3 0 f r) = if f.val < 128 then turnedColumn x0 x1 x2 x4 x5 r ⟨1024 + f.val, by omega⟩
      else column x0 x1 x2 r ⟨1024 + f.val, by omega⟩ := by
  canon_tiles x h
  all_goals
    obtain ⟨g, s, rfl⟩ := first_axis x
    obtain rfl : r = s := Fin.ext h2
    have hg := g.isLt
  · rw [if_neg (by have : f.val = 128 + g.val := h1; omega)]
    exact plain_half x0 x1 x2 x3 x4 x5 1024 128 _ (by norm_num) slices_S512x256_o0_128_S512x128 (by norm_num) g r _
      ((congrArg (1024 + ·) h1).trans (Nat.add_assoc _ _ _).symm)
  · rw [if_pos (by have : f.val = g.val := h1; omega)]
    exact turned_half x0 x1 x2 x3 x4 x5 1024 0 _ (by norm_num) (by norm_num) slices_S512x256_o0_0_S512x128 (by norm_num) g r _
      (congrArg (1024 + ·) h1)

/-- The recurrent branch's columns. -/
theorem recurrent (r : Fin 512) (f : Fin 1536) :
    out0_11 x0 x1 x2 x3 x4 x5 (ix2 r f) = column x0 x1 x2 r ⟨1280 + f.val, by omega⟩ := by
  unfold out0_11
  frame_out
  unfold column
  rw [dot1536, rows]
  exact Finset.sum_congr rfl fun k _ => congrArg (_ * ·) (ld_cols x2 1280 _ k f (by omega))

/-- The gates' and the steps' columns. -/
theorem smallKept (r : Fin 512) (f : Fin 128) :
    out0_12 x0 x1 x2 x3 x4 x5 (ix2 r f)
      = vecMat (rmsRow (fun k => x0 (ix2 r k)) (fun k => x1 (ix2 0 k))) (fun k l => x3 (ix2 k l)) f := by
  unfold out0_12
  frame_out
  rw [dot128, rows]

/-- The compression branch's columns, features-first. -/
theorem keysFirst (f : Fin 256) (r : Fin 512) :
    out0_13 x0 x1 x2 x3 x4 x5 (ix3 0 f r) = column x0 x1 x2 r ⟨512 + f.val, by omega⟩ := by
  canon_tiles x h
  all_goals
    obtain ⟨g, s, rfl⟩ := first_axis x
    obtain rfl : r = s := Fin.ext h2
  · exact plain_half x0 x1 x2 x3 x4 x5 512 128 _ (by norm_num) slices_S512x256_o0_128_S512x128 (by norm_num) g r _
      ((congrArg (512 + ·) h1).trans (Nat.add_assoc _ _ _).symm)
  · exact plain_half x0 x1 x2 x3 x4 x5 512 0 _ (by norm_num) slices_S512x256_o0_0_S512x128 (by norm_num) g r _
      (congrArg (512 + ·) h1)

end Point

end Cert.InprojBlock

end
-- ==== Proof.InprojHost.lean ====
/-
  The arrays that the host computes for layer 0's projection before the region: the weights with the few gate and step
  columns taken out, those columns filled up with zeros, and the tables of cosines and signed sines.
-/
module

public import proofs.«01_k».proof.Proof.InprojRows
public import proofs.«01_k».proof.Proof.Gen.Kernel6Ideal.Frame
public import Idealize.ShloMosaic.Lib.Pointwise
public import Idealize.ShloMosaic.Lib.Pipeline.ValueKit

@[expose] public section

set_option maxRecDepth 16384

noncomputable section

namespace Cert.InprojHost

open Idealize.ShloMosaic Idealize.ShloMosaic.TcCoe Idealize.SL.Sem
open Cert.Kernel6Ideal Cert.Kernel6Ideal.Gen Cert.Rows Cert.InprojRows

/-- The wide weights: the columns before the gates', then those after. -/
def wide (w : FVec Ideal S1024x2848 .f32) : FVec Ideal S1024x2816 .bf16 :=
  truncf .bf16 (concatenate S1024x2816 1
    [⟨S1024x1280, extractStridedSlice S1024x1280 ![0, 0] w slices_S1024x2848_S1024x1280_0_0⟩,
      ⟨S1024x1536, extractStridedSlice S1024x1536 ![0, 0]
        (extractStridedSlice S1024x1544 ![0, 1304] w slices_S1024x2848_S1024x1544_0_1304) slices_S1024x1544_S1024x1536_0_0⟩]
    concatenates_S1024x1280_S1024x1536_S1024x2816_d1) bitsLt_bf16_f32

/-- The gates' and the steps' columns. -/
def narrow (w : FVec Ideal S1024x2848 .f32) : FVec Ideal S1024x32 .f32 :=
  concatenate S1024x32 1
    [⟨S1024x24, extractStridedSlice S1024x24 ![0, 1280] w slices_S1024x2848_S1024x24_0_1280⟩,
      ⟨S1024x8, extractStridedSlice S1024x8 ![0, 1536]
        (extractStridedSlice S1024x1544 ![0, 1304] w slices_S1024x2848_S1024x1544_0_1304) slices_S1024x1544_S1024x8_0_1536⟩]
    concatenates_S1024x24_S1024x8_S1024x32_d1

/-- The same filled up to 128 columns. -/
def filled (w : FVec Ideal S1024x2848 .f32) : FVec Ideal S1024x128 .bf16 :=
  truncf .bf16 (pad S1024x128 ![0, 0] ![0, 96] ![0, 0] (narrow w) (sitofp (F := Ideal) .f32 (constantI S_ 32 0#32))
    pads_S1024x32_S1024x128_000_0960 h_S_) bitsLt_bf16_f32

/-- The angles of all positions. -/
def angles : FVec Ideal S2048x32 .f32 :=
  mulf (broadcastInDim S2048x32 ![0, 1] bcast_S2048x1_S2048x32_0_1
      (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0)))
          (broadcastInDim S32 ![] bcast_S_S32 (constant S_ .f32 0x42000000#32))))))

/-- A table laid over the columns of two heads: `a` over the first half of each, `b` over the second. -/
def table (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

theorem wide_apply (w : FVec Ideal S1024x2848 .f32) (k : Fin 1024) (j : Fin 2816) : wide w (ix2 k j) = w (ix2 k (source j)) := by
  unfold source
  pointwise [wide]
  by_cases hj : j.val < 1280
  · rw [dif_pos hj, if_pos hj]
  · rw [dif_neg hj, if_neg hj]
    exact congrArg (fun z => w (ix2 k z)) (Fin.ext (by simp; omega))

theorem narrow_apply (w : FVec Ideal S1024x2848 .f32) (k : Fin 1024) (j : Fin 32) :
    narrow w (ix2 k j) = if j.val < 24 then w (ix2 k ⟨1280 + j.val, by omega⟩) else w (ix2 k ⟨2816 + j.val, by omega⟩) := by
  pointwise [narrow]
  by_cases hj : j.val < 24
  · rw [dif_pos hj, if_pos hj]
  · rw [dif_neg hj, if_neg hj]
    exact congrArg (fun z => w (ix2 k z)) (Fin.ext (by simp; omega))

theorem filled_apply (w : FVec Ideal S1024x2848 .f32) (k : Fin 1024) (j : Fin 128) :
    filled w (ix2 k j) = small (fun j => w (ix2 k j)) j := by
  have h := narrow_apply w k
  unfold filled
  generalize narrow w = n at h ⊢
  pointwise [small]
  simp only [h]
  by_cases h24 : j.val < 24
  · rw [dif_pos (by omega), if_pos h24, if_pos h24]
  · rw [if_neg h24]
    split_ifs
    · rfl
    · simp [FloatOps.sitofp]

theorem angles_apply (t : Fin 2048) (i : Fin 32) : angles (ix2 t i) = angle t i := by
  pointwise [angles, angle]

theorem table_apply (a b : FVec Ideal S2048x32 .f32) (t : Fin 2048) (l : Fin 128) :
    table a b (ix2 t l) = if l.val % 64 < 32 then a (ix2 t (angleOf l)) else b (ix2 t (angleOf l)) := by
  unfold angleOf
  pointwise [table]
  by_cases hl : l.val % 64 < 32
  · rw [dif_pos hl, if_pos hl]
    exact congrArg (fun z => a (ix2 t z)) (Fin.ext (by simp; omega))
  · rw [dif_neg hl, if_neg hl]
    exact congrArg (fun z => b (ix2 t z)) (Fin.ext (by simp; omega))

variable (m : (ℓ : Loc nD τ sig) → Buf (Elt Ideal) ℓ) (c : Dev nD)

theorem wide_array : V m c main_v6 = wide (m ((c.tc : Thread nD τ).loc main_arg2)) := by
  unfold V
  simp only [hostOps0, hostOps0_1, hostOps0_2, List.flatten_cons, List.flatten_nil, List.append_nil, List.cons_append, List.nil_append]
  after_results_simp
  rfl

theorem filled_array : V m c main_v9 = filled (m ((c.tc : Thread nD τ).loc main_arg2)) := by
  unfold V
  simp only [hostOps0, hostOps0_1, hostOps0_2, List.flatten_cons, List.flatten_nil, List.append_nil, List.cons_append, List.nil_append]
  after_results_simp
  rfl

theorem cosine_table : V m c main_v28 = table (Host.cos angles) (Host.cos angles) := by
  unfold V
  simp only [hostOps0, hostOps0_1, hostOps0_2, List.flatten_cons, List.flatten_nil, List.append_nil, List.cons_append, List.nil_append]
  after_results_simp
  rfl

theorem sine_table : V m c main_v33 = table (Host.negf (Host.sin angles)) (Host.sin angles) := by
  unfold V
  simp only [hostOps0, hostOps0_1, hostOps0_2, List.flatten_cons, List.flatten_nil, List.append_nil, List.cons_append, List.nil_append]
  after_results_simp
  rfl

theorem norm_array (k : Fin 1024) :
    V m c main_v34 (ix2 0 k) = m ((c.tc : Thread nD τ).loc main_arg1) (ix1 k) := by
  have h : V m c main_v34 = shapeCast S1x1024 (m ((c.tc : Thread nD τ).loc main_arg1)) shapeCasts_S1024_S1x1024 := by
    unfold V
    simp only [hostOps0, hostOps0_1, hostOps0_2, List.flatten_cons, List.flatten_nil, List.append_nil, List.cons_append, List.nil_append]
    after_results_simp
    rfl
  rw [h]
  generalize m ((c.tc : Thread nD τ).loc main_arg1) = x
  show shapeCast S1x1024 x shapeCasts_S1024_S1x1024 (ix2 0 k) = x (ix1 k)
  pointwise

end Cert.InprojHost

end
-- ==== Proof.InprojKernel.lean ====
/-
  The arrays that the kernel of layer 0's projection leaves: every entry a column of a projected row, plain or turned by the
  angles of the row's position.
-/
module

public import proofs.«01_k».proof.Proof.InprojBlock
public import proofs.«01_k».proof.Proof.InprojHost

@[expose] public section

set_option maxRecDepth 16384

noncomputable section

namespace Cert.InprojKernel

open Idealize.ShloMosaic Idealize.ShloMosaic.TcCoe Idealize.SL.Sem
open Idealize.ShloMosaic.Pipeline (Dat)
open Cert.Kernel6Ideal Cert.Kernel6Ideal.Gen Cert.Rows Cert.InprojRows Cert.InprojHost

variable (m : (ℓ : Loc nD τ sig) → Buf (Elt Ideal) ℓ) (c : Dev nD)

/-- A projected row of the argument arrays. -/
def row (i : Fin 16384) (j : Fin 2848) : EReal :=
  vecMat (rmsRow (fun k => m ((c.tc : Thread nD τ).loc main_arg0) (ix2 i k))
    (fun k => m ((c.tc : Thread nD τ).loc main_arg1) (ix1 k))) (fun k l => m ((c.tc : Thread nD τ).loc main_arg2) (ix2 k l)) j

/-- Where the windows' blocks lie. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = t.val % 4 ∧ win0_4.index t 1 = 0)
    ∧ (win0_5.index t 0 = t.val % 4 ∧ win0_5.index t 1 = 0)
    ∧ (win0_6.index t 0 = t.val / 4 ∧ win0_6.index t 1 = 0 ∧ win0_6.index t 2 = t.val % 4)
    ∧ (win0_7.index t 0 = t.val / 4 ∧ win0_7.index t 1 = 0 ∧ win0_7.index t 2 = t.val % 4)
    ∧ (win0_8.index t 0 = t.val ∧ win0_8.index t 1 = 0)
    ∧ (win0_9.index t 0 = t.val / 4 ∧ win0_9.index t 1 = 0 ∧ win0_9.index t 2 = t.val % 4)
    ∧ (win0_10.index t 0 = t.val / 4 ∧ win0_10.index t 1 = 0 ∧ win0_10.index t 2 = t.val % 4)
    ∧ (win0_11.index t 0 = t.val ∧ win0_11.index t 1 = 0) ∧ (win0_12.index t 0 = t.val ∧ win0_12.index t 1 = 0)
    ∧ (win0_13.index t 0 = t.val / 4 ∧ win0_13.index t 1 = 0 ∧ win0_13.index t 2 = t.val % 4) := by
  decide +kernel

/-- The sequence, the position and the row of a point's row `r`. -/
def seqOf (t : Fin grid0.N) : Fin 8 := ⟨t.val / 4, Nat.div_lt_of_lt_mul t.isLt⟩

def posOf (t : Fin grid0.N) (r : Fin 512) : Fin 2048 := ⟨t.val % 4 * 512 + r.val, by omega⟩

def rowNo (t : Fin grid0.N) (r : Fin 512) : Fin 16384 := rowOf (seqOf t) (posOf t r)

theorem rowNo_val (t : Fin grid0.N) (r : Fin 512) : (rowNo t r).val = t.val * 512 + r.val := by
  show t.val / 4 * 2048 + (t.val % 4 * 512 + r.val) = _
  omega

/-! ## The blocks read -/

theorem x_block (t : Fin grid0.N) (r : Fin 512) (k : Fin 1024) :
    iblk m c 0 t (ix2 r k) = m ((c.tc : Thread nD τ).loc main_arg0) (ix2 (rowNo t r) k) := by
  have h := rowNo_val t r
  blk_ext [iblk, V, idx t, h]

theorem norm_block (t : Fin grid0.N) (k : Fin 1024) :
    iblk m c 1 t (ix2 0 k) = m ((c.tc : Thread nD τ).loc main_arg1) (ix1 k) := by
  have h : iblk m c 1 t (ix2 0 k) = V m c main_v34 (ix2 0 k) := by
    blk_ext [iblk, idx t]
  rw [h, norm_array]

theorem wide_block (t : Fin grid0.N) (k : Fin 1024) (l : Fin 2816) :
    iblk m c 2 t (ix2 k l) = m ((c.tc : Thread nD τ).loc main_arg2) (ix2 k (source l)) := by
  have h : iblk m c 2 t (ix2 k l) = V m c main_v6 (ix2 k l) := by
    blk_ext [iblk, idx t]
  rw [h, wide_array]
  exact wide_apply _ k l

theorem filled_block (t : Fin grid0.N) (k : Fin 1024) (l : Fin 128) :
    iblk m c 3 t (ix2 k l) = small (fun j => m ((c.tc : Thread nD τ).loc main_arg2) (ix2 k j)) l := by
  have h : iblk m c 3 t (ix2 k l) = V m c main_v9 (ix2 k l) := by
    blk_ext [iblk, idx t]
  rw [h, filled_array]
  exact filled_apply _ k l

theorem cos_block (t : Fin grid0.N) (r : Fin 512) (l : Fin 128) :
    iblk m c 4 t (ix2 r l) = cosAt (posOf t r) (angleOf l) := by
  have h : iblk m c 4 t (ix2 r l) = V m c main_v28 (ix2 (posOf t r) l) := by
    blk_ext [iblk, idx t, posOf]
  rw [h, cosine_table, table_apply, ite_self]
  exact congrArg Ideal.cos (angles_apply _ _)

theorem sin_block (t : Fin grid0.N) (r : Fin 512) (l : Fin 128) :
    iblk m c 5 t (ix2 r l) = if l.val % 64 < 32 then -sinAt (posOf t r) (angleOf l) else sinAt (posOf t r) (angleOf l) := by
  have h : iblk m c 5 t (ix2 r l) = V m c main_v33 (ix2 (posOf t r) l) := by
    blk_ext [iblk, idx t, posOf]
  rw [h, sine_table, table_apply]
  have e := congrArg Ideal.sin (angles_apply (posOf t r) (angleOf l))
  exact if_congr Iff.rfl (congrArg (fun z : EReal => -z) e) e

/-! ## The columns -/

theorem column_eq (t : Fin grid0.N) (r : Fin 512) (j : Fin 2816) :
    InprojBlock.column (iblk m c 0 t) (iblk m c 1 t) (iblk m c 2 t) r j = row m c (rowNo t r) (source j) := by
  unfold InprojBlock.column row
  simp only [x_block, norm_block, wide_block]
  rfl

/-- Turning by the tables is turning by the angles. -/
theorem turned_eq (t : Fin grid0.N) (r : Fin 512) (j : Fin 2816) (hj : j.val < 1280) :
    InprojBlock.turnedColumn (iblk m c 0 t) (iblk m c 1 t) (iblk m c 2 t) (iblk m c 4 t) (iblk m c 5 t) r j
      = turn (posOf t r) (row m c (rowNo t r)) ⟨j.val, by omega⟩ := by
  unfold InprojBlock.turnedColumn
  rw [column_eq, column_eq, cos_block, sin_block]
  exact turn_by_tables _ _ j hj

theorem small_eq (t : Fin grid0.N) (r : Fin 512) (f : Fin 128) :
    vecMat (rmsRow (fun k => iblk m c 0 t (ix2 r k)) (fun k => iblk m c 1 t (ix2 0 k))) (fun k l => iblk m c 3 t (ix2 k l)) f
      = small (row m c (rowNo t r)) f := by
  simp only [x_block, norm_block, filled_block]
  exact small_product _ _ f

/-! ## The arrays -/

/-- The entries of the results: by sequence, feature and position, or by row and feature. -/
def queriesAt (b : Fin 8) (f : Fin 512) (t : Fin 2048) : EReal := row m c (rowOf b t) ⟨0 + f.val, by omega⟩

def turnedAt (b : Fin 8) (f : Fin 512) (t : Fin 2048) : EReal := turn t (row m c (rowOf b t)) ⟨0 + f.val, by omega⟩

def plainAt (i : Fin 16384) (f : Fin 256) : EReal := row m c i ⟨512 + f.val, by omega⟩

def keysAt (b : Fin 8) (f : Fin 256) (t : Fin 2048) : EReal := keyValue t (row m c (rowOf b t)) 768 (by norm_num) f

def valuesAt (b : Fin 8) (f : Fin 256) (t : Fin 2048) : EReal := keyValue t (row m c (rowOf b t)) 1024 (by norm_num) f

def recurrentAt (i : Fin 16384) (f : Fin 1536) : EReal := row m c i ⟨1304 + f.val, by omega⟩

def smallAt (i : Fin 16384) (f : Fin 128) : EReal := small (row m c i) f

def firstAt (b : Fin 8) (f : Fin 256) (t : Fin 2048) : EReal := row m c (rowOf b t) ⟨512 + f.val, by omega⟩

/-- The halves of a kept block are the halves of what is kept. -/
theorem kept_eq (t : Fin grid0.N) (r : Fin 512) (off : ℕ) (h : off + 256 ≤ 1280) (f : Fin 256) :
    (if f.val < 128 then InprojBlock.turnedColumn (iblk m c 0 t) (iblk m c 1 t) (iblk m c 2 t) (iblk m c 4 t) (iblk m c 5 t) r
        ⟨off + f.val, by omega⟩
      else InprojBlock.column (iblk m c 0 t) (iblk m c 1 t) (iblk m c 2 t) r ⟨off + f.val, by omega⟩)
      = keyValue (posOf t r) (row m c (rowNo t r)) off (by omega) f := by
  unfold keyValue
  rw [turned_eq _ _ _ _ _ (by show off + f.val < 1280; omega), column_eq, source_lo _ (by show off + f.val < 1280; omega)]

theorem queries_array : (dats m 0 c).arrAt 6 cfg0.N = fun i : S8x512x2048.Idx => queriesAt m c (i 0) (i 1) (i 2) := by
  refine (dats m 0 c).arrAt_eq_of_covers 6 _ (by decide +kernel) fun t hf y => ?_
  blk_simp
  rw [after0_6]
  obtain ⟨f, r, rfl⟩ := InprojBlock.first_axis y
  rw [InprojBlock.queries, column_eq, source_lo _ (by show 0 + f.val < 1280; omega)]
  have e0 : ((win0_6.blk t).view.emb (ix3 0 f r)) 0 = seqOf t := Fin.ext (by blk_simp [idx t, seqOf]; rfl)
  have e1 : ((win0_6.blk t).view.emb (ix3 0 f r)) 1 = f := Fin.ext (by blk_simp [idx t])
  have e2 : ((win0_6.blk t).view.emb (ix3 0 f r)) 2 = posOf t r := Fin.ext (by blk_simp [idx t, posOf])
  rw [e0, e1, e2]
  rfl

theorem turnedQueries_array : (dats m 0 c).arrAt 7 cfg0.N = fun i : S8x512x2048.Idx => turnedAt m c (i 0) (i 1) (i 2) := by
  refine (dats m 0 c).arrAt_eq_of_covers 7 _ (by decide +kernel) fun t hf y => ?_
  blk_simp
  rw [after0_7]
  obtain ⟨f, r, rfl⟩ := InprojBlock.first_axis y
  rw [InprojBlock.turnedQueries, turned_eq _ _ _ _ _ (by show 0 + f.val < 1280; omega)]
  have e0 : ((win0_7.blk t).view.emb (ix3 0 f r)) 0 = seqOf t := Fin.ext (by blk_simp [idx t, seqOf]; rfl)
  have e1 : ((win0_7.blk t).view.emb (ix3 0 f r)) 1 = f := Fin.ext (by blk_simp [idx t])
  have e2 : ((win0_7.blk t).view.emb (ix3 0 f r)) 2 = posOf t r := Fin.ext (by blk_simp [idx t, posOf])
  rw [e0, e1, e2]
  rfl

theorem keysKept_array : (dats m 0 c).arrAt 9 cfg0.N = fun i : S8x256x2048.Idx => keysAt m c (i 0) (i 1) (i 2) := by
  refine (dats m 0 c).arrAt_eq_of_covers 9 _ (by decide +kernel) fun t hf y => ?_
  blk_simp
  rw [after0_9]
  obtain ⟨f, r, rfl⟩ := InprojBlock.first_axis y
  rw [InprojBlock.keysKept, kept_eq m c t r 768 (by norm_num)]
  have e0 : ((win0_9.blk t).view.emb (ix3 0 f r)) 0 = seqOf t := Fin.ext (by blk_simp [idx t, seqOf]; rfl)
  have e1 : ((win0_9.blk t).view.emb (ix3 0 f r)) 1 = f := Fin.ext (by blk_simp [idx t])
  have e2 : ((win0_9.blk t).view.emb (ix3 0 f r)) 2 = posOf t r := Fin.ext (by blk_simp [idx t, posOf])
  rw [e0, e1, e2]
  rfl

theorem valuesKept_array : (dats m 0 c).arrAt 10 cfg0.N = fun i : S8x256x2048.Idx => valuesAt m c (i 0) (i 1) (i 2) := by
  refine (dats m 0 c).arrAt_eq_of_covers 10 _ (by decide +kernel) fun t hf y => ?_
  blk_simp
  rw [after0_10]
  obtain ⟨f, r, rfl⟩ := InprojBlock.first_axis y
  rw [InprojBlock.valuesKept, kept_eq m c t r 1024 (by norm_num)]
  have e0 : ((win0_10.blk t).view.emb (ix3 0 f r)) 0 = seqOf t := Fin.ext (by blk_simp [idx t, seqOf]; rfl)
  have e1 : ((win0_10.blk t).view.emb (ix3 0 f r)) 1 = f := Fin.ext (by blk_simp [idx t])
  have e2 : ((win0_10.blk t).view.emb (ix3 0 f r)) 2 = posOf t r := Fin.ext (by blk_simp [idx t, posOf])
  rw [e0, e1, e2]
  rfl

theorem keysFirst_array : (dats m 0 c).arrAt 13 cfg0.N = fun i : S8x256x2048.Idx => firstAt m c (i 0) (i 1) (i 2) := by
  refine (dats m 0 c).arrAt_eq_of_covers 13 _ (by decide +kernel) fun t hf y => ?_
  blk_simp
  rw [after0_13]
  obtain ⟨f, r, rfl⟩ := InprojBlock.first_axis y
  rw [InprojBlock.keysFirst, column_eq, source_lo _ (by show 512 + f.val < 1280; omega)]
  have e0 : ((win0_13.blk t).view.emb (ix3 0 f r)) 0 = seqOf t := Fin.ext (by blk_simp [idx t, seqOf]; rfl)
  have e1 : ((win0_13.blk t).view.emb (ix3 0 f r)) 1 = f := Fin.ext (by blk_simp [idx t])
  have e2 : ((win0_13.blk t).view.emb (ix3 0 f r)) 2 = posOf t r := Fin.ext (by blk_simp [idx t, posOf])
  rw [e0, e1, e2]
  rfl

theorem keysPlain_array : (dats m 0 c).arrAt 8 cfg0.N = fun i : S16384x256.Idx => plainAt m c (i 0) (i 1) := by
  refine (dats m 0 c).arrAt_eq_of_covers 8 _ (by decide +kernel) fun t hf y => ?_
  blk_simp
  rw [after0_8]
  obtain ⟨r, f, rfl⟩ : ∃ (r : Fin 512) (f : Fin 256), y = ix2 r f := ⟨y 0, y 1, eq_ix2 y⟩
  rw [InprojBlock.keysPlain, column_eq, source_lo _ (by show 512 + f.val < 1280; omega)]
  have h := rowNo_val t r
  have e0 : ((win0_8.blk t).view.emb (ix2 r f)) 0 = rowNo t r := Fin.ext (by blk_simp [idx t, h])
  have e1 : ((win0_8.blk t).view.emb (ix2 r f)) 1 = f := Fin.ext (by blk_simp [idx t])
  rw [e0, e1]
  rfl

theorem recurrent_array : (dats m 0 c).arrAt 11 cfg0.N = fun i : S16384x1536.Idx => recurrentAt m c (i 0) (i 1) := by
  refine (dats m 0 c).arrAt_eq_of_covers 11 _ (by decide +kernel) fun t hf y => ?_
  blk_simp
  rw [after0_11]
  obtain ⟨r, f, rfl⟩ : ∃ (r : Fin 512) (f : Fin 1536), y = ix2 r f := ⟨y 0, y 1, eq_ix2 y⟩
  have es : source (⟨1280 + f.val, by omega⟩ : Fin 2816) = ⟨1304 + f.val, by omega⟩ :=
    (if_neg (by show ¬ 1280 + f.val < 1280; omega)).trans (Fin.ext (by show 1280 + f.val + 24 = 1304 + f.val; omega))
  rw [InprojBlock.recurrent, column_eq, es]
  have h := rowNo_val t r
  have e0 : ((win0_11.blk t).view.emb (ix2 r f)) 0 = rowNo t r := Fin.ext (by blk_simp [idx t, h])
  have e1 : ((win0_11.blk t).view.emb (ix2 r f)) 1 = f := Fin.ext (by blk_simp [idx t])
  rw [e0, e1]
  rfl

theorem smallKept_array : (dats m 0 c).arrAt 12 cfg0.N = fun i : S16384x128.Idx => smallAt m c (i 0) (i 1) := by
  refine (dats m 0 c).arrAt_eq_of_covers 12 _ (by decide +kernel) fun t hf y => ?_
  blk_simp
  rw [after0_12]
  obtain ⟨r, f, rfl⟩ : ∃ (r : Fin 512) (f : Fin 128), y = ix2 r f := ⟨y 0, y 1, eq_ix2 y⟩
  rw [InprojBlock.smallKept, small_eq]
  have h := rowNo_val t r
  have e0 : ((win0_12.blk t).view.emb (ix2 r f)) 0 = rowNo t r := Fin.ext (by blk_simp [idx t, h])
  have e1 : ((win0_12.blk t).view.emb (ix2 r f)) 1 = f := Fin.ext (by blk_simp [idx t])
  rw [e0, e1]
  rfl

end Cert.InprojKernel

end
-- ==== Proof.InprojReference.lean ====
/-
  The reference's results for layer 0's projection, read entry by entry as columns of the projected rows.
-/
module

public import proofs.«01_k».proof.Proof.InprojRows
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.InprojReference

open Idealize.ShloMosaic Idealize.ShloMosaic.TcCoe
open Cert.Reference6Ideal Cert.Reference6Ideal.Gen Cert.Reference6Ideal.Value Cert.Rows Cert.InprojRows

/-- The projected rows. -/
def projected (x : FVec Ideal S16384x1024 .f32) (nw : FVec Ideal S1024 .f32) (w : FVec Ideal S1024x2848 .f32) :
    FVec Ideal S8x2048x2848 .f32 :=
  Host.dotGeneral dot_S8x2048x1024_S1024x2848_S8x2048x2848_2_0_01_1_n_n none (mulf (mulf (shapeCast _ x shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ x shapeCasts_S16384x1024_S8x2048x1024) (shapeCast _ x shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 nw))) w

/-- The angles of all positions. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

def cosines : FVec Ideal S2048x32 .f32 := Host.cos angles

def sines : FVec Ideal S2048x32 .f32 := Host.sin angles

/-- The queries' eight heads turned. -/
def rot8 (q : FVec Ideal S8x2048x512 .f32) : FVec Ideal S8x2048x512 .f32 :=
  shapeCast _ (concatenate S8x2048x8x64 3 [⟨S8x2048x8x32, (subf (mulf (extractStridedSlice S8x2048x8x32 ![0, 0, 0, 0] (shapeCast _ q shapeCasts_S8x2048x512_S8x2048x8x64) slices_S8x2048x8x64_S8x2048x8x32_0_0_0_0) (broadcastInDim S8x2048x8x32 ![0, 1, 2, 3] bcast_S1x2048x1x32_S8x2048x8x32_0_1_2_3 (shapeCast _ cosines shapeCasts_S2048x32_S1x2048x1x32))) (mulf (extractStridedSlice S8x2048x8x32 ![0, 0, 0, 32] (shapeCast _ q shapeCasts_S8x2048x512_S8x2048x8x64) slices_S8x2048x8x64_S8x2048x8x32_0_0_0_32) (broadcastInDim S8x2048x8x32 ![0, 1, 2, 3] bcast_S1x2048x1x32_S8x2048x8x32_0_1_2_3 (shapeCast _ sines shapeCasts_S2048x32_S1x2048x1x32))))⟩, ⟨S8x2048x8x32, (addf (mulf (extractStridedSlice S8x2048x8x32 ![0, 0, 0, 32] (shapeCast _ q shapeCasts_S8x2048x512_S8x2048x8x64) slices_S8x2048x8x64_S8x2048x8x32_0_0_0_32) (broadcastInDim S8x2048x8x32 ![0, 1, 2, 3] bcast_S1x2048x1x32_S8x2048x8x32_0_1_2_3 (shapeCast _ cosines shapeCasts_S2048x32_S1x2048x1x32))) (mulf (extractStridedSlice S8x2048x8x32 ![0, 0, 0, 0] (shapeCast _ q shapeCasts_S8x2048x512_S8x2048x8x64) slices_S8x2048x8x64_S8x2048x8x32_0_0_0_0) (broadcastInDim S8x2048x8x32 ![0, 1, 2, 3] bcast_S1x2048x1x32_S8x2048x8x32_0_1_2_3 (shapeCast _ sines shapeCasts_S2048x32_S1x2048x1x32))))⟩] concatenates_S8x2048x8x32_S8x2048x8x32_S8x2048x8x64_d3) shapeCasts_S8x2048x8x64_S8x2048x512

/-- The keys' two heads turned. -/
def rot2 (k : FVec Ideal S8x2048x128 .f32) : FVec Ideal S8x2048x128 .f32 :=
  shapeCast _ (concatenate S8x2048x2x64 3 [⟨S8x2048x2x32, (subf (mulf (extractStridedSlice S8x2048x2x32 ![0, 0, 0, 0] (shapeCast _ k shapeCasts_S8x2048x128_S8x2048x2x64) slices_S8x2048x2x64_S8x2048x2x32_0_0_0_0) (broadcastInDim S8x2048x2x32 ![0, 1, 2, 3] bcast_S1x2048x1x32_S8x2048x2x32_0_1_2_3 (shapeCast _ cosines shapeCasts_S2048x32_S1x2048x1x32))) (mulf (extractStridedSlice S8x2048x2x32 ![0, 0, 0, 32] (shapeCast _ k shapeCasts_S8x2048x128_S8x2048x2x64) slices_S8x2048x2x64_S8x2048x2x32_0_0_0_32) (broadcastInDim S8x2048x2x32 ![0, 1, 2, 3] bcast_S1x2048x1x32_S8x2048x2x32_0_1_2_3 (shapeCast _ sines shapeCasts_S2048x32_S1x2048x1x32))))⟩, ⟨S8x2048x2x32, (addf (mulf (extractStridedSlice S8x2048x2x32 ![0, 0, 0, 32] (shapeCast _ k shapeCasts_S8x2048x128_S8x2048x2x64) slices_S8x2048x2x64_S8x2048x2x32_0_0_0_32) (broadcastInDim S8x2048x2x32 ![0, 1, 2, 3] bcast_S1x2048x1x32_S8x2048x2x32_0_1_2_3 (shapeCast _ cosines shapeCasts_S2048x32_S1x2048x1x32))) (mulf (extractStridedSlice S8x2048x2x32 ![0, 0, 0, 0] (shapeCast _ k shapeCasts_S8x2048x128_S8x2048x2x64) slices_S8x2048x2x64_S8x2048x2x32_0_0_0_0) (broadcastInDim S8x2048x2x32 ![0, 1, 2, 3] bcast_S1x2048x1x32_S8x2048x2x32_0_1_2_3 (shapeCast _ sines shapeCasts_S2048x32_S1x2048x1x32))))⟩] concatenates_S8x2048x2x32_S8x2048x2x32_S8x2048x2x64_d3) shapeCasts_S8x2048x2x64_S8x2048x128

/-! The results, each from the projected rows. -/

def queriesFirst (p : FVec Ideal S8x2048x2848 .f32) : FVec Ideal S8x512x2048 .f32 :=
  transpose S8x512x2048 [0, 2, 1] (extractStridedSlice S8x2048x512 ![0, 0, 0] p slices_S8x2048x2848_S8x2048x512_0_0_0) transposes_S8x2048x512_S8x512x2048_0_2_1

def queriesTurned (p : FVec Ideal S8x2048x2848 .f32) : FVec Ideal S8x512x2048 .f32 :=
  transpose S8x512x2048 [0, 2, 1] (rot8 (extractStridedSlice S8x2048x512 ![0, 0, 0] p slices_S8x2048x2848_S8x2048x512_0_0_0)) transposes_S8x2048x512_S8x512x2048_0_2_1

def keysPlain (p : FVec Ideal S8x2048x2848 .f32) : FVec Ideal S16384x256 .f32 :=
  shapeCast _ (extractStridedSlice S8x2048x256 ![0, 0, 512] p slices_S8x2048x2848_S8x2048x256_0_0_512) shapeCasts_S8x2048x256_S16384x256

def keysKept (p : FVec Ideal S8x2048x2848 .f32) : FVec Ideal S8x256x2048 .f32 :=
  transpose S8x256x2048 [0, 2, 1] (concatenate S8x2048x256 2 [⟨S8x2048x128, (rot2 (extractStridedSlice S8x2048x128 ![0, 0, 0] (extractStridedSlice S8x2048x256 ![0, 0, 768] p slices_S8x2048x2848_S8x2048x256_0_0_768) slices_S8x2048x256_S8x2048x128_0_0_0))⟩, ⟨S8x2048x128, (extractStridedSlice S8x2048x128 ![0, 0, 128] (extractStridedSlice S8x2048x256 ![0, 0, 768] p slices_S8x2048x2848_S8x2048x256_0_0_768) slices_S8x2048x256_S8x2048x128_0_0_128)⟩] concatenates_S8x2048x128_S8x2048x128_S8x2048x256_d2) transposes_S8x2048x256_S8x256x2048_0_2_1

def valuesKept (p : FVec Ideal S8x2048x2848 .f32) : FVec Ideal S8x256x2048 .f32 :=
  transpose S8x256x2048 [0, 2, 1] (concatenate S8x2048x256 2 [⟨S8x2048x128, (rot2 (extractStridedSlice S8x2048x128 ![0, 0, 0] (extractStridedSlice S8x2048x256 ![0, 0, 1024] p slices_S8x2048x2848_S8x2048x256_0_0_1024) slices_S8x2048x256_S8x2048x128_0_0_0))⟩, ⟨S8x2048x128, (extractStridedSlice S8x2048x128 ![0, 0, 128] (extractStridedSlice S8x2048x256 ![0, 0, 1024] p slices_S8x2048x2848_S8x2048x256_0_0_1024) slices_S8x2048x256_S8x2048x128_0_0_128)⟩] concatenates_S8x2048x128_S8x2048x128_S8x2048x256_d2) transposes_S8x2048x256_S8x256x2048_0_2_1

def recurrent (p : FVec Ideal S8x2048x2848 .f32) : FVec Ideal S16384x1536 .f32 :=
  shapeCast _ (extractStridedSlice S8x2048x1536 ![0, 0, 1304] p slices_S8x2048x2848_S8x2048x1536_0_0_1304) shapeCasts_S8x2048x1536_S16384x1536

def smallKept (p : FVec Ideal S8x2048x2848 .f32) : FVec Ideal S16384x128 .f32 :=
  shapeCast _ ((concatenate S8x2048x128 2 [⟨S8x2048x24, ((extractStridedSlice S8x2048x24 ![0, 0, 1280] p slices_S8x2048x2848_S8x2048x24_0_0_1280) : (⟨S8x2048x24, .f32⟩ : BufTy).Contents (Elt Ideal))⟩, ⟨S8x2048x8, ((extractStridedSlice S8x2048x8 ![0, 0, 2840] p slices_S8x2048x2848_S8x2048x8_0_0_2840) : (⟨S8x2048x8, .f32⟩ : BufTy).Contents (Elt Ideal))⟩, ⟨S8x2048x96, ((broadcastInDim S8x2048x96 ![] bcast_S_S8x2048x96 (constant (F := Ideal) S_ .f32 0x00000000#32)) : (⟨S8x2048x96, .f32⟩ : BufTy).Contents (Elt Ideal))⟩] concatenates_S8x2048x24_S8x2048x8_S8x2048x96_S8x2048x128_d2 : (⟨S8x2048x128, .f32⟩ : BufTy).Contents (Elt Ideal))) shapeCasts_S8x2048x128_S16384x128

def keysFirst (p : FVec Ideal S8x2048x2848 .f32) : FVec Ideal S8x256x2048 .f32 :=
  transpose S8x256x2048 [0, 2, 1] (extractStridedSlice S8x2048x256 ![0, 0, 512] p slices_S8x2048x2848_S8x2048x256_0_0_512) transposes_S8x2048x256_S8x256x2048_0_2_1

/-- A projected row: the normed row times the weights. -/
def proj (x : FVec Ideal S16384x1024 .f32) (nw : FVec Ideal S1024 .f32) (w : FVec Ideal S1024x2848 .f32)
    (i : Fin 16384) (j : Fin 2848) : EReal :=
  vecMat (rmsRow (fun k => x (ix2 i k)) (fun k => nw (ix1 k))) (fun k l => w (ix2 k l)) j

theorem projected_apply (x : FVec Ideal S16384x1024 .f32) (nw : FVec Ideal S1024 .f32) (w : FVec Ideal S1024x2848 .f32)
    (b : Fin 8) (t : Fin 2048) (j : Fin 2848) : projected x nw w (ix3 b t j) = proj x nw w (rowOf b t) j := by
  pointwise [projected, proj, vecMat, rmsRow, meanSq, rowOf]

theorem angles_apply (t : Fin 2048) (i : Fin 32) : angles (ix2 t i) = angle t i := by
  pointwise [angles, angle]

theorem cosines_apply (t : Fin 2048) (i : Fin 32) : cosines (ix2 t i) = cosAt t i := by
  have h := angles_apply t i
  unfold cosines
  generalize angles = a at h ⊢
  pointwise [cosAt]
  rw [h]

theorem sines_apply (t : Fin 2048) (i : Fin 32) : sines (ix2 t i) = sinAt t i := by
  have h := angles_apply t i
  unfold sines
  generalize angles = a at h ⊢
  pointwise [sinAt]
  rw [h]

theorem rot8_apply (q : FVec Ideal S8x2048x512 .f32) (b : Fin 8) (t : Fin 2048) (f : Fin 512) :
    rot8 q (ix3 b t f) = turnGroup t (fun f => q (ix3 b t f)) f := by
  have hc := cosines_apply
  have hs := sines_apply
  unfold rot8
  generalize cosines = c at hc ⊢
  generalize sines = s at hs ⊢
  pointwise
  simp only [hc, hs]
  by_cases h : f.val % 64 < 32
  · rw [dif_pos h]
    exact lower t (fun f => q (ix3 b t f)) f h (by norm_num) _ (by show f.val % 64 = _; omega) _
      (by show f.val / 64 * 64 + (32 + f.val % 64) = _; omega)
  · rw [dif_neg h]
    exact upper t (fun f => q (ix3 b t f)) f h _ (by show f.val % 64 - 32 = _; omega) _
      (by show f.val / 64 * 64 + (32 + (f.val % 64 - 32)) = _; omega) _
      (by show f.val / 64 * 64 + (f.val % 64 - 32) = _; omega)

theorem rot2_apply (q : FVec Ideal S8x2048x128 .f32) (b : Fin 8) (t : Fin 2048) (f : Fin 128) :
    rot2 q (ix3 b t f) = turnGroup t (fun f => q (ix3 b t f)) f := by
  have hc := cosines_apply
  have hs := sines_apply
  unfold rot2
  generalize cosines = c at hc ⊢
  generalize sines = s at hs ⊢
  pointwise
  simp only [hc, hs]
  by_cases h : f.val % 64 < 32
  · rw [dif_pos h]
    exact lower t (fun f => q (ix3 b t f)) f h (by norm_num) _ (by show f.val % 64 = _; omega) _
      (by show f.val / 64 * 64 + (32 + f.val % 64) = _; omega)
  · rw [dif_neg h]
    exact upper t (fun f => q (ix3 b t f)) f h _ (by show f.val % 64 - 32 = _; omega) _
      (by show f.val / 64 * 64 + (32 + (f.val % 64 - 32)) = _; omega) _
      (by show f.val / 64 * 64 + (f.val % 64 - 32) = _; omega)

/-! The results' entries. -/

section Results

variable (p : FVec Ideal S8x2048x2848 .f32) (b : Fin 8) (t : Fin 2048)

theorem queriesFirst_apply (f : Fin 512) : queriesFirst p (ix3 b f t) = p (ix3 b t ⟨0 + f.val, by omega⟩) := by
  pointwise [queriesFirst]

theorem turned_part {n : ℕ} (off : ℕ) (h64 : off % 64 = 0) (hn : n % 64 = 0) (h : off + n ≤ 2848) (v : Fin n → EReal)
    (hv : ∀ l : Fin n, v l = p (ix3 b t ⟨off + l.val, by omega⟩)) (f : Fin n) :
    turnGroup t v f = turn t (fun j => p (ix3 b t j)) ⟨off + f.val, by omega⟩ := by
  rw [funext hv]
  exact turnGroup_add off h64 hn h t (fun j => p (ix3 b t j)) f

theorem queriesTurned_apply (f : Fin 512) :
    queriesTurned p (ix3 b f t) = turn t (fun j => p (ix3 b t j)) ⟨0 + f.val, by omega⟩ := by
  refine Eq.trans ?_ (turned_part p b t 0 (by norm_num) (by norm_num) (by norm_num)
    (fun f : Fin 512 => extractStridedSlice S8x2048x512 ![0, 0, 0] p slices_S8x2048x2848_S8x2048x512_0_0_0 (ix3 b t f))
    (fun l => by pointwise) f)
  rw [← rot8_apply]
  unfold queriesTurned
  generalize rot8 _ = q
  pointwise

theorem keysPlain_apply (f : Fin 256) : keysPlain p (ix2 (rowOf b t) f) = p (ix3 b t ⟨512 + f.val, by omega⟩) := by
  pointwise [keysPlain, rowOf]

theorem keysFirst_apply (f : Fin 256) : keysFirst p (ix3 b f t) = p (ix3 b t ⟨512 + f.val, by omega⟩) := by
  pointwise [keysFirst]

theorem recurrent_apply (f : Fin 1536) : recurrent p (ix2 (rowOf b t) f) = p (ix3 b t ⟨1304 + f.val, by omega⟩) := by
  pointwise [recurrent, rowOf]

theorem smallKept_apply (f : Fin 128) : smallKept p (ix2 (rowOf b t) f) = small (fun j => p (ix3 b t j)) f := by
  unfold small
  pointwise [smallKept, rowOf]
  by_cases h24 : f.val < 24
  · rw [dif_pos h24, if_pos h24]
  · rw [dif_neg h24, if_neg h24]
    by_cases h32 : f.val < 32
    · rw [dif_pos (by omega), dif_pos h32]
      exact congrArg (fun z => p (ix3 b t z)) (Fin.ext (by simp; omega))
    · rw [dif_neg (by omega), dif_neg h32]

theorem keysKept_apply (f : Fin 256) :
    keysKept p (ix3 b f t) = keyValue t (fun j => p (ix3 b t j)) 768 (by norm_num) f := by
  unfold keysKept keyValue
  have h := fun l : Fin 128 => (rot2_apply (extractStridedSlice S8x2048x128 ![0, 0, 0] (extractStridedSlice S8x2048x256 ![0, 0, 768] p
    slices_S8x2048x2848_S8x2048x256_0_0_768) slices_S8x2048x256_S8x2048x128_0_0_0) b t l).trans
      (turned_part p b t 768 (by norm_num) (by norm_num) (by norm_num) _ (fun l => by pointwise) l)
  generalize rot2 _ = q at h ⊢
  pointwise
  by_cases hf : f.val < 128
  · rw [dif_pos hf, if_pos hf, h]
  · rw [dif_neg hf, if_neg hf]
    exact congrArg (fun z => p (ix3 b t z)) (Fin.ext (by simp; omega))

theorem valuesKept_apply (f : Fin 256) :
    valuesKept p (ix3 b f t) = keyValue t (fun j => p (ix3 b t j)) 1024 (by norm_num) f := by
  unfold valuesKept keyValue
  have h := fun l : Fin 128 => (rot2_apply (extractStridedSlice S8x2048x128 ![0, 0, 0] (extractStridedSlice S8x2048x256 ![0, 0, 1024] p
    slices_S8x2048x2848_S8x2048x256_0_0_1024) slices_S8x2048x256_S8x2048x128_0_0_0) b t l).trans
      (turned_part p b t 1024 (by norm_num) (by norm_num) (by norm_num) _ (fun l => by pointwise) l)
  generalize rot2 _ = q at h ⊢
  pointwise
  by_cases hf : f.val < 128
  · rw [dif_pos hf, if_pos hf, h]
  · rw [dif_neg hf, if_neg hf]
    exact congrArg (fun z => p (ix3 b t z)) (Fin.ext (by simp; omega))

end Results

end Cert.InprojReference

end
-- ==== Proof.InprojValue.lean ====
/-
  The value claim of layer 0's projection: the kernel's eight arrays are the reference's eight results, entry by entry.
-/
module

public import proofs.«01_k».proof.Defs
public import proofs.«01_k».proof.Proof.InprojKernel
public import proofs.«01_k».proof.Proof.InprojReference
public import proofs.«01_k».proof.Proof.Gen.Reference6Ideal

@[expose] public section

set_option maxRecDepth 16384

noncomputable section

namespace Cert.InprojValue

open Idealize.ShloMosaic Idealize.ShloMosaic.TcCoe Idealize.SL.Sem
open Cert.Rows Cert.InprojRows

section Reference
open Cert.Reference6Ideal Cert.Reference6Ideal.Gen Cert.Reference6Ideal.Value Cert.InprojReference

/-- An index of the row-wise arrays, by sequence and position. -/
theorem by_row (i : Fin 16384) : ∃ (b : Fin 8) (t : Fin 2048), i = rowOf b t :=
  ⟨⟨i.val / 2048, by omega⟩, ⟨i.val % 2048, by omega⟩, Fin.ext (by show i.val = i.val / 2048 * 2048 + i.val % 2048; omega)⟩

/-- The eight results of projected rows `p`, where row by row these are `v`. -/
structure Agree (p : FVec Ideal S8x2048x2848 .f32) (v : Fin 16384 → Fin 2848 → EReal) : Prop where
  queries : queriesFirst p = fun i => v (rowOf (i 0) (i 2)) ⟨0 + (i 1 : Fin 512).val, by omega⟩
  turned : queriesTurned p = fun i => turn (i 2 : Fin 2048).val (v (rowOf (i 0) (i 2))) ⟨0 + (i 1 : Fin 512).val, by omega⟩
  plain : keysPlain p = fun i => v (i 0) ⟨512 + (i 1 : Fin 256).val, by omega⟩
  keys : keysKept p = fun i => keyValue (i 2 : Fin 2048).val (v (rowOf (i 0) (i 2))) 768 (by norm_num) (i 1)
  values : valuesKept p = fun i => keyValue (i 2 : Fin 2048).val (v (rowOf (i 0) (i 2))) 1024 (by norm_num) (i 1)
  rest : recurrent p = fun i => v (i 0) ⟨1304 + (i 1 : Fin 1536).val, by omega⟩
  few : smallKept p = fun i => small (v (i 0)) (i 1)
  first : keysFirst p = fun i => v (rowOf (i 0) (i 2)) ⟨512 + (i 1 : Fin 256).val, by omega⟩

theorem agree (p : FVec Ideal S8x2048x2848 .f32) (v : Fin 16384 → Fin 2848 → EReal)
    (hq : ∀ b t j, p (ix3 b t j) = v (rowOf b t) j) : Agree p v := by
  have hp : ∀ b t, (fun j => p (ix3 b t j)) = v (rowOf b t) := fun b t => funext fun j => hq b t j
  constructor
  · funext i
    obtain ⟨b, f, t, rfl⟩ : ∃ b f t, i = ix3 b f t := ⟨i 0, i 1, i 2, eq_ix3 i⟩
    exact (queriesFirst_apply p b t f).trans (hq b t _)
  · funext i
    obtain ⟨b, f, t, rfl⟩ : ∃ b f t, i = ix3 b f t := ⟨i 0, i 1, i 2, eq_ix3 i⟩
    exact (queriesTurned_apply p b t f).trans (congrArg (fun v => turn t v _) (hp b t))
  · funext i
    obtain ⟨r, f, rfl⟩ : ∃ (r : Fin 16384) (f : Fin 256), i = ix2 r f := ⟨i 0, i 1, eq_ix2 i⟩
    obtain ⟨b, t, rfl⟩ := by_row r
    exact (keysPlain_apply p b t f).trans (hq b t _)
  · funext i
    obtain ⟨b, f, t, rfl⟩ : ∃ b f t, i = ix3 b f t := ⟨i 0, i 1, i 2, eq_ix3 i⟩
    exact (keysKept_apply p b t f).trans (congrArg (fun v => keyValue t v 768 _ f) (hp b t))
  · funext i
    obtain ⟨b, f, t, rfl⟩ : ∃ b f t, i = ix3 b f t := ⟨i 0, i 1, i 2, eq_ix3 i⟩
    exact (valuesKept_apply p b t f).trans (congrArg (fun v => keyValue t v 1024 _ f) (hp b t))
  · funext i
    obtain ⟨r, f, rfl⟩ : ∃ (r : Fin 16384) (f : Fin 1536), i = ix2 r f := ⟨i 0, i 1, eq_ix2 i⟩
    obtain ⟨b, t, rfl⟩ := by_row r
    exact (recurrent_apply p b t f).trans (hq b t _)
  · funext i
    obtain ⟨r, f, rfl⟩ : ∃ (r : Fin 16384) (f : Fin 128), i = ix2 r f := ⟨i 0, i 1, eq_ix2 i⟩
    obtain ⟨b, t, rfl⟩ := by_row r
    exact (smallKept_apply p b t f).trans (congrArg (fun v => small v f) (hp b t))
  · funext i
    obtain ⟨b, f, t, rfl⟩ : ∃ b f t, i = ix3 b f t := ⟨i 0, i 1, i 2, eq_ix3 i⟩
    exact (keysFirst_apply p b t f).trans (hq b t _)

end Reference

open Cert.Kernel6Ideal in
/-- Layer 0's projection computes the reference. -/
theorem algebraic : algebraic_Kernel6Ideal_Reference6Ideal := by
  intro m g m' g' _ hag
  refine ⟨fun c i => InprojKernel.queriesAt m c (i 0) (i 1) (i 2), fun c i => InprojKernel.turnedAt m c (i 0) (i 1) (i 2),
    fun c i => InprojKernel.plainAt m c (i 0) (i 1), fun c i => InprojKernel.keysAt m c (i 0) (i 1) (i 2),
    fun c i => InprojKernel.valuesAt m c (i 0) (i 1) (i 2), fun c i => InprojKernel.recurrentAt m c (i 0) (i 1),
    fun c i => InprojKernel.smallAt m c (i 0) (i 1), fun c i => InprojKernel.firstAt m c (i 0) (i 1) (i 2), ?_, ?_⟩
  · refine (θ_run _ _ _).mono (fun r h c => ?_) (Kernel6Ideal.Value.run_blocks m g)
    have := h c
    rw [InprojKernel.queries_array, InprojKernel.turnedQueries_array, InprojKernel.keysPlain_array, InprojKernel.keysKept_array,
      InprojKernel.valuesKept_array, InprojKernel.recurrent_array, InprojKernel.smallKept_array, InprojKernel.keysFirst_array] at this
    exact this
  · refine (θ_run _ _ _).mono (fun r h c => ?_) (Reference6Ideal.Value.run m' g')
    obtain ⟨h0, h1, h2, h3, h4, h5, h6, h7, h8⟩ := h c
    obtain ⟨e0, e1, e2⟩ := hag c
    have a := agree _ _ (InprojReference.projected_apply
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)))
    have hv : InprojReference.proj
        (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        = InprojKernel.row m c := by
      rw [e0, e1, e2]
      rfl
    rw [hv] at a
    exact ⟨h0.trans a.queries, h1.trans a.turned, h2.trans a.plain, h3.trans a.keys, h4.trans a.values, h5.trans a.rest,
      h6.trans a.few, h7.trans a.first, h8⟩

/-- The reference's frame. -/
theorem frame_reference : Cert.quiescent_Reference6Ideal := fun m ρ _ =>
  (θ_run Cert.Reference6Ideal.defs _ _).mono (fun r h => ⟨fun c => (h c).2.2.2.2.2.2.2.2,
    Idealize.ShloMosaic.sem_eq_zero_of_no_sems (by decide) r.2⟩) (Cert.Reference6Ideal.Value.run (F := Ideal) m ρ)

end Cert.InprojValue

end
-- ==== Proof.InprojSampleBlock.lean ====
/-
  What the one grid point of the sample group's projection writes, in terms of the blocks it reads: the columns of each
  of its 32 rows, plain or turned, a token a row.
-/
module

public import proofs.«01_k».proof.Proof.InprojRows
public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.InprojSampleBlock

open Idealize.ShloMosaic Idealize.ShloMosaic.TcCoe
open Cert.Kernel7Ideal Cert.Kernel7Ideal.Gen Cert.Rows Cert.InprojRows

/-! ## The operations -/

theorem normed (x0 : Vec Ideal S32x1024 .f32) (x1 : Vec Ideal S1x1024 .f32) (r : Fin 32) (k : Fin 1024) :
    k0_pay5 x0 x1 (ix2 r k) = rmsRow (fun k => x0 (ix2 r k)) (fun k => x1 (ix2 0 k)) k := by
  pointwise [k0_pay5, rmsRow, meanSq]

theorem dot512 (v : FVec Ideal S32x1024 .bf16) (w : Vec Ideal S1024x512 .bf16) (r : Fin 32) (j : Fin 512) :
    k0_pay9 v w (ix2 r j) = vecMat (fun k => v (ix2 r k)) (fun k l => w (ix2 k l)) j := by
  pointwise [k0_pay9, vecMat]

theorem dot256 (v : FVec Ideal S32x1024 .bf16) (w : Vec Ideal S1024x256 .bf16) (r : Fin 32) (j : Fin 256) :
    k0_pay19 v w (ix2 r j) = vecMat (fun k => v (ix2 r k)) (fun k l => w (ix2 k l)) j := by
  pointwise [k0_pay19, vecMat]

theorem dot1536 (v : FVec Ideal S32x1024 .bf16) (w : Vec Ideal S1024x1536 .bf16) (r : Fin 32) (j : Fin 1536) :
    k0_pay3 v w (ix2 r j) = vecMat (fun k => v (ix2 r k)) (fun k l => w (ix2 k l)) j := by
  pointwise [k0_pay3, vecMat]

theorem dot128 (v : FVec Ideal S32x1024 .bf16) (w : Vec Ideal S1024x128 .bf16) (r : Fin 32) (j : Fin 128) :
    k0_pay4 v w (ix2 r j) = vecMat (fun k => v (ix2 r k)) (fun k l => w (ix2 k l)) j := by
  pointwise [k0_pay4, vecMat]

/-- The lanes of the first halves of the two heads of a group. -/
theorem mask (r : Fin 32) (l : Fin 128) : k0_pay8 (ix2 r l) = if l.val % 64 < 32 then 1#1 else 0#1 := by
  have h : ∀ l : Fin 128, k0_pay8 (ix2 0 l) = if l.val % 64 < 32 then 1#1 else 0#1 := by decide +kernel
  exact h l

/-- A group of 128 columns turned. -/
def turned (c s u : FVec Ideal S32x128 .f32) : FVec Ideal S32x128 .f32 :=
  k0_pay1 c s k0_pay8 u (dynamicRotate 1 96#32 none u rotates_S32x128_d1)

theorem ahead (u : FVec Ideal S32x128 .f32) (r : Fin 32) (l : Fin 128) (h : l.val % 64 < 32) :
    dynamicRotate 1 96#32 none u rotates_S32x128_d1 (ix2 r l) = u (ix2 r (partner l)) := by
  have hp := partner_lo l h (by norm_num)
  pointwise
  exact congrArg (fun z => u (ix2 r z)) (Fin.ext (by show (l.val + 128 - 96) % 128 = _; omega))

theorem behind (u : FVec Ideal S32x128 .f32) (r : Fin 32) (l : Fin 128) (h : ¬ l.val % 64 < 32) :
    dynamicRotate 1 32#32 none u rotates_S32x128_d1 (ix2 r l) = u (ix2 r (partner l)) := by
  have hp := partner_hi l h
  pointwise
  exact congrArg (fun z => u (ix2 r z)) (Fin.ext (by show (l.val + 128 - 32) % 128 = _; omega))

theorem turned_apply (c s u : FVec Ideal S32x128 .f32) (r : Fin 32) (f : Fin 128) :
    turned c s u (ix2 r f) = u (ix2 r f) * c (ix2 r f) + u (ix2 r (partner f)) * s (ix2 r f) := by
  have hm := mask r f
  have ha := ahead u r f
  have hb := behind u r f
  unfold turned k0_pay1
  generalize dynamicRotate 1 96#32 none u rotates_S32x128_d1 = a at ha ⊢
  generalize dynamicRotate 1 32#32 none u rotates_S32x128_d1 = b at hb ⊢
  generalize k0_pay8 = k at hm ⊢
  pointwise
  by_cases h : f.val % 64 < 32
  · rw [if_pos h] at hm
    simp only [hm, ha h]
    rfl
  · rw [if_neg h] at hm
    simp only [hm, hb h]
    rfl

/-! ## The columns of the point's rows -/

section Point

variable (x0 : Vec Ideal S32x1024 .f32) (x1 : Vec Ideal S1x1024 .f32) (x2 : Vec Ideal S1024x2816 .bf16)
  (x3 : Vec Ideal S1024x128 .bf16) (x4 x5 : Vec Ideal S32x128 .f32)

/-- Column `j` of row `r`. -/
def column (r : Fin 32) (j : Fin 2816) : EReal :=
  vecMat (rmsRow (fun k => x0 (ix2 r k)) (fun k => x1 (ix2 0 k))) (fun k l => x2 (ix2 k l)) j

/-- Column `j` of row `r` turned by the tables. -/
def turnedColumn (r : Fin 32) (j : Fin 2816) : EReal :=
  column x0 x1 x2 r j * x4 (ix2 r (lane j)) + column x0 x1 x2 r (partner j) * x5 (ix2 r (lane j))

/-- Some columns of the weights, loaded. -/
theorem ld_cols {n : ℕ} (off : ℕ) (inb : ∀ a, (![0, off] : Fin 2 → ℕ) a + (⟨2, ![1024, n]⟩ : Shape).size a ≤ S1024x2816.size a)
    (k : Fin 1024) (l : Fin n) (h : off + l.val < 2816) :
    View.ld x2 (Rect.unit (s := S1024x2816) ![0, off] (⟨2, ![1024, n]⟩ : Shape).size inb) (ix2 k l) = x2 (ix2 k ⟨off + l.val, h⟩) :=
  View.ld_unit_apply_of x2 _ _ _ _ (ix2 k ⟨off + l.val, h⟩) (fun a => by fin_cases a <;> simp [ix2])

/-- The rows the products start from. -/
theorem rows (r : Fin 32) : (fun k => k0_pay25 x0 x1 x2 x3 x4 x5 (ix2 r k)) = rmsRow (fun k => x0 (ix2 r k)) (fun k => x1 (ix2 0 k)) := by
  funext k
  unfold k0_pay25
  rw [View.ld_unit_lit _ _ (by decide), View.ld_unit_lit _ _ (by decide)]
  exact normed x0 x1 r k

theorem cosines (r : Fin 32) (l : Fin 128) : k0_pay26 x0 x1 x2 x3 x4 x5 (ix2 r l) = x4 (ix2 r l) := by
  unfold k0_pay26
  rw [View.ld_unit_lit _ _ (by decide)]
  pointwise [k0_pay6]

theorem sines (r : Fin 32) (l : Fin 128) : k0_pay27 x0 x1 x2 x3 x4 x5 (ix2 r l) = x5 (ix2 r l) := by
  unfold k0_pay27
  rw [View.ld_unit_lit _ _ (by decide)]
  pointwise [k0_pay7]

/-- The product with the queries' columns. -/
def product512 : FVec Ideal S32x512 .f32 :=
  k0_pay9 (k0_pay25 x0 x1 x2 x3 x4 x5) (View.ld x2 r0_3)

theorem product512_apply (r : Fin 32) (j : Fin 512) :
    product512 x0 x1 x2 x3 x4 x5 (ix2 r j) = column x0 x1 x2 r ⟨0 + j.val, by omega⟩ := by
  unfold product512 column
  rw [dot512, rows]
  exact Finset.sum_congr rfl fun k _ => congrArg (_ * ·) (ld_cols x2 0 _ k j (by omega))

/-- The product with the 256 columns from `base` on. -/
def product256 (base : ℕ) (inb : ∀ a, (![0, base] : Fin 2 → ℕ) a + S1024x256.size a ≤ S1024x2816.size a) : FVec Ideal S32x256 .f32 :=
  k0_pay19 (k0_pay25 x0 x1 x2 x3 x4 x5) (View.ld x2 (Rect.unit (s := S1024x2816) ![0, base] S1024x256.size inb))

theorem product256_apply (base : ℕ) (inb : ∀ a, (![0, base] : Fin 2 → ℕ) a + S1024x256.size a ≤ S1024x2816.size a)
    (h : base + 256 ≤ 2816) (r : Fin 32) (j : Fin 256) :
    product256 x0 x1 x2 x3 x4 x5 base inb (ix2 r j) = column x0 x1 x2 r ⟨base + j.val, by omega⟩ := by
  unfold product256 column
  rw [dot256, rows]
  exact Finset.sum_congr rfl fun k _ => congrArg (_ * ·) (ld_cols x2 base _ k j (by omega))

/-- A group of 128 columns cut out of a product of `n` columns from `base` on. -/
theorem cut {n : ℕ} (p : FVec Ideal ⟨2, ![32, n]⟩ .f32) (base off : ℕ) (hb : base + n ≤ 2816)
    (hp : ∀ r (j : Fin n), p (ix2 r j) = column x0 x1 x2 r ⟨base + j.val, by omega⟩)
    (hs : (⟨2, ![32, n]⟩ : Shape).Slices ![0, off] S32x128) (h : off + 128 ≤ n) (r : Fin 32) (l : Fin 128) :
    extractStridedSlice S32x128 ![0, off] p hs (ix2 r l) = column x0 x1 x2 r ⟨base + off + l.val, by omega⟩ := by
  refine Eq.trans ?_ ((hp r ⟨off + l.val, by omega⟩).trans ?_)
  · exact congrArg p (funext fun a => Fin.ext (by fin_cases a <;> simp [ix2]))
  · exact congrArg _ (Fin.ext (by simp; omega))

/-- A group of columns turned, at its place among the columns. -/
theorem turned_group (u : FVec Ideal S32x128 .f32) (off : ℕ) (h128 : off % 128 = 0) (h : off + 128 ≤ 2816)
    (hu : ∀ r (l : Fin 128), u (ix2 r l) = column x0 x1 x2 r ⟨off + l.val, by omega⟩) (r : Fin 32) (f : Fin 128) :
    turned (k0_pay26 x0 x1 x2 x3 x4 x5) (k0_pay27 x0 x1 x2 x3 x4 x5) u (ix2 r f)
      = turnedColumn x0 x1 x2 x4 x5 r ⟨off + f.val, by omega⟩ := by
  have hp := partner_add off (N := 2816) (by omega) (by norm_num) h f
  have hl : lane ⟨off + f.val, by omega⟩ = f := Fin.ext (by simp [lane]; omega)
  rw [turned_apply, hu, hu, cosines, sines]
  unfold turnedColumn
  rw [hl, hp]

/-! ## The blocks written -/

theorem rows_axis {n : ℕ} (x : (⟨2, ![32, n]⟩ : Shape).Idx) : ∃ (r : Fin 32) (f : Fin n), x = ix2 r f := ⟨x 0, x 1, eq_ix2 x⟩

/-- A group of the first product. -/
theorem plain_query (off : ℕ) (hs : S32x512.Slices ![0, off] S32x128) (h : off + 128 ≤ 512) (r : Fin 32) (g : Fin 128)
    (j : Fin 2816) (hj : j.val = 0 + off + g.val) :
    extractStridedSlice S32x128 ![0, off] (product512 x0 x1 x2 x3 x4 x5) hs (ix2 r g) = column x0 x1 x2 r j :=
  (cut x0 x1 x2 _ 0 off (by norm_num) (product512_apply x0 x1 x2 x3 x4 x5) hs h r g).trans (congrArg _ (Fin.ext hj.symm))

/-- The same turned. -/
theorem turned_query (off : ℕ) (hs : S32x512.Slices ![0, off] S32x128) (h128 : (0 + off) % 128 = 0) (h : off + 128 ≤ 512)
    (r : Fin 32) (g : Fin 128) (j : Fin 2816) (hj : j.val = 0 + off + g.val) :
    turned (k0_pay26 x0 x1 x2 x3 x4 x5) (k0_pay27 x0 x1 x2 x3 x4 x5)
      (extractStridedSlice S32x128 ![0, off] (product512 x0 x1 x2 x3 x4 x5) hs) (ix2 r g) = turnedColumn x0 x1 x2 x4 x5 r j :=
  (turned_group x0 x1 x2 x3 x4 x5 _ (0 + off) h128 (by omega)
    (cut x0 x1 x2 _ 0 off (by norm_num) (product512_apply x0 x1 x2 x3 x4 x5) hs h) r g).trans (congrArg _ (Fin.ext hj.symm))

section Halves

variable (base off : ℕ) (inb : ∀ a, (![0, base] : Fin 2 → ℕ) a + S1024x256.size a ≤ S1024x2816.size a)
  (hb : base + 256 ≤ 2816) (hs : S32x256.Slices ![0, off] S32x128) (h : off + 128 ≤ 256)
include hb h

/-- A half of a product of 256 columns. -/
theorem plain_half (r : Fin 32) (g : Fin 128) (j : Fin 2816) (hj : j.val = base + off + g.val) :
    extractStridedSlice S32x128 ![0, off] (product256 x0 x1 x2 x3 x4 x5 base inb) hs (ix2 r g) = column x0 x1 x2 r j :=
  (cut x0 x1 x2 _ base off hb (product256_apply x0 x1 x2 x3 x4 x5 base inb hb) hs h r g).trans (congrArg _ (Fin.ext hj.symm))

/-- The same turned. -/
theorem turned_half (h128 : (base + off) % 128 = 0) (r : Fin 32) (g : Fin 128) (j : Fin 2816) (hj : j.val = base + off + g.val) :
    turned (k0_pay26 x0 x1 x2 x3 x4 x5) (k0_pay27 x0 x1 x2 x3 x4 x5)
      (extractStridedSlice S32x128 ![0, off] (product256 x0 x1 x2 x3 x4 x5 base inb) hs) (ix2 r g)
      = turnedColumn x0 x1 x2 x4 x5 r j :=
  (turned_group x0 x1 x2 x3 x4 x5 _ (base + off) h128 (by omega)
    (cut x0 x1 x2 _ base off hb (product256_apply x0 x1 x2 x3 x4 x5 base inb hb) hs h) r g).trans (congrArg _ (Fin.ext hj.symm))

end Halves

/-- The queries' block. -/
theorem queries (r : Fin 32) (f : Fin 512) :
    out0_6 x0 x1 x2 x3 x4 x5 (ix2 r f) = column x0 x1 x2 r ⟨f.val, by omega⟩ := by
  canon_tiles x h
  all_goals
    obtain ⟨s, g, rfl⟩ := rows_axis x
    obtain rfl : r = s := Fin.ext h0
  · exact plain_query x0 x1 x2 x3 x4 x5 384 slices_S32x512_o0_384_S32x128 (by norm_num) r g _ h1
  · exact plain_query x0 x1 x2 x3 x4 x5 256 slices_S32x512_o0_256_S32x128 (by norm_num) r g _ h1
  · exact plain_query x0 x1 x2 x3 x4 x5 128 slices_S32x512_o0_128_S32x128 (by norm_num) r g _ h1
  · exact plain_query x0 x1 x2 x3 x4 x5 0 slices_S32x512_o0_0_S32x128 (by norm_num) r g _ (h1.trans (Nat.zero_add _).symm)

/-- The turned queries' block. -/
theorem turnedQueries (r : Fin 32) (f : Fin 512) :
    out0_7 x0 x1 x2 x3 x4 x5 (ix2 r f) = turnedColumn x0 x1 x2 x4 x5 r ⟨f.val, by omega⟩ := by
  canon_tiles x h
  all_goals
    obtain ⟨s, g, rfl⟩ := rows_axis x
    obtain rfl : r = s := Fin.ext h0
  · exact turned_query x0 x1 x2 x3 x4 x5 384 slices_S32x512_o0_384_S32x128 (by norm_num) (by norm_num) r g _ h1
  · exact turned_query x0 x1 x2 x3 x4 x5 256 slices_S32x512_o0_256_S32x128 (by norm_num) (by norm_num) r g _ h1
  · exact turned_query x0 x1 x2 x3 x4 x5 128 slices_S32x512_o0_128_S32x128 (by norm_num) (by norm_num) r g _ h1
  · exact turned_query x0 x1 x2 x3 x4 x5 0 slices_S32x512_o0_0_S32x128 (by norm_num) (by norm_num) r g _ (h1.trans (Nat.zero_add _).symm)

/-- The compression branch's block. -/
theorem keysPlain (r : Fin 32) (f : Fin 256) :
    out0_8 x0 x1 x2 x3 x4 x5 (ix2 r f) = column x0 x1 x2 r ⟨512 + f.val, by omega⟩ := by
  unfold out0_8
  frame_out
  exact product256_apply x0 x1 x2 x3 x4 x5 512 _ (by norm_num) r f

/-- The selection branch's block: the keys' half turned, the values' half plain. -/
theorem keysKept (r : Fin 32) (f : Fin 256) :
    out0_9 x0 x1 x2 x3 x4 x5 (ix2 r f) = if f.val < 128 then turnedColumn x0 x1 x2 x4 x5 r ⟨768 + f.val, by omega⟩
      else column x0 x1 x2 r ⟨768 + f.val, by omega⟩ := by
  canon_tiles x h
  all_goals
    obtain ⟨s, g, rfl⟩ := rows_axis x
    obtain rfl : r = s := Fin.ext h0
    have hg := g.isLt
  · rw [if_neg (by have : f.val = 128 + g.val := h1; omega)]
    exact plain_half x0 x1 x2 x3 x4 x5 768 128 _ (by norm_num) slices_S32x256_o0_128_S32x128 (by norm_num) r g _
      ((congrArg (768 + ·) h1).trans (Nat.add_assoc _ _ _).symm)
  · rw [if_pos (by have : f.val = g.val := h1; omega)]
    exact turned_half x0 x1 x2 x3 x4 x5 768 0 _ (by norm_num) slices_S32x256_o0_0_S32x128 (by norm_num) (by norm_num) r g _
      (congrArg (768 + ·) h1)

/-- The window branch's block, likewise. -/
theorem valuesKept (r : Fin 32) (f : Fin 256) :
    out0_10 x0 x1 x2 x3 x4 x5 (ix2 r f) = if f.val < 128 then turnedColumn x0 x1 x2 x4 x5 r ⟨1024 + f.val, by omega⟩
      else column x0 x1 x2 r ⟨1024 + f.val, by omega⟩ := by
  canon_tiles x h
  all_goals
    obtain ⟨s, g, rfl⟩ := rows_axis x
    obtain rfl : r = s := Fin.ext h0
    have hg := g.isLt
  · rw [if_neg (by have : f.val = 128 + g.val := h1; omega)]
    exact plain_half x0 x1 x2 x3 x4 x5 1024 128 _ (by norm_num) slices_S32x256_o0_128_S32x128 (by norm_num) r g _
      ((congrArg (1024 + ·) h1).trans (Nat.add_assoc _ _ _).symm)
  · rw [if_pos (by have : f.val = g.val := h1; omega)]
    exact turned_half x0 x1 x2 x3 x4 x5 1024 0 _ (by norm_num) slices_S32x256_o0_0_S32x128 (by norm_num) (by norm_num) r g _
      (congrArg (1024 + ·) h1)

/-- The recurrent branch's columns. -/
theorem recurrent (r : Fin 32) (f : Fin 1536) :
    out0_11 x0 x1 x2 x3 x4 x5 (ix2 r f) = column x0 x1 x2 r ⟨1280 + f.val, by omega⟩ := by
  unfold out0_11
  frame_out
  unfold column
  rw [dot1536, rows]
  exact Finset.sum_congr rfl fun k _ => congrArg (_ * ·) (ld_cols x2 1280 _ k f (by omega))

/-- The gates' and the steps' columns. -/
theorem smallKept (r : Fin 32) (f : Fin 128) :
    out0_12 x0 x1 x2 x3 x4 x5 (ix2 r f)
      = vecMat (rmsRow (fun k => x0 (ix2 r k)) (fun k => x1 (ix2 0 k))) (fun k l => x3 (ix2 k l)) f := by
  unfold out0_12
  frame_out
  rw [dot128, rows]

end Point

end Cert.InprojSampleBlock

end
-- ==== Proof.InprojSampleKernel.lean ====
/-
  The arrays that the sample group's projection leaves: every entry a column of a projected row, plain or turned by the
  angles of position 8192, where every sequence's new token stands.
-/
module

public import proofs.«01_k».proof.Proof.InprojSampleBlock
public import proofs.«01_k».proof.Proof.InprojHost
public import proofs.«01_k».proof.Proof.Gen.Kernel7Ideal.Frame

@[expose] public section

set_option maxRecDepth 16384

noncomputable section

namespace Cert.InprojSampleKernel

open Idealize.ShloMosaic Idealize.ShloMosaic.TcCoe Idealize.SL.Sem
open Idealize.ShloMosaic.Pipeline (Dat)
open Cert.Kernel7Ideal Cert.Kernel7Ideal.Gen Cert.Rows Cert.InprojRows

/-! ## The tables -/

/-- The angles, the same in every row. -/
def angles : FVec Ideal S32x32 .f32 :=
  mulf (broadcastInDim S32x32 ![0, 1] bcast_S32x1_S32x32_0_1
      (broadcastInDim S32x1 ![0] bcast_S32_S32x1_0 (sitofp .f32 (broadcastInDim S32 ![] bcast_S_S32 (constantI S_ 32 8192#32)))))
    (broadcastInDim S32x32 ![0, 1] bcast_S1x32_S32x32_0_1 (broadcastInDim S1x32 ![1] bcast_S32_S1x32_1
      (Host.powf (broadcastInDim S32 ![] bcast_S_S32 (constant S_ .f32 0x461C4000#32))
        (Host.divf (Host.negf (sitofp .f32 (iotaInDim S32 32 0)))
          (broadcastInDim S32 ![] bcast_S_S32 (constant S_ .f32 0x42000000#32))))))

/-- A table laid over the columns of two heads: `a` over the first half of each, `b` over the second. -/
def table (a b : FVec Ideal S32x32 .f32) : FVec Ideal S32x128 .f32 :=
  shapeCast S32x128 (broadcastInDim S1x32x2x64 ![0, 1, 2, 3] bcast_S1x32x1x64_S1x32x2x64_0_1_2_3
    (shapeCast S1x32x1x64 (concatenate S32x64 1 [⟨S32x32, a⟩, ⟨S32x32, b⟩] concatenates_S32x32_S32x32_S32x64_d1)
      shapeCasts_S32x64_S1x32x1x64)) shapeCasts_S1x32x2x64_S32x128

theorem angles_apply (r i : Fin 32) : angles (ix2 r i) = angle 8192 i := by
  pointwise [angles, angle]

theorem table_apply (a b : FVec Ideal S32x32 .f32) (r : Fin 32) (l : Fin 128) :
    table a b (ix2 r l) = if l.val % 64 < 32 then a (ix2 r (angleOf l)) else b (ix2 r (angleOf l)) := by
  unfold angleOf
  pointwise [table]
  by_cases hl : l.val % 64 < 32
  · rw [dif_pos hl, if_pos hl]
    exact congrArg (fun z => a (ix2 r z)) (Fin.ext (by simp; omega))
  · rw [dif_neg hl, if_neg hl]
    exact congrArg (fun z => b (ix2 r z)) (Fin.ext (by simp; omega))

variable (m : (ℓ : Loc nD τ sig) → Buf (Elt Ideal) ℓ) (c : Dev nD)

theorem wide_array : V m c main_v6 = InprojHost.wide (m ((c.tc : Thread nD τ).loc main_arg2)) := by
  unfold V
  simp only [hostOps0, hostOps0_1, hostOps0_2, List.flatten_cons, List.flatten_nil, List.append_nil, List.cons_append, List.nil_append]
  after_results_simp
  rfl

theorem filled_array : V m c main_v9 = InprojHost.filled (m ((c.tc : Thread nD τ).loc main_arg2)) := by
  unfold V
  simp only [hostOps0, hostOps0_1, hostOps0_2, List.flatten_cons, List.flatten_nil, List.append_nil, List.cons_append, List.nil_append]
  after_results_simp
  rfl

theorem cosine_table : V m c main_v28 = table (Host.cos angles) (Host.cos angles) := by
  unfold V
  simp only [hostOps0, hostOps0_1, hostOps0_2, List.flatten_cons, List.flatten_nil, List.append_nil, List.cons_append, List.nil_append]
  after_results_simp
  rfl

theorem sine_table : V m c main_v33 = table (Host.negf (Host.sin angles)) (Host.sin angles) := by
  unfold V
  simp only [hostOps0, hostOps0_1, hostOps0_2, List.flatten_cons, List.flatten_nil, List.append_nil, List.cons_append, List.nil_append]
  after_results_simp
  rfl

theorem norm_array (k : Fin 1024) :
    V m c main_v34 (ix2 0 k) = m ((c.tc : Thread nD τ).loc main_arg1) (ix1 k) := by
  have h : V m c main_v34 = shapeCast S1x1024 (m ((c.tc : Thread nD τ).loc main_arg1)) shapeCasts_S1024_S1x1024 := by
    unfold V
    simp only [hostOps0, hostOps0_1, hostOps0_2, List.flatten_cons, List.flatten_nil, List.append_nil, List.cons_append, List.nil_append]
    after_results_simp
    rfl
  rw [h]
  generalize m ((c.tc : Thread nD τ).loc main_arg1) = x
  show shapeCast S1x1024 x shapeCasts_S1024_S1x1024 (ix2 0 k) = x (ix1 k)
  pointwise

/-! ## The blocks read -/

/-- A projected row of the argument arrays. -/
def row (r : Fin 32) (j : Fin 2848) : EReal :=
  vecMat (rmsRow (fun k => m ((c.tc : Thread nD τ).loc main_arg0) (ix2 r k))
    (fun k => m ((c.tc : Thread nD τ).loc main_arg1) (ix1 k))) (fun k l => m ((c.tc : Thread nD τ).loc main_arg2) (ix2 k l)) j

/-- Where the windows' blocks lie: the one point reads and writes everything. -/
theorem idx : ∀ t : Fin grid0.N, (win0_0.index t 0 = 0 ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) := by
  decide +kernel

theorem x_block (t : Fin grid0.N) (r : Fin 32) (k : Fin 1024) :
    iblk m c 0 t (ix2 r k) = m ((c.tc : Thread nD τ).loc main_arg0) (ix2 r k) := by
  blk_ext [iblk, V, idx t]

theorem norm_block (t : Fin grid0.N) (k : Fin 1024) :
    iblk m c 1 t (ix2 0 k) = m ((c.tc : Thread nD τ).loc main_arg1) (ix1 k) := by
  have h : iblk m c 1 t (ix2 0 k) = V m c main_v34 (ix2 0 k) := by
    blk_ext [iblk, idx t]
  rw [h, norm_array]

theorem wide_block (t : Fin grid0.N) (k : Fin 1024) (l : Fin 2816) :
    iblk m c 2 t (ix2 k l) = m ((c.tc : Thread nD τ).loc main_arg2) (ix2 k (source l)) := by
  have h : iblk m c 2 t (ix2 k l) = V m c main_v6 (ix2 k l) := by
    blk_ext [iblk, idx t]
  rw [h, wide_array]
  exact InprojHost.wide_apply _ k l

theorem filled_block (t : Fin grid0.N) (k : Fin 1024) (l : Fin 128) :
    iblk m c 3 t (ix2 k l) = small (fun j => m ((c.tc : Thread nD τ).loc main_arg2) (ix2 k j)) l := by
  have h : iblk m c 3 t (ix2 k l) = V m c main_v9 (ix2 k l) := by
    blk_ext [iblk, idx t]
  rw [h, filled_array]
  exact InprojHost.filled_apply _ k l

theorem cos_block (t : Fin grid0.N) (r : Fin 32) (l : Fin 128) : iblk m c 4 t (ix2 r l) = cosAt 8192 (angleOf l) := by
  have h : iblk m c 4 t (ix2 r l) = V m c main_v28 (ix2 r l) := by
    blk_ext [iblk, idx t]
  rw [h, cosine_table, table_apply, ite_self]
  exact congrArg Ideal.cos (angles_apply _ _)

theorem sin_block (t : Fin grid0.N) (r : Fin 32) (l : Fin 128) :
    iblk m c 5 t (ix2 r l) = if l.val % 64 < 32 then -sinAt 8192 (angleOf l) else sinAt 8192 (angleOf l) := by
  have h : iblk m c 5 t (ix2 r l) = V m c main_v33 (ix2 r l) := by
    blk_ext [iblk, idx t]
  rw [h, sine_table, table_apply]
  have e := congrArg Ideal.sin (angles_apply r (angleOf l))
  exact if_congr Iff.rfl (congrArg (fun z : EReal => -z) e) e

/-! ## The columns -/

theorem column_eq (t : Fin grid0.N) (r : Fin 32) (j : Fin 2816) :
    InprojSampleBlock.column (iblk m c 0 t) (iblk m c 1 t) (iblk m c 2 t) r j = row m c r (source j) := by
  unfold InprojSampleBlock.column row
  simp only [x_block, norm_block, wide_block]
  rfl

theorem turned_eq (t : Fin grid0.N) (r : Fin 32) (j : Fin 2816) (hj : j.val < 1280) :
    InprojSampleBlock.turnedColumn (iblk m c 0 t) (iblk m c 1 t) (iblk m c 2 t) (iblk m c 4 t) (iblk m c 5 t) r j
      = turn 8192 (row m c r) ⟨j.val, by omega⟩ := by
  unfold InprojSampleBlock.turnedColumn
  rw [column_eq, column_eq, cos_block, sin_block]
  exact turn_by_tables _ _ j hj

theorem small_eq (t : Fin grid0.N) (r : Fin 32) (f : Fin 128) :
    vecMat (rmsRow (fun k => iblk m c 0 t (ix2 r k)) (fun k => iblk m c 1 t (ix2 0 k))) (fun k l => iblk m c 3 t (ix2 k l)) f
      = small (row m c r) f := by
  simp only [x_block, norm_block, filled_block]
  exact small_product _ _ f

/-- The halves of a kept block are the halves of what is kept. -/
theorem kept_eq (t : Fin grid0.N) (r : Fin 32) (off : ℕ) (h : off + 256 ≤ 1280) (f : Fin 256) :
    (if f.val < 128 then InprojSampleBlock.turnedColumn (iblk m c 0 t) (iblk m c 1 t) (iblk m c 2 t) (iblk m c 4 t) (iblk m c 5 t) r
        ⟨off + f.val, by omega⟩
      else InprojSampleBlock.column (iblk m c 0 t) (iblk m c 1 t) (iblk m c 2 t) r ⟨off + f.val, by omega⟩)
      = keyValue 8192 (row m c r) off (by omega) f := by
  unfold keyValue
  rw [turned_eq _ _ _ _ _ (by show off + f.val < 1280; omega), column_eq, source_lo _ (by show off + f.val < 1280; omega)]

/-! ## The arrays -/

/-- The entries of the results, by row and feature. -/
def queriesAt (r : Fin 32) (f : Fin 512) : EReal := row m c r ⟨f.val, by omega⟩

def turnedAt (r : Fin 32) (f : Fin 512) : EReal := turn 8192 (row m c r) ⟨f.val, by omega⟩

def plainAt (r : Fin 32) (f : Fin 256) : EReal := row m c r ⟨512 + f.val, by omega⟩

def keysAt (r : Fin 32) (f : Fin 256) : EReal := keyValue 8192 (row m c r) 768 (by norm_num) f

def valuesAt (r : Fin 32) (f : Fin 256) : EReal := keyValue 8192 (row m c r) 1024 (by norm_num) f

def recurrentAt (r : Fin 32) (f : Fin 1536) : EReal := row m c r ⟨1304 + f.val, by omega⟩

def smallAt (r : Fin 32) (f : Fin 128) : EReal := small (row m c r) f

theorem queries_array : (dats m 0 c).arrAt 6 cfg0.N = fun i : S32x512.Idx => queriesAt m c (i 0) (i 1) := by
  refine (dats m 0 c).arrAt_eq_of_covers 6 _ (by decide +kernel) fun t hf y => ?_
  blk_simp
  rw [after0_6]
  obtain ⟨r, f, rfl⟩ := InprojSampleBlock.rows_axis y
  rw [InprojSampleBlock.queries, column_eq, source_lo _ (by show f.val < 1280; omega)]
  have e : (win0_6.blk t).view.emb (ix2 r f) = ix2 r f := by
    funext a
    exact Fin.ext (by fin_cases a <;> blk_simp [idx t])
  rw [e]
  rfl

theorem turnedQueries_array : (dats m 0 c).arrAt 7 cfg0.N = fun i : S32x512.Idx => turnedAt m c (i 0) (i 1) := by
  refine (dats m 0 c).arrAt_eq_of_covers 7 _ (by decide +kernel) fun t hf y => ?_
  blk_simp
  rw [after0_7]
  obtain ⟨r, f, rfl⟩ := InprojSampleBlock.rows_axis y
  rw [InprojSampleBlock.turnedQueries, turned_eq _ _ _ _ _ (by show f.val < 1280; omega)]
  have e : (win0_7.blk t).view.emb (ix2 r f) = ix2 r f := by
    funext a
    exact Fin.ext (by fin_cases a <;> blk_simp [idx t])
  rw [e]
  rfl

theorem keysPlain_array : (dats m 0 c).arrAt 8 cfg0.N = fun i : S32x256.Idx => plainAt m c (i 0) (i 1) := by
  refine (dats m 0 c).arrAt_eq_of_covers 8 _ (by decide +kernel) fun t hf y => ?_
  blk_simp
  rw [after0_8]
  obtain ⟨r, f, rfl⟩ := InprojSampleBlock.rows_axis y
  rw [InprojSampleBlock.keysPlain, column_eq, source_lo _ (by show 512 + f.val < 1280; omega)]
  have e : (win0_8.blk t).view.emb (ix2 r f) = ix2 r f := by
    funext a
    exact Fin.ext (by fin_cases a <;> blk_simp [idx t])
  rw [e]
  rfl

theorem keysKept_array : (dats m 0 c).arrAt 9 cfg0.N = fun i : S32x256.Idx => keysAt m c (i 0) (i 1) := by
  refine (dats m 0 c).arrAt_eq_of_covers 9 _ (by decide +kernel) fun t hf y => ?_
  blk_simp
  rw [after0_9]
  obtain ⟨r, f, rfl⟩ := InprojSampleBlock.rows_axis y
  rw [InprojSampleBlock.keysKept, kept_eq m c t r 768 (by norm_num)]
  have e : (win0_9.blk t).view.emb (ix2 r f) = ix2 r f := by
    funext a
    exact Fin.ext (by fin_cases a <;> blk_simp [idx t])
  rw [e]
  rfl

theorem valuesKept_array : (dats m 0 c).arrAt 10 cfg0.N = fun i : S32x256.Idx => valuesAt m c (i 0) (i 1) := by
  refine (dats m 0 c).arrAt_eq_of_covers 10 _ (by decide +kernel) fun t hf y => ?_
  blk_simp
  rw [after0_10]
  obtain ⟨r, f, rfl⟩ := InprojSampleBlock.rows_axis y
  rw [InprojSampleBlock.valuesKept, kept_eq m c t r 1024 (by norm_num)]
  have e : (win0_10.blk t).view.emb (ix2 r f) = ix2 r f := by
    funext a
    exact Fin.ext (by fin_cases a <;> blk_simp [idx t])
  rw [e]
  rfl

theorem recurrent_array : (dats m 0 c).arrAt 11 cfg0.N = fun i : S32x1536.Idx => recurrentAt m c (i 0) (i 1) := by
  refine (dats m 0 c).arrAt_eq_of_covers 11 _ (by decide +kernel) fun t hf y => ?_
  blk_simp
  rw [after0_11]
  obtain ⟨r, f, rfl⟩ := InprojSampleBlock.rows_axis y
  have es : source (⟨1280 + f.val, by omega⟩ : Fin 2816) = ⟨1304 + f.val, by omega⟩ :=
    (source_hi _ (by show 1280 ≤ 1280 + f.val; omega)).trans (Fin.ext (by show 1280 + f.val + 24 = 1304 + f.val; omega))
  rw [InprojSampleBlock.recurrent, column_eq, es]
  have e : (win0_11.blk t).view.emb (ix2 r f) = ix2 r f := by
    funext a
    exact Fin.ext (by fin_cases a <;> blk_simp [idx t])
  rw [e]
  rfl

theorem smallKept_array : (dats m 0 c).arrAt 12 cfg0.N = fun i : S32x128.Idx => smallAt m c (i 0) (i 1) := by
  refine (dats m 0 c).arrAt_eq_of_covers 12 _ (by decide +kernel) fun t hf y => ?_
  blk_simp
  rw [after0_12]
  obtain ⟨r, f, rfl⟩ := InprojSampleBlock.rows_axis y
  rw [InprojSampleBlock.smallKept, small_eq]
  have e : (win0_12.blk t).view.emb (ix2 r f) = ix2 r f := by
    funext a
    exact Fin.ext (by fin_cases a <;> blk_simp [idx t])
  rw [e]
  rfl

end Cert.InprojSampleKernel

end
-- ==== Proof.InprojSampleReference.lean ====
/-
  The reference's results for the sample group's projection, read entry by entry as columns of the projected rows.
-/
module

public import proofs.«01_k».proof.Proof.InprojRows
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.InprojSampleReference

open Idealize.ShloMosaic Idealize.ShloMosaic.TcCoe
open Cert.Reference7Ideal Cert.Reference7Ideal.Gen Cert.Reference7Ideal.Value Cert.Rows Cert.InprojRows

/-- The projected rows. -/
def projected (x : FVec Ideal S32x1024 .f32) (nw : FVec Ideal S1024 .f32) (w : FVec Ideal S1024x2848 .f32) :
    FVec Ideal S32x1x2848 .f32 :=
  Host.dotGeneral dot_S32x1x1024_S1024x2848_S32x1x2848_2_0_01_1_n_n none (mulf (mulf (shapeCast _ x shapeCasts_S32x1024_S32x1x1024) (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf (shapeCast _ x shapeCasts_S32x1024_S32x1x1024) (shapeCast _ x shapeCasts_S32x1024_S32x1x1024)) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 nw))) w

/-- The angles of the one position. -/
def angles : FVec Ideal S1x32 .f32 :=
  mulf (broadcastInDim S1x32 ![0, 1] bcast_S1x1_S1x32_0_1 (broadcastInDim S1x1 ![0] bcast_S1_S1x1_0 (sitofp .f32 (addi (broadcastInDim S1 ![] bcast_S_S1 (constantI S_ 32 8192#32)) (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))

def cosines : FVec Ideal S1x32 .f32 := Host.cos angles

def sines : FVec Ideal S1x32 .f32 := Host.sin angles

/-- The queries' eight heads turned. -/
def rot8 (q : FVec Ideal S32x1x512 .f32) : FVec Ideal S32x1x512 .f32 :=
  shapeCast _ (concatenate S32x1x8x64 3 [⟨S32x1x8x32, (subf (mulf (extractStridedSlice S32x1x8x32 ![0, 0, 0, 0] (shapeCast _ q shapeCasts_S32x1x512_S32x1x8x64) slices_S32x1x8x64_S32x1x8x32_0_0_0_0) (broadcastInDim S32x1x8x32 ![0, 1, 2, 3] bcast_S1x1x1x32_S32x1x8x32_0_1_2_3 (shapeCast _ cosines shapeCasts_S1x32_S1x1x1x32))) (mulf (extractStridedSlice S32x1x8x32 ![0, 0, 0, 32] (shapeCast _ q shapeCasts_S32x1x512_S32x1x8x64) slices_S32x1x8x64_S32x1x8x32_0_0_0_32) (broadcastInDim S32x1x8x32 ![0, 1, 2, 3] bcast_S1x1x1x32_S32x1x8x32_0_1_2_3 (shapeCast _ sines shapeCasts_S1x32_S1x1x1x32))))⟩, ⟨S32x1x8x32, (addf (mulf (extractStridedSlice S32x1x8x32 ![0, 0, 0, 32] (shapeCast _ q shapeCasts_S32x1x512_S32x1x8x64) slices_S32x1x8x64_S32x1x8x32_0_0_0_32) (broadcastInDim S32x1x8x32 ![0, 1, 2, 3] bcast_S1x1x1x32_S32x1x8x32_0_1_2_3 (shapeCast _ cosines shapeCasts_S1x32_S1x1x1x32))) (mulf (extractStridedSlice S32x1x8x32 ![0, 0, 0, 0] (shapeCast _ q shapeCasts_S32x1x512_S32x1x8x64) slices_S32x1x8x64_S32x1x8x32_0_0_0_0) (broadcastInDim S32x1x8x32 ![0, 1, 2, 3] bcast_S1x1x1x32_S32x1x8x32_0_1_2_3 (shapeCast _ sines shapeCasts_S1x32_S1x1x1x32))))⟩] concatenates_S32x1x8x32_S32x1x8x32_S32x1x8x64_d3) shapeCasts_S32x1x8x64_S32x1x512

/-- The keys' two heads turned. -/
def rot2 (k : FVec Ideal S32x1x128 .f32) : FVec Ideal S32x1x128 .f32 :=
  shapeCast _ (concatenate S32x1x2x64 3 [⟨S32x1x2x32, (subf (mulf (extractStridedSlice S32x1x2x32 ![0, 0, 0, 0] (shapeCast _ k shapeCasts_S32x1x128_S32x1x2x64) slices_S32x1x2x64_S32x1x2x32_0_0_0_0) (broadcastInDim S32x1x2x32 ![0, 1, 2, 3] bcast_S1x1x1x32_S32x1x2x32_0_1_2_3 (shapeCast _ cosines shapeCasts_S1x32_S1x1x1x32))) (mulf (extractStridedSlice S32x1x2x32 ![0, 0, 0, 32] (shapeCast _ k shapeCasts_S32x1x128_S32x1x2x64) slices_S32x1x2x64_S32x1x2x32_0_0_0_32) (broadcastInDim S32x1x2x32 ![0, 1, 2, 3] bcast_S1x1x1x32_S32x1x2x32_0_1_2_3 (shapeCast _ sines shapeCasts_S1x32_S1x1x1x32))))⟩, ⟨S32x1x2x32, (addf (mulf (extractStridedSlice S32x1x2x32 ![0, 0, 0, 32] (shapeCast _ k shapeCasts_S32x1x128_S32x1x2x64) slices_S32x1x2x64_S32x1x2x32_0_0_0_32) (broadcastInDim S32x1x2x32 ![0, 1, 2, 3] bcast_S1x1x1x32_S32x1x2x32_0_1_2_3 (shapeCast _ cosines shapeCasts_S1x32_S1x1x1x32))) (mulf (extractStridedSlice S32x1x2x32 ![0, 0, 0, 0] (shapeCast _ k shapeCasts_S32x1x128_S32x1x2x64) slices_S32x1x2x64_S32x1x2x32_0_0_0_0) (broadcastInDim S32x1x2x32 ![0, 1, 2, 3] bcast_S1x1x1x32_S32x1x2x32_0_1_2_3 (shapeCast _ sines shapeCasts_S1x32_S1x1x1x32))))⟩] concatenates_S32x1x2x32_S32x1x2x32_S32x1x2x64_d3) shapeCasts_S32x1x2x64_S32x1x128

/-! The results, each from the projected rows. -/

def queries (p : FVec Ideal S32x1x2848 .f32) : FVec Ideal S32x512 .f32 :=
  shapeCast _ (extractStridedSlice S32x1x512 ![0, 0, 0] p slices_S32x1x2848_S32x1x512_0_0_0) shapeCasts_S32x1x512_S32x512

def queriesTurned (p : FVec Ideal S32x1x2848 .f32) : FVec Ideal S32x512 .f32 :=
  shapeCast _ (rot8 (extractStridedSlice S32x1x512 ![0, 0, 0] p slices_S32x1x2848_S32x1x512_0_0_0)) shapeCasts_S32x1x512_S32x512

def keysPlain (p : FVec Ideal S32x1x2848 .f32) : FVec Ideal S32x256 .f32 :=
  shapeCast _ (extractStridedSlice S32x1x256 ![0, 0, 512] p slices_S32x1x2848_S32x1x256_0_0_512) shapeCasts_S32x1x256_S32x256

/-- A branch's columns from `off` on, the keys turned. -/
def kept (off : ℕ) (hs : S32x1x2848.Slices ![0, 0, off] S32x1x256) (p : FVec Ideal S32x1x2848 .f32) : FVec Ideal S32x256 .f32 :=
  shapeCast _ (concatenate S32x1x256 2 [⟨S32x1x128, (rot2 (extractStridedSlice S32x1x128 ![0, 0, 0] (extractStridedSlice S32x1x256 ![0, 0, off] p hs) slices_S32x1x256_S32x1x128_0_0_0))⟩, ⟨S32x1x128, (extractStridedSlice S32x1x128 ![0, 0, 128] (extractStridedSlice S32x1x256 ![0, 0, off] p hs) slices_S32x1x256_S32x1x128_0_0_128)⟩] concatenates_S32x1x128_S32x1x128_S32x1x256_d2) shapeCasts_S32x1x256_S32x256

def recurrent (p : FVec Ideal S32x1x2848 .f32) : FVec Ideal S32x1536 .f32 :=
  shapeCast _ (extractStridedSlice S32x1x1536 ![0, 0, 1304] p slices_S32x1x2848_S32x1x1536_0_0_1304) shapeCasts_S32x1x1536_S32x1536

def fewKept (p : FVec Ideal S32x1x2848 .f32) : FVec Ideal S32x128 .f32 :=
  shapeCast _ ((concatenate S32x1x128 2 [⟨S32x1x24, ((extractStridedSlice S32x1x24 ![0, 0, 1280] p slices_S32x1x2848_S32x1x24_0_0_1280) : (⟨S32x1x24, .f32⟩ : BufTy).Contents (Elt Ideal))⟩, ⟨S32x1x8, ((extractStridedSlice S32x1x8 ![0, 0, 2840] p slices_S32x1x2848_S32x1x8_0_0_2840) : (⟨S32x1x8, .f32⟩ : BufTy).Contents (Elt Ideal))⟩, ⟨S32x1x96, ((broadcastInDim S32x1x96 ![] bcast_S_S32x1x96 (constant (F := Ideal) S_ .f32 0x00000000#32)) : (⟨S32x1x96, .f32⟩ : BufTy).Contents (Elt Ideal))⟩] concatenates_S32x1x24_S32x1x8_S32x1x96_S32x1x128_d2 : (⟨S32x1x128, .f32⟩ : BufTy).Contents (Elt Ideal))) shapeCasts_S32x1x128_S32x128

/-- A projected row: the normed row times the weights. -/
def proj (x : FVec Ideal S32x1024 .f32) (nw : FVec Ideal S1024 .f32) (w : FVec Ideal S1024x2848 .f32)
    (r : Fin 32) (j : Fin 2848) : EReal :=
  vecMat (rmsRow (fun k => x (ix2 r k)) (fun k => nw (ix1 k))) (fun k l => w (ix2 k l)) j

theorem projected_apply (x : FVec Ideal S32x1024 .f32) (nw : FVec Ideal S1024 .f32) (w : FVec Ideal S1024x2848 .f32)
    (r : Fin 32) (j : Fin 2848) : projected x nw w (ix3 r 0 j) = proj x nw w r j := by
  pointwise [projected, proj, vecMat, rmsRow, meanSq]

theorem angles_apply (t : Fin 1) (i : Fin 32) : angles (ix2 t i) = angle 8192 i := by
  obtain rfl : t = 0 := Subsingleton.elim _ _
  pointwise [angles, angle]
  rfl

theorem cosines_apply (t : Fin 1) (i : Fin 32) : cosines (ix2 t i) = cosAt 8192 i := by
  have h := angles_apply t i
  unfold cosines
  generalize angles = a at h ⊢
  pointwise [cosAt]
  rw [h]

theorem sines_apply (t : Fin 1) (i : Fin 32) : sines (ix2 t i) = sinAt 8192 i := by
  have h := angles_apply t i
  unfold sines
  generalize angles = a at h ⊢
  pointwise [sinAt]
  rw [h]

theorem rot8_apply (q : FVec Ideal S32x1x512 .f32) (r : Fin 32) (f : Fin 512) :
    rot8 q (ix3 r 0 f) = turnGroup 8192 (fun f => q (ix3 r 0 f)) f := by
  have hc := cosines_apply
  have hs := sines_apply
  unfold rot8
  generalize cosines = c at hc ⊢
  generalize sines = s at hs ⊢
  pointwise
  simp only [hc, hs]
  by_cases h : f.val % 64 < 32
  · rw [dif_pos h]
    exact lower 8192 (fun f => q (ix3 r 0 f)) f h (by norm_num) _ (by show f.val % 64 = _; omega) _
      (by show f.val / 64 * 64 + (32 + f.val % 64) = _; omega)
  · rw [dif_neg h]
    exact upper 8192 (fun f => q (ix3 r 0 f)) f h _ (by show f.val % 64 - 32 = _; omega) _
      (by show f.val / 64 * 64 + (32 + (f.val % 64 - 32)) = _; omega) _
      (by show f.val / 64 * 64 + (f.val % 64 - 32) = _; omega)

theorem rot2_apply (q : FVec Ideal S32x1x128 .f32) (r : Fin 32) (f : Fin 128) :
    rot2 q (ix3 r 0 f) = turnGroup 8192 (fun f => q (ix3 r 0 f)) f := by
  have hc := cosines_apply
  have hs := sines_apply
  unfold rot2
  generalize cosines = c at hc ⊢
  generalize sines = s at hs ⊢
  pointwise
  simp only [hc, hs]
  by_cases h : f.val % 64 < 32
  · rw [dif_pos h]
    exact lower 8192 (fun f => q (ix3 r 0 f)) f h (by norm_num) _ (by show f.val % 64 = _; omega) _
      (by show f.val / 64 * 64 + (32 + f.val % 64) = _; omega)
  · rw [dif_neg h]
    exact upper 8192 (fun f => q (ix3 r 0 f)) f h _ (by show f.val % 64 - 32 = _; omega) _
      (by show f.val / 64 * 64 + (32 + (f.val % 64 - 32)) = _; omega) _
      (by show f.val / 64 * 64 + (f.val % 64 - 32) = _; omega)

/-! The results' entries. -/

section Results

variable (p : FVec Ideal S32x1x2848 .f32) (r : Fin 32)

theorem queries_apply (f : Fin 512) : queries p (ix2 r f) = p (ix3 r 0 ⟨f.val, by omega⟩) := by
  pointwise [queries]

theorem turned_part {n : ℕ} (off : ℕ) (h64 : off % 64 = 0) (hn : n % 64 = 0) (h : off + n ≤ 2848) (v : Fin n → EReal)
    (hv : ∀ l : Fin n, v l = p (ix3 r 0 ⟨off + l.val, by omega⟩)) (f : Fin n) :
    turnGroup 8192 v f = turn 8192 (fun j => p (ix3 r 0 j)) ⟨off + f.val, by omega⟩ := by
  rw [funext hv]
  exact turnGroup_add off h64 hn h 8192 (fun j => p (ix3 r 0 j)) f

theorem queriesTurned_apply (f : Fin 512) :
    queriesTurned p (ix2 r f) = turn 8192 (fun j => p (ix3 r 0 j)) ⟨f.val, by omega⟩ := by
  refine Eq.trans ?_ ((turned_part p r 0 (by norm_num) (by norm_num) (by norm_num)
    (fun f : Fin 512 => extractStridedSlice S32x1x512 ![0, 0, 0] p slices_S32x1x2848_S32x1x512_0_0_0 (ix3 r 0 f))
    (fun l => by pointwise) f).trans (congrArg _ (Fin.ext (Nat.zero_add _))))
  rw [← rot8_apply]
  unfold queriesTurned
  generalize rot8 _ = q
  pointwise

theorem keysPlain_apply (f : Fin 256) : keysPlain p (ix2 r f) = p (ix3 r 0 ⟨512 + f.val, by omega⟩) := by
  pointwise [keysPlain]

theorem recurrent_apply (f : Fin 1536) : recurrent p (ix2 r f) = p (ix3 r 0 ⟨1304 + f.val, by omega⟩) := by
  pointwise [recurrent]

theorem fewKept_apply (f : Fin 128) : fewKept p (ix2 r f) = small (fun j => p (ix3 r 0 j)) f := by
  unfold small
  pointwise [fewKept]
  by_cases h24 : f.val < 24
  · rw [dif_pos h24, if_pos h24]
  · rw [dif_neg h24, if_neg h24]
    by_cases h32 : f.val < 32
    · rw [dif_pos (by omega), dif_pos h32]
      exact congrArg (fun z => p (ix3 r 0 z)) (Fin.ext (by simp; omega))
    · rw [dif_neg (by omega), dif_neg h32]

theorem kept_apply (off : ℕ) (h64 : off % 64 = 0) (ho : off + 256 ≤ 2848) (hs : S32x1x2848.Slices ![0, 0, off] S32x1x256)
    (f : Fin 256) : kept off hs p (ix2 r f) = keyValue 8192 (fun j => p (ix3 r 0 j)) off ho f := by
  have hc : ∀ l : Fin 256, extractStridedSlice S32x1x256 ![0, 0, off] p hs (ix3 r 0 l) = p (ix3 r 0 ⟨off + l.val, by omega⟩) :=
    fun l => congrArg p (funext fun a => Fin.ext (by fin_cases a <;> simp [ix3]))
  unfold kept keyValue
  generalize extractStridedSlice S32x1x256 ![0, 0, off] p hs = k at hc ⊢
  have h := fun l : Fin 128 => (rot2_apply (extractStridedSlice S32x1x128 ![0, 0, 0] k slices_S32x1x256_S32x1x128_0_0_0) r l).trans
    (turned_part p r off h64 (by norm_num) (by omega) _
      (fun l : Fin 128 => (show _ = k (ix3 r 0 ⟨l.val, by omega⟩) by pointwise).trans (hc _)) l)
  generalize rot2 _ = q at h ⊢
  pointwise
  by_cases hf : f.val < 128
  · rw [dif_pos hf, if_pos hf, h]
  · rw [dif_neg hf, if_neg hf, hc]
    exact congrArg (fun z => p (ix3 r 0 z)) (Fin.ext (by simp; omega))

end Results

end Cert.InprojSampleReference

end
-- ==== Proof.InprojSampleValue.lean ====
/-
  The value claim of layer 0's projection of the sample group: the kernel's seven arrays are the reference's seven
  results, entry by entry.
-/
module

public import proofs.«01_k».proof.Defs
public import proofs.«01_k».proof.Proof.InprojSampleKernel
public import proofs.«01_k».proof.Proof.InprojSampleReference
public import proofs.«01_k».proof.Proof.Gen.Reference7Ideal

@[expose] public section

set_option maxRecDepth 16384

noncomputable section

namespace Cert.InprojSampleValue

open Idealize.ShloMosaic Idealize.ShloMosaic.TcCoe Idealize.SL.Sem
open Cert.Rows Cert.InprojRows

section Reference
open Cert.Reference7Ideal Cert.Reference7Ideal.Gen Cert.Reference7Ideal.Value Cert.InprojSampleReference

/-- The seven results of projected rows `p`, where row by row these are `v`. -/
structure Agree (p : FVec Ideal S32x1x2848 .f32) (v : Fin 32 → Fin 2848 → EReal) : Prop where
  queries : queries p = fun i => v (i 0) ⟨(i 1 : Fin 512).val, by omega⟩
  turned : queriesTurned p = fun i => turn 8192 (v (i 0)) ⟨(i 1 : Fin 512).val, by omega⟩
  plain : keysPlain p = fun i => v (i 0) ⟨512 + (i 1 : Fin 256).val, by omega⟩
  keys : kept 768 slices_S32x1x2848_S32x1x256_0_0_768 p = fun i => keyValue 8192 (v (i 0)) 768 (by norm_num) (i 1)
  values : kept 1024 slices_S32x1x2848_S32x1x256_0_0_1024 p = fun i => keyValue 8192 (v (i 0)) 1024 (by norm_num) (i 1)
  rest : recurrent p = fun i => v (i 0) ⟨1304 + (i 1 : Fin 1536).val, by omega⟩
  few : fewKept p = fun i => small (v (i 0)) (i 1)

/-- An array by its rows and columns. -/
theorem by_entry {n d : ℕ} {a b : FVec Ideal ⟨2, ![n, d]⟩ .f32} (h : ∀ r f, a (ix2 r f) = b (ix2 r f)) : a = b :=
  funext fun i => by rw [eq_ix2 i]; exact h _ _

theorem agree (p : FVec Ideal S32x1x2848 .f32) (v : Fin 32 → Fin 2848 → EReal)
    (hq : ∀ r j, p (ix3 r 0 j) = v r j) : Agree p v := by
  have hp : ∀ r, (fun j => p (ix3 r 0 j)) = v r := fun r => funext fun j => hq r j
  exact {
    queries := by_entry fun r f => (queries_apply p r f).trans (hq r _)
    turned := by_entry fun r f => (queriesTurned_apply p r f).trans (congrArg (fun v => turn 8192 v _) (hp r))
    plain := by_entry fun r f => (keysPlain_apply p r f).trans (hq r _)
    keys := by_entry fun r f => (kept_apply p r 768 (by norm_num) (by norm_num) _ f).trans
      (congrArg (fun v => keyValue 8192 v 768 _ f) (hp r))
    values := by_entry fun r f => (kept_apply p r 1024 (by norm_num) (by norm_num) _ f).trans
      (congrArg (fun v => keyValue 8192 v 1024 _ f) (hp r))
    rest := by_entry fun r f => (recurrent_apply p r f).trans (hq r _)
    few := by_entry fun r f => (fewKept_apply p r f).trans (congrArg (fun v => small v f) (hp r)) }

end Reference

open Cert.Kernel7Ideal in
/-- The sample group's projection computes the reference. -/
theorem algebraic : algebraic_Kernel7Ideal_Reference7Ideal := by
  intro m g m' g' _ hag
  refine ⟨fun c i => InprojSampleKernel.queriesAt m c (i 0) (i 1), fun c i => InprojSampleKernel.turnedAt m c (i 0) (i 1),
    fun c i => InprojSampleKernel.plainAt m c (i 0) (i 1), fun c i => InprojSampleKernel.keysAt m c (i 0) (i 1),
    fun c i => InprojSampleKernel.valuesAt m c (i 0) (i 1), fun c i => InprojSampleKernel.recurrentAt m c (i 0) (i 1),
    fun c i => InprojSampleKernel.smallAt m c (i 0) (i 1), ?_, ?_⟩
  · refine (θ_run _ _ _).mono (fun r h c => ?_) (Kernel7Ideal.Value.run_blocks m g)
    have := h c
    rw [InprojSampleKernel.queries_array, InprojSampleKernel.turnedQueries_array, InprojSampleKernel.keysPlain_array,
      InprojSampleKernel.keysKept_array, InprojSampleKernel.valuesKept_array, InprojSampleKernel.recurrent_array,
      InprojSampleKernel.smallKept_array] at this
    exact this
  · refine (θ_run _ _ _).mono (fun r h c => ?_) (Reference7Ideal.Value.run m' g')
    obtain ⟨h0, h1, h2, h3, h4, h5, h6, h7⟩ := h c
    obtain ⟨e0, e1, e2⟩ := hag c
    have a := agree _ _ (InprojSampleReference.projected_apply
      (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2)))
    have hv : InprojSampleReference.proj
        (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2))
        = InprojSampleKernel.row m c := by
      rw [e0, e1, e2]
      rfl
    rw [hv] at a
    exact ⟨h0.trans a.queries, h1.trans a.turned, h2.trans a.plain, h3.trans a.keys, h4.trans a.values, h5.trans a.rest,
      h6.trans a.few, h7⟩

/-- The reference's frame. -/
theorem frame_reference : Cert.quiescent_Reference7Ideal := fun m ρ _ =>
  (θ_run Cert.Reference7Ideal.defs _ _).mono (fun r h => ⟨fun c => (h c).2.2.2.2.2.2.2,
    Idealize.ShloMosaic.sem_eq_zero_of_no_sems (by decide) r.2⟩) (Cert.Reference7Ideal.Value.run (F := Ideal) m ρ)

end Cert.InprojSampleValue

end
-- ==== Proof.lean ====
/- The proof of the claim: for each of the programs the frames of the kernel, of its idealization and of the reference's
   idealization, then for each the two claims that relate them. The witnesses of the programs' stated facts come first. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.LruRefRun
public import proofs.«01_k».proof.Proof.LruValue
public import proofs.«01_k».proof.Proof.FfnValue
public import proofs.«01_k».proof.Proof.FfnMixValue
public import proofs.«01_k».proof.Proof.DecodeValue
public import proofs.«01_k».proof.Proof.FfnSampleValue
public import proofs.«01_k».proof.Proof.InprojValue
public import proofs.«01_k».proof.Proof.InprojSampleValue
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   fun m ρ _ => Cert.Kernel.Gen.frame m ρ,
   fun m ρ _ => Cert.KernelIdeal.Gen.frame m ρ,
   Cert.LruRefRun.frame,
   fun m ρ _ => Cert.Kernel2.Gen.frame m ρ,
   fun m ρ _ => Cert.Kernel2Ideal.Gen.frame m ρ,
   Cert.FfnValue.frame_reference,
   fun m ρ _ => Cert.Kernel3.Gen.frame m ρ,
   fun m ρ _ => Cert.Kernel3Ideal.Gen.frame m ρ,
   Cert.FfnMixValue.frame_reference,
   fun m ρ _ => Cert.Kernel4.Gen.frame m ρ,
   fun m ρ _ => Cert.Kernel4Ideal.Gen.frame m ρ,
   Cert.DecodeValue.frame_reference,
   fun m ρ _ => Cert.Kernel5.Gen.frame m ρ,
   fun m ρ _ => Cert.Kernel5Ideal.Gen.frame m ρ,
   Cert.FfnSampleValue.frame_reference,
   fun m ρ _ => Cert.Kernel6.Gen.frame m ρ,
   fun m ρ _ => Cert.Kernel6Ideal.Gen.frame m ρ,
   Cert.InprojValue.frame_reference,
   fun m ρ _ => Cert.Kernel7.Gen.frame m ρ,
   fun m ρ _ => Cert.Kernel7Ideal.Gen.frame m ρ,
   Cert.InprojSampleValue.frame_reference,
   trivial,
   Cert.LruValue.algebraic,
   trivial,
   Cert.FfnValue.algebraic,
   trivial,
   Cert.FfnMixValue.algebraic,
   trivial,
   Cert.DecodeValue.algebraic,
   trivial,
   Cert.FfnSampleValue.algebraic,
   trivial,
   Cert.InprojValue.algebraic,
   trivial,
   Cert.InprojSampleValue.algebraic⟩

end Cert.Proof

end
